-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1024x1024 .f32) (main_arg1 : FVec F S1024x8192 .f32) (main_arg2 : FVec F S1024x1024 .f32) (main_arg3 : FVec F S1024x1024 .f32) (main_arg4 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_scores_finite_ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1024x1024 .f32) (main_arg1 : FVec F S1024x8192 .f32) (main_arg2 : FVec F S1024x8192 .f32) (main_arg3 : FVec F S1024x8192 .f32) (main_arg4 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  main_v13
-- ==== Kernel.lean ====
abbrev S1024x1024 : Shape := ⟨2, ![1024, 1024]⟩
abbrev S1024x8192 : Shape := ⟨2, ![1024, 8192]⟩
abbrev S8192x1024 : Shape := ⟨2, ![8192, 1024]⟩
abbrev S128x1024 : Shape := ⟨2, ![128, 1024]⟩
abbrev S8x128x1024 : Shape := ⟨3, ![8, 128, 1024]⟩
abbrev S2 : Shape := ⟨1, ![2]⟩
abbrev S8 : Shape := ⟨1, ![8]⟩
abbrev S1 : Shape := ⟨1, ![1]⟩
abbrev S_ : Shape := ⟨0, ![]⟩
abbrev S256x1024 : Shape := ⟨2, ![256, 1024]⟩
abbrev S256x512 : Shape := ⟨2, ![256, 512]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S1x128x1024 : Shape := ⟨3, ![1, 128, 1024]⟩

abbrev nBuf : Space → Nat
  | .hbm => 6
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S128x1024, .bf16⟩
  | .local _ .vmem, ⟨14, _⟩ => ⟨S8x128x1024, .bf16⟩
  | .local _ .vmem, ⟨15, _⟩ => ⟨S8x128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  v3
def k0_off1 (d0 : Dev nD) : Fin 2 → Nat :=
  let c0_i32_0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  let v4 : BitVec 32 := v3
  ![0, v4.toNat]
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1 : BitVec 32 := 1024#32
  let v8 : BitVec 32 := Scalar.muli v2 c1024_i32_1
  v8
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1 : BitVec 32 := 1024#32
  let v8 : BitVec 32 := Scalar.muli v2 c1024_i32_1
  let v9 : BitVec 32 := v8
  let c0_i32_3 : BitVec 32 := 0#32
  ![v9.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v14 : BitVec 1 := Scalar.cmpi .ne v2 c0_i32_4
  let v15 : BitVec 32 := Scalar.extui v14
  let c0_i32_5 : BitVec 32 := 0#32
  let v16 : BitVec 1 := Scalar.cmpi .ne v15 c0_i32_5
  v16

def k0_dev1 : Nat :=
  let c0_i32_543 : BitVec 32 := 0#32
  let c0_i32_541 : BitVec 32 := 0#32
  let c1_i32_542 : BitVec 32 := 1#32
  let v1248 : BitVec 32 := Scalar.muli c0_i32_541 c1_i32_542
  let v1249 : BitVec 32 := Scalar.addi c0_i32_543 v1248
  v1249.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v17 : BitVec 1 := Scalar.cmpi .ne v2 c1_i32_6
  let v18 : BitVec 32 := Scalar.extui v17
  let c0_i32_7 : BitVec 32 := 0#32
  let v19 : BitVec 1 := Scalar.cmpi .ne v18 c0_i32_7
  v19

def k0_dev2 : Nat :=
  let c0_i32_543 : BitVec 32 := 0#32
  let c1_i32_541 : BitVec 32 := 1#32
  let c1_i32_542 : BitVec 32 := 1#32
  let v1248 : BitVec 32 := Scalar.muli c1_i32_541 c1_i32_542
  let v1249 : BitVec 32 := Scalar.addi c0_i32_543 v1248
  v1249.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v20 : BitVec 1 := Scalar.cmpi .ne v2 c2_i32
  let v21 : BitVec 32 := Scalar.extui v20
  let c0_i32_8 : BitVec 32 := 0#32
  let v22 : BitVec 1 := Scalar.cmpi .ne v21 c0_i32_8
  v22

def k0_dev3 : Nat :=
  let c0_i32_543 : BitVec 32 := 0#32
  let c2_i32_541 : BitVec 32 := 2#32
  let c1_i32_542 : BitVec 32 := 1#32
  let v1248 : BitVec 32 := Scalar.muli c2_i32_541 c1_i32_542
  let v1249 : BitVec 32 := Scalar.addi c0_i32_543 v1248
  v1249.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v23 : BitVec 1 := Scalar.cmpi .ne v2 c3_i32
  let v24 : BitVec 32 := Scalar.extui v23
  let c0_i32_9 : BitVec 32 := 0#32
  let v25 : BitVec 1 := Scalar.cmpi .ne v24 c0_i32_9
  v25

def k0_dev4 : Nat :=
  let c0_i32_543 : BitVec 32 := 0#32
  let c3_i32_541 : BitVec 32 := 3#32
  let c1_i32_542 : BitVec 32 := 1#32
  let v1248 : BitVec 32 := Scalar.muli c3_i32_541 c1_i32_542
  let v1249 : BitVec 32 := Scalar.addi c0_i32_543 v1248
  v1249.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v26 : BitVec 1 := Scalar.cmpi .ne v2 c4_i32
  let v27 : BitVec 32 := Scalar.extui v26
  let c0_i32_10 : BitVec 32 := 0#32
  let v28 : BitVec 1 := Scalar.cmpi .ne v27 c0_i32_10
  v28

def k0_dev5 : Nat :=
  let c0_i32_543 : BitVec 32 := 0#32
  let c4_i32_541 : BitVec 32 := 4#32
  let c1_i32_542 : BitVec 32 := 1#32
  let v1248 : BitVec 32 := Scalar.muli c4_i32_541 c1_i32_542
  let v1249 : BitVec 32 := Scalar.addi c0_i32_543 v1248
  v1249.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v29 : BitVec 1 := Scalar.cmpi .ne v2 c5_i32
  let v30 : BitVec 32 := Scalar.extui v29
  let c0_i32_11 : BitVec 32 := 0#32
  let v31 : BitVec 1 := Scalar.cmpi .ne v30 c0_i32_11
  v31

def k0_dev6 : Nat :=
  let c0_i32_543 : BitVec 32 := 0#32
  let c5_i32_541 : BitVec 32 := 5#32
  let c1_i32_542 : BitVec 32 := 1#32
  let v1248 : BitVec 32 := Scalar.muli c5_i32_541 c1_i32_542
  let v1249 : BitVec 32 := Scalar.addi c0_i32_543 v1248
  v1249.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v32 : BitVec 1 := Scalar.cmpi .ne v2 c6_i32
  let v33 : BitVec 32 := Scalar.extui v32
  let c0_i32_12 : BitVec 32 := 0#32
  let v34 : BitVec 1 := Scalar.cmpi .ne v33 c0_i32_12
  v34

def k0_dev7 : Nat :=
  let c0_i32_543 : BitVec 32 := 0#32
  let c6_i32_541 : BitVec 32 := 6#32
  let c1_i32_542 : BitVec 32 := 1#32
  let v1248 : BitVec 32 := Scalar.muli c6_i32_541 c1_i32_542
  let v1249 : BitVec 32 := Scalar.addi c0_i32_543 v1248
  v1249.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v35 : BitVec 1 := Scalar.cmpi .ne v2 c7_i32
  let v36 : BitVec 32 := Scalar.extui v35
  let c0_i32_13 : BitVec 32 := 0#32
  let v37 : BitVec 1 := Scalar.cmpi .ne v36 c0_i32_13
  v37

def k0_dev8 : Nat :=
  let c0_i32_543 : BitVec 32 := 0#32
  let c7_i32_541 : BitVec 32 := 7#32
  let c1_i32_542 : BitVec 32 := 1#32
  let v1248 : BitVec 32 := Scalar.muli c7_i32_541 c1_i32_542
  let v1249 : BitVec 32 := Scalar.addi c0_i32_543 v1248
  v1249.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  v76
def k0_off3 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v78 : Index := Scalar.indexCast v77
  let c0_42 : Index := 0#32
  ![v78.toNat, 0]
def k0_mult4 (d0 : Dev nD) : BitVec 32 :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  v84
def k0_off4 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v98 : Index := Scalar.indexCast v95
  let c0_47 : Index := 0#32
  ![v98.toNat, 0]
def k0_off5 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v117 : Index := Scalar.indexCast v77
  let c0_55 : Index := 0#32
  ![v117.toNat, 0]
def k0_off6 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v123 : Index := Scalar.indexCast v95
  let c128 : Index := 128#32
  ![v123.toNat, 128]
def k0_off7 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v142 : Index := Scalar.indexCast v77
  let c128_63 : Index := 128#32
  ![v142.toNat, 128]
def k0_off8 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v148 : Index := Scalar.indexCast v95
  let c256 : Index := 256#32
  ![v148.toNat, 256]
def k0_off9 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v167 : Index := Scalar.indexCast v77
  let c256_71 : Index := 256#32
  ![v167.toNat, 256]
def k0_off10 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v173 : Index := Scalar.indexCast v95
  let c384 : Index := 384#32
  ![v173.toNat, 384]
def k0_off11 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v192 : Index := Scalar.indexCast v77
  let c384_79 : Index := 384#32
  ![v192.toNat, 384]
def k0_off12 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v198 : Index := Scalar.indexCast v95
  let c512 : Index := 512#32
  ![v198.toNat, 512]
def k0_off13 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v217 : Index := Scalar.indexCast v77
  let c512_87 : Index := 512#32
  ![v217.toNat, 512]
def k0_off14 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v223 : Index := Scalar.indexCast v95
  let c640 : Index := 640#32
  ![v223.toNat, 640]
def k0_off15 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v242 : Index := Scalar.indexCast v77
  let c640_95 : Index := 640#32
  ![v242.toNat, 640]
def k0_off16 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v248 : Index := Scalar.indexCast v95
  let c768 : Index := 768#32
  ![v248.toNat, 768]
def k0_off17 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v267 : Index := Scalar.indexCast v77
  let c768_103 : Index := 768#32
  ![v267.toNat, 768]
def k0_off18 (d0 : Dev nD) (c0_i32_40 : BitVec 32) : Fin 2 → Nat :=
  let c512_i32 : BitVec 32 := 512#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let c128_i32 : BitVec 32 := 128#32
  let v82 : BitVec 32 := Scalar.subi v76 c128_i32
  let v83 : BitVec 32 := Scalar.maxsi c0_i32_45 v82
  let v84 : BitVec 32 := Scalar.minsi c512_i32 v83
  let v95 : BitVec 32 := v84
  let v273 : Index := Scalar.indexCast v95
  let c896 : Index := 896#32
  ![v273.toNat, 896]
def k0_off19 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let v74 : BitVec 32 := Scalar.addi v73 c0_i32_40
  let c4_i32_41 : BitVec 32 := 4#32
  let v75 : BitVec 32 := Scalar.remsi v74 c4_i32_41
  let c256_i32 : BitVec 32 := 256#32
  let v76 : BitVec 32 := Scalar.muli v75 c256_i32
  let v77 : BitVec 32 := v76
  let v292 : Index := Scalar.indexCast v77
  let c896_111 : Index := 896#32
  ![v292.toNat, 896]
def k0_cond9 (d0 : Dev nD) : BitVec 1 :=
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v305 : BitVec 32 := Scalar.muli c2_i32_117 v75
  let c0_i32_118 : BitVec 32 := 0#32
  let v306 : BitVec 32 := Scalar.addi v305 c0_i32_118
  let v307 : BitVec 1 := Scalar.cmpi .ne v306 v2
  let v308 : BitVec 32 := Scalar.extui v307
  let c0_i32_119 : BitVec 32 := 0#32
  let v309 : BitVec 1 := Scalar.cmpi .ne v308 c0_i32_119
  v309

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off22 (d0 : Dev nD) : Fin 2 → Nat :=
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v305 : BitVec 32 := Scalar.muli c2_i32_117 v75
  let c0_i32_118 : BitVec 32 := 0#32
  let v306 : BitVec 32 := Scalar.addi v305 c0_i32_118
  let c128_i32_540 : BitVec 32 := 128#32
  let v1248 : BitVec 32 := Scalar.muli v306 c128_i32_540
  let c0_i32_546 : BitVec 32 := 0#32
  ![v1248.toNat, 0]
def k0_dev9 (d0 : Dev nD) : Nat :=
  let c0_i32_543 : BitVec 32 := 0#32
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v305 : BitVec 32 := Scalar.muli c2_i32_117 v75
  let c0_i32_118 : BitVec 32 := 0#32
  let v306 : BitVec 32 := Scalar.addi v305 c0_i32_118
  let c1_i32_542 : BitVec 32 := 1#32
  let v1249 : BitVec 32 := Scalar.muli v306 c1_i32_542
  let v1250 : BitVec 32 := Scalar.addi c0_i32_543 v1249
  v1250.toNat
def k0_cond10 (d0 : Dev nD) : BitVec 1 :=
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v310 : BitVec 32 := Scalar.muli c2_i32_120 v75
  let c1_i32_121 : BitVec 32 := 1#32
  let v311 : BitVec 32 := Scalar.addi v310 c1_i32_121
  let v312 : BitVec 1 := Scalar.cmpi .ne v311 v2
  let v313 : BitVec 32 := Scalar.extui v312
  let c0_i32_122 : BitVec 32 := 0#32
  let v314 : BitVec 1 := Scalar.cmpi .ne v313 c0_i32_122
  v314

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off25 (d0 : Dev nD) : Fin 2 → Nat :=
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v310 : BitVec 32 := Scalar.muli c2_i32_120 v75
  let c1_i32_121 : BitVec 32 := 1#32
  let v311 : BitVec 32 := Scalar.addi v310 c1_i32_121
  let c128_i32_540 : BitVec 32 := 128#32
  let v1248 : BitVec 32 := Scalar.muli v311 c128_i32_540
  let c0_i32_546 : BitVec 32 := 0#32
  ![v1248.toNat, 0]
def k0_dev10 (d0 : Dev nD) : Nat :=
  let c0_i32_543 : BitVec 32 := 0#32
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_39 : BitVec 32 := 1#32
  let v73 : BitVec 32 := Scalar.addi v72 c1_i32_39
  let c0_i32_40 : BitVec 32 := 0#32
  let v74 : BitVec 32 := Scalar.addi v73 c0_i32_40
  let c4_i32_41 : BitVec 32 := 4#32
  let v75 : BitVec 32 := Scalar.remsi v74 c4_i32_41
  let v310 : BitVec 32 := Scalar.muli c2_i32_120 v75
  let c1_i32_121 : BitVec 32 := 1#32
  let v311 : BitVec 32 := Scalar.addi v310 c1_i32_121
  let c1_i32_542 : BitVec 32 := 1#32
  let v1249 : BitVec 32 := Scalar.muli v311 c1_i32_542
  let v1250 : BitVec 32 := Scalar.addi c0_i32_543 v1249
  v1250.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let c256_i32_126 : BitVec 32 := 256#32
  let v318 : BitVec 32 := Scalar.muli v317 c256_i32_126
  v318
def k0_mult6 (d0 : Dev nD) : BitVec 32 :=
  let c512_i32_133 : BitVec 32 := 512#32
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let c256_i32_126 : BitVec 32 := 256#32
  let v318 : BitVec 32 := Scalar.muli v317 c256_i32_126
  let c128_i32_131 : BitVec 32 := 128#32
  let v324 : BitVec 32 := Scalar.subi v318 c128_i32_131
  let v325 : BitVec 32 := Scalar.maxsi c0_i32_132 v324
  let v326 : BitVec 32 := Scalar.minsi c512_i32_133 v325
  v326
def k0_cond11 (d0 : Dev nD) : BitVec 1 :=
  let c2_i32_212 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v547 : BitVec 32 := Scalar.muli c2_i32_212 v317
  let c0_i32_213 : BitVec 32 := 0#32
  let v548 : BitVec 32 := Scalar.addi v547 c0_i32_213
  let v549 : BitVec 1 := Scalar.cmpi .ne v548 v2
  let v550 : BitVec 32 := Scalar.extui v549
  let c0_i32_214 : BitVec 32 := 0#32
  let v551 : BitVec 1 := Scalar.cmpi .ne v550 c0_i32_214
  v551

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off28 (d0 : Dev nD) : Fin 2 → Nat :=
  let c2_i32_212 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v547 : BitVec 32 := Scalar.muli c2_i32_212 v317
  let c0_i32_213 : BitVec 32 := 0#32
  let v548 : BitVec 32 := Scalar.addi v547 c0_i32_213
  let c128_i32_540 : BitVec 32 := 128#32
  let v1248 : BitVec 32 := Scalar.muli v548 c128_i32_540
  let c0_i32_546 : BitVec 32 := 0#32
  ![v1248.toNat, 0]
def k0_dev11 (d0 : Dev nD) : Nat :=
  let c0_i32_543 : BitVec 32 := 0#32
  let c2_i32_212 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v547 : BitVec 32 := Scalar.muli c2_i32_212 v317
  let c0_i32_213 : BitVec 32 := 0#32
  let v548 : BitVec 32 := Scalar.addi v547 c0_i32_213
  let c1_i32_542 : BitVec 32 := 1#32
  let v1249 : BitVec 32 := Scalar.muli v548 c1_i32_542
  let v1250 : BitVec 32 := Scalar.addi c0_i32_543 v1249
  v1250.toNat
def k0_cond12 (d0 : Dev nD) : BitVec 1 :=
  let c2_i32_215 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v552 : BitVec 32 := Scalar.muli c2_i32_215 v317
  let c1_i32_216 : BitVec 32 := 1#32
  let v553 : BitVec 32 := Scalar.addi v552 c1_i32_216
  let v554 : BitVec 1 := Scalar.cmpi .ne v553 v2
  let v555 : BitVec 32 := Scalar.extui v554
  let c0_i32_217 : BitVec 32 := 0#32
  let v556 : BitVec 1 := Scalar.cmpi .ne v555 c0_i32_217
  v556

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off31 (d0 : Dev nD) : Fin 2 → Nat :=
  let c2_i32_215 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v552 : BitVec 32 := Scalar.muli c2_i32_215 v317
  let c1_i32_216 : BitVec 32 := 1#32
  let v553 : BitVec 32 := Scalar.addi v552 c1_i32_216
  let c128_i32_540 : BitVec 32 := 128#32
  let v1248 : BitVec 32 := Scalar.muli v553 c128_i32_540
  let c0_i32_546 : BitVec 32 := 0#32
  ![v1248.toNat, 0]
def k0_dev12 (d0 : Dev nD) : Nat :=
  let c0_i32_543 : BitVec 32 := 0#32
  let c2_i32_215 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_123 : BitVec 32 := 1#32
  let v315 : BitVec 32 := Scalar.addi v72 c1_i32_123
  let c1_i32_124 : BitVec 32 := 1#32
  let v316 : BitVec 32 := Scalar.addi v315 c1_i32_124
  let c4_i32_125 : BitVec 32 := 4#32
  let v317 : BitVec 32 := Scalar.remsi v316 c4_i32_125
  let v552 : BitVec 32 := Scalar.muli c2_i32_215 v317
  let c1_i32_216 : BitVec 32 := 1#32
  let v553 : BitVec 32 := Scalar.addi v552 c1_i32_216
  let c1_i32_542 : BitVec 32 := 1#32
  let v1249 : BitVec 32 := Scalar.muli v553 c1_i32_542
  let v1250 : BitVec 32 := Scalar.addi c0_i32_543 v1249
  v1250.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let c256_i32_221 : BitVec 32 := 256#32
  let v560 : BitVec 32 := Scalar.muli v559 c256_i32_221
  v560
def k0_mult8 (d0 : Dev nD) : BitVec 32 :=
  let c512_i32_228 : BitVec 32 := 512#32
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let c256_i32_221 : BitVec 32 := 256#32
  let v560 : BitVec 32 := Scalar.muli v559 c256_i32_221
  let c128_i32_226 : BitVec 32 := 128#32
  let v566 : BitVec 32 := Scalar.subi v560 c128_i32_226
  let v567 : BitVec 32 := Scalar.maxsi c0_i32_227 v566
  let v568 : BitVec 32 := Scalar.minsi c512_i32_228 v567
  v568
def k0_cond13 (d0 : Dev nD) : BitVec 1 :=
  let c2_i32_307 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v789 : BitVec 32 := Scalar.muli c2_i32_307 v559
  let c0_i32_308 : BitVec 32 := 0#32
  let v790 : BitVec 32 := Scalar.addi v789 c0_i32_308
  let v791 : BitVec 1 := Scalar.cmpi .ne v790 v2
  let v792 : BitVec 32 := Scalar.extui v791
  let c0_i32_309 : BitVec 32 := 0#32
  let v793 : BitVec 1 := Scalar.cmpi .ne v792 c0_i32_309
  v793

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off34 (d0 : Dev nD) : Fin 2 → Nat :=
  let c2_i32_307 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v789 : BitVec 32 := Scalar.muli c2_i32_307 v559
  let c0_i32_308 : BitVec 32 := 0#32
  let v790 : BitVec 32 := Scalar.addi v789 c0_i32_308
  let c128_i32_540 : BitVec 32 := 128#32
  let v1248 : BitVec 32 := Scalar.muli v790 c128_i32_540
  let c0_i32_546 : BitVec 32 := 0#32
  ![v1248.toNat, 0]
def k0_dev13 (d0 : Dev nD) : Nat :=
  let c0_i32_543 : BitVec 32 := 0#32
  let c2_i32_307 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v789 : BitVec 32 := Scalar.muli c2_i32_307 v559
  let c0_i32_308 : BitVec 32 := 0#32
  let v790 : BitVec 32 := Scalar.addi v789 c0_i32_308
  let c1_i32_542 : BitVec 32 := 1#32
  let v1249 : BitVec 32 := Scalar.muli v790 c1_i32_542
  let v1250 : BitVec 32 := Scalar.addi c0_i32_543 v1249
  v1250.toNat
def k0_cond14 (d0 : Dev nD) : BitVec 1 :=
  let c2_i32_310 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v794 : BitVec 32 := Scalar.muli c2_i32_310 v559
  let c1_i32_311 : BitVec 32 := 1#32
  let v795 : BitVec 32 := Scalar.addi v794 c1_i32_311
  let v796 : BitVec 1 := Scalar.cmpi .ne v795 v2
  let v797 : BitVec 32 := Scalar.extui v796
  let c0_i32_312 : BitVec 32 := 0#32
  let v798 : BitVec 1 := Scalar.cmpi .ne v797 c0_i32_312
  v798

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off37 (d0 : Dev nD) : Fin 2 → Nat :=
  let c2_i32_310 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v794 : BitVec 32 := Scalar.muli c2_i32_310 v559
  let c1_i32_311 : BitVec 32 := 1#32
  let v795 : BitVec 32 := Scalar.addi v794 c1_i32_311
  let c128_i32_540 : BitVec 32 := 128#32
  let v1248 : BitVec 32 := Scalar.muli v795 c128_i32_540
  let c0_i32_546 : BitVec 32 := 0#32
  ![v1248.toNat, 0]
def k0_dev14 (d0 : Dev nD) : Nat :=
  let c0_i32_543 : BitVec 32 := 0#32
  let c2_i32_310 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_218 : BitVec 32 := 1#32
  let v557 : BitVec 32 := Scalar.addi v72 c1_i32_218
  let c2_i32_219 : BitVec 32 := 2#32
  let v558 : BitVec 32 := Scalar.addi v557 c2_i32_219
  let c4_i32_220 : BitVec 32 := 4#32
  let v559 : BitVec 32 := Scalar.remsi v558 c4_i32_220
  let v794 : BitVec 32 := Scalar.muli c2_i32_310 v559
  let c1_i32_311 : BitVec 32 := 1#32
  let v795 : BitVec 32 := Scalar.addi v794 c1_i32_311
  let c1_i32_542 : BitVec 32 := 1#32
  let v1249 : BitVec 32 := Scalar.muli v795 c1_i32_542
  let v1250 : BitVec 32 := Scalar.addi c0_i32_543 v1249
  v1250.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let c256_i32_316 : BitVec 32 := 256#32
  let v802 : BitVec 32 := Scalar.muli v801 c256_i32_316
  v802
def k0_mult10 (d0 : Dev nD) : BitVec 32 :=
  let c512_i32_323 : BitVec 32 := 512#32
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let c256_i32_316 : BitVec 32 := 256#32
  let v802 : BitVec 32 := Scalar.muli v801 c256_i32_316
  let c128_i32_321 : BitVec 32 := 128#32
  let v808 : BitVec 32 := Scalar.subi v802 c128_i32_321
  let v809 : BitVec 32 := Scalar.maxsi c0_i32_322 v808
  let v810 : BitVec 32 := Scalar.minsi c512_i32_323 v809
  v810
def k0_cond15 (d0 : Dev nD) : BitVec 1 :=
  let c2_i32_402 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1031 : BitVec 32 := Scalar.muli c2_i32_402 v801
  let c0_i32_403 : BitVec 32 := 0#32
  let v1032 : BitVec 32 := Scalar.addi v1031 c0_i32_403
  let v1033 : BitVec 1 := Scalar.cmpi .ne v1032 v2
  let v1034 : BitVec 32 := Scalar.extui v1033
  let c0_i32_404 : BitVec 32 := 0#32
  let v1035 : BitVec 1 := Scalar.cmpi .ne v1034 c0_i32_404
  v1035

def k0_off38 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off40 (d0 : Dev nD) : Fin 2 → Nat :=
  let c2_i32_402 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1031 : BitVec 32 := Scalar.muli c2_i32_402 v801
  let c0_i32_403 : BitVec 32 := 0#32
  let v1032 : BitVec 32 := Scalar.addi v1031 c0_i32_403
  let c128_i32_540 : BitVec 32 := 128#32
  let v1248 : BitVec 32 := Scalar.muli v1032 c128_i32_540
  let c0_i32_546 : BitVec 32 := 0#32
  ![v1248.toNat, 0]
def k0_dev15 (d0 : Dev nD) : Nat :=
  let c0_i32_543 : BitVec 32 := 0#32
  let c2_i32_402 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1031 : BitVec 32 := Scalar.muli c2_i32_402 v801
  let c0_i32_403 : BitVec 32 := 0#32
  let v1032 : BitVec 32 := Scalar.addi v1031 c0_i32_403
  let c1_i32_542 : BitVec 32 := 1#32
  let v1249 : BitVec 32 := Scalar.muli v1032 c1_i32_542
  let v1250 : BitVec 32 := Scalar.addi c0_i32_543 v1249
  v1250.toNat
def k0_cond16 (d0 : Dev nD) : BitVec 1 :=
  let c2_i32_405 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1036 : BitVec 32 := Scalar.muli c2_i32_405 v801
  let c1_i32_406 : BitVec 32 := 1#32
  let v1037 : BitVec 32 := Scalar.addi v1036 c1_i32_406
  let v1038 : BitVec 1 := Scalar.cmpi .ne v1037 v2
  let v1039 : BitVec 32 := Scalar.extui v1038
  let c0_i32_407 : BitVec 32 := 0#32
  let v1040 : BitVec 1 := Scalar.cmpi .ne v1039 c0_i32_407
  v1040

def k0_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off43 (d0 : Dev nD) : Fin 2 → Nat :=
  let c2_i32_405 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1036 : BitVec 32 := Scalar.muli c2_i32_405 v801
  let c1_i32_406 : BitVec 32 := 1#32
  let v1037 : BitVec 32 := Scalar.addi v1036 c1_i32_406
  let c128_i32_540 : BitVec 32 := 128#32
  let v1248 : BitVec 32 := Scalar.muli v1037 c128_i32_540
  let c0_i32_546 : BitVec 32 := 0#32
  ![v1248.toNat, 0]
def k0_dev16 (d0 : Dev nD) : Nat :=
  let c0_i32_543 : BitVec 32 := 0#32
  let c2_i32_405 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_313 : BitVec 32 := 1#32
  let v799 : BitVec 32 := Scalar.addi v72 c1_i32_313
  let c3_i32_314 : BitVec 32 := 3#32
  let v800 : BitVec 32 := Scalar.addi v799 c3_i32_314
  let c4_i32_315 : BitVec 32 := 4#32
  let v801 : BitVec 32 := Scalar.remsi v800 c4_i32_315
  let v1036 : BitVec 32 := Scalar.muli c2_i32_405 v801
  let c1_i32_406 : BitVec 32 := 1#32
  let v1037 : BitVec 32 := Scalar.addi v1036 c1_i32_406
  let c1_i32_542 : BitVec 32 := 1#32
  let v1249 : BitVec 32 := Scalar.muli v1037 c1_i32_542
  let v1250 : BitVec 32 := Scalar.addi c0_i32_543 v1249
  v1250.toNat
def k0_cond25 (d0 : Dev nD) : BitVec 1 :=
  let c2_i32_427 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_424 : BitVec 32 := 1#32
  let v1065 : BitVec 32 := Scalar.addi v72 c1_i32_424
  let c0_i32_425 : BitVec 32 := 0#32
  let v1066 : BitVec 32 := Scalar.addi v1065 c0_i32_425
  let c4_i32_426 : BitVec 32 := 4#32
  let v1067 : BitVec 32 := Scalar.remsi v1066 c4_i32_426
  let v1068 : BitVec 32 := Scalar.muli c2_i32_427 v1067
  let c0_i32_428 : BitVec 32 := 0#32
  let v1069 : BitVec 32 := Scalar.addi v1068 c0_i32_428
  let v1070 : BitVec 1 := Scalar.cmpi .ne v1069 v2
  let v1071 : BitVec 32 := Scalar.extui v1070
  let c0_i32_429 : BitVec 32 := 0#32
  let v1072 : BitVec 1 := Scalar.cmpi .ne v1071 c0_i32_429
  v1072

def k0_off44 (d0 : Dev nD) : Fin 2 → Nat :=
  let c2_i32_427 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_424 : BitVec 32 := 1#32
  let v1065 : BitVec 32 := Scalar.addi v72 c1_i32_424
  let c0_i32_425 : BitVec 32 := 0#32
  let v1066 : BitVec 32 := Scalar.addi v1065 c0_i32_425
  let c4_i32_426 : BitVec 32 := 4#32
  let v1067 : BitVec 32 := Scalar.remsi v1066 c4_i32_426
  let v1068 : BitVec 32 := Scalar.muli c2_i32_427 v1067
  let c0_i32_428 : BitVec 32 := 0#32
  let v1069 : BitVec 32 := Scalar.addi v1068 c0_i32_428
  let c128_i32_540 : BitVec 32 := 128#32
  let v1248 : BitVec 32 := Scalar.muli v1069 c128_i32_540
  let c0_i32_543 : BitVec 32 := 0#32
  ![v1248.toNat, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond26 (d0 : Dev nD) : BitVec 1 :=
  let c2_i32_430 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_424 : BitVec 32 := 1#32
  let v1065 : BitVec 32 := Scalar.addi v72 c1_i32_424
  let c0_i32_425 : BitVec 32 := 0#32
  let v1066 : BitVec 32 := Scalar.addi v1065 c0_i32_425
  let c4_i32_426 : BitVec 32 := 4#32
  let v1067 : BitVec 32 := Scalar.remsi v1066 c4_i32_426
  let v1073 : BitVec 32 := Scalar.muli c2_i32_430 v1067
  let c1_i32_431 : BitVec 32 := 1#32
  let v1074 : BitVec 32 := Scalar.addi v1073 c1_i32_431
  let v1075 : BitVec 1 := Scalar.cmpi .ne v1074 v2
  let v1076 : BitVec 32 := Scalar.extui v1075
  let c0_i32_432 : BitVec 32 := 0#32
  let v1077 : BitVec 1 := Scalar.cmpi .ne v1076 c0_i32_432
  v1077

def k0_off46 (d0 : Dev nD) : Fin 2 → Nat :=
  let c2_i32_430 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_424 : BitVec 32 := 1#32
  let v1065 : BitVec 32 := Scalar.addi v72 c1_i32_424
  let c0_i32_425 : BitVec 32 := 0#32
  let v1066 : BitVec 32 := Scalar.addi v1065 c0_i32_425
  let c4_i32_426 : BitVec 32 := 4#32
  let v1067 : BitVec 32 := Scalar.remsi v1066 c4_i32_426
  let v1073 : BitVec 32 := Scalar.muli c2_i32_430 v1067
  let c1_i32_431 : BitVec 32 := 1#32
  let v1074 : BitVec 32 := Scalar.addi v1073 c1_i32_431
  let c128_i32_540 : BitVec 32 := 128#32
  let v1248 : BitVec 32 := Scalar.muli v1074 c128_i32_540
  let c0_i32_543 : BitVec 32 := 0#32
  ![v1248.toNat, 0]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond27 (d0 : Dev nD) : BitVec 1 :=
  let c2_i32_436 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_433 : BitVec 32 := 1#32
  let v1078 : BitVec 32 := Scalar.addi v72 c1_i32_433
  let c1_i32_434 : BitVec 32 := 1#32
  let v1079 : BitVec 32 := Scalar.addi v1078 c1_i32_434
  let c4_i32_435 : BitVec 32 := 4#32
  let v1080 : BitVec 32 := Scalar.remsi v1079 c4_i32_435
  let v1081 : BitVec 32 := Scalar.muli c2_i32_436 v1080
  let c0_i32_437 : BitVec 32 := 0#32
  let v1082 : BitVec 32 := Scalar.addi v1081 c0_i32_437
  let v1083 : BitVec 1 := Scalar.cmpi .ne v1082 v2
  let v1084 : BitVec 32 := Scalar.extui v1083
  let c0_i32_438 : BitVec 32 := 0#32
  let v1085 : BitVec 1 := Scalar.cmpi .ne v1084 c0_i32_438
  v1085

def k0_off48 (d0 : Dev nD) : Fin 2 → Nat :=
  let c2_i32_436 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_433 : BitVec 32 := 1#32
  let v1078 : BitVec 32 := Scalar.addi v72 c1_i32_433
  let c1_i32_434 : BitVec 32 := 1#32
  let v1079 : BitVec 32 := Scalar.addi v1078 c1_i32_434
  let c4_i32_435 : BitVec 32 := 4#32
  let v1080 : BitVec 32 := Scalar.remsi v1079 c4_i32_435
  let v1081 : BitVec 32 := Scalar.muli c2_i32_436 v1080
  let c0_i32_437 : BitVec 32 := 0#32
  let v1082 : BitVec 32 := Scalar.addi v1081 c0_i32_437
  let c128_i32_540 : BitVec 32 := 128#32
  let v1248 : BitVec 32 := Scalar.muli v1082 c128_i32_540
  let c0_i32_543 : BitVec 32 := 0#32
  ![v1248.toNat, 0]
def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond28 (d0 : Dev nD) : BitVec 1 :=
  let c2_i32_439 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_433 : BitVec 32 := 1#32
  let v1078 : BitVec 32 := Scalar.addi v72 c1_i32_433
  let c1_i32_434 : BitVec 32 := 1#32
  let v1079 : BitVec 32 := Scalar.addi v1078 c1_i32_434
  let c4_i32_435 : BitVec 32 := 4#32
  let v1080 : BitVec 32 := Scalar.remsi v1079 c4_i32_435
  let v1086 : BitVec 32 := Scalar.muli c2_i32_439 v1080
  let c1_i32_440 : BitVec 32 := 1#32
  let v1087 : BitVec 32 := Scalar.addi v1086 c1_i32_440
  let v1088 : BitVec 1 := Scalar.cmpi .ne v1087 v2
  let v1089 : BitVec 32 := Scalar.extui v1088
  let c0_i32_441 : BitVec 32 := 0#32
  let v1090 : BitVec 1 := Scalar.cmpi .ne v1089 c0_i32_441
  v1090

def k0_off50 (d0 : Dev nD) : Fin 2 → Nat :=
  let c2_i32_439 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_433 : BitVec 32 := 1#32
  let v1078 : BitVec 32 := Scalar.addi v72 c1_i32_433
  let c1_i32_434 : BitVec 32 := 1#32
  let v1079 : BitVec 32 := Scalar.addi v1078 c1_i32_434
  let c4_i32_435 : BitVec 32 := 4#32
  let v1080 : BitVec 32 := Scalar.remsi v1079 c4_i32_435
  let v1086 : BitVec 32 := Scalar.muli c2_i32_439 v1080
  let c1_i32_440 : BitVec 32 := 1#32
  let v1087 : BitVec 32 := Scalar.addi v1086 c1_i32_440
  let c128_i32_540 : BitVec 32 := 128#32
  let v1248 : BitVec 32 := Scalar.muli v1087 c128_i32_540
  let c0_i32_543 : BitVec 32 := 0#32
  ![v1248.toNat, 0]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond29 (d0 : Dev nD) : BitVec 1 :=
  let c2_i32_445 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_442 : BitVec 32 := 1#32
  let v1091 : BitVec 32 := Scalar.addi v72 c1_i32_442
  let c2_i32_443 : BitVec 32 := 2#32
  let v1092 : BitVec 32 := Scalar.addi v1091 c2_i32_443
  let c4_i32_444 : BitVec 32 := 4#32
  let v1093 : BitVec 32 := Scalar.remsi v1092 c4_i32_444
  let v1094 : BitVec 32 := Scalar.muli c2_i32_445 v1093
  let c0_i32_446 : BitVec 32 := 0#32
  let v1095 : BitVec 32 := Scalar.addi v1094 c0_i32_446
  let v1096 : BitVec 1 := Scalar.cmpi .ne v1095 v2
  let v1097 : BitVec 32 := Scalar.extui v1096
  let c0_i32_447 : BitVec 32 := 0#32
  let v1098 : BitVec 1 := Scalar.cmpi .ne v1097 c0_i32_447
  v1098

def k0_off52 (d0 : Dev nD) : Fin 2 → Nat :=
  let c2_i32_445 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_442 : BitVec 32 := 1#32
  let v1091 : BitVec 32 := Scalar.addi v72 c1_i32_442
  let c2_i32_443 : BitVec 32 := 2#32
  let v1092 : BitVec 32 := Scalar.addi v1091 c2_i32_443
  let c4_i32_444 : BitVec 32 := 4#32
  let v1093 : BitVec 32 := Scalar.remsi v1092 c4_i32_444
  let v1094 : BitVec 32 := Scalar.muli c2_i32_445 v1093
  let c0_i32_446 : BitVec 32 := 0#32
  let v1095 : BitVec 32 := Scalar.addi v1094 c0_i32_446
  let c128_i32_540 : BitVec 32 := 128#32
  let v1248 : BitVec 32 := Scalar.muli v1095 c128_i32_540
  let c0_i32_543 : BitVec 32 := 0#32
  ![v1248.toNat, 0]
def k0_off53 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond30 (d0 : Dev nD) : BitVec 1 :=
  let c2_i32_448 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_442 : BitVec 32 := 1#32
  let v1091 : BitVec 32 := Scalar.addi v72 c1_i32_442
  let c2_i32_443 : BitVec 32 := 2#32
  let v1092 : BitVec 32 := Scalar.addi v1091 c2_i32_443
  let c4_i32_444 : BitVec 32 := 4#32
  let v1093 : BitVec 32 := Scalar.remsi v1092 c4_i32_444
  let v1099 : BitVec 32 := Scalar.muli c2_i32_448 v1093
  let c1_i32_449 : BitVec 32 := 1#32
  let v1100 : BitVec 32 := Scalar.addi v1099 c1_i32_449
  let v1101 : BitVec 1 := Scalar.cmpi .ne v1100 v2
  let v1102 : BitVec 32 := Scalar.extui v1101
  let c0_i32_450 : BitVec 32 := 0#32
  let v1103 : BitVec 1 := Scalar.cmpi .ne v1102 c0_i32_450
  v1103

def k0_off54 (d0 : Dev nD) : Fin 2 → Nat :=
  let c2_i32_448 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_442 : BitVec 32 := 1#32
  let v1091 : BitVec 32 := Scalar.addi v72 c1_i32_442
  let c2_i32_443 : BitVec 32 := 2#32
  let v1092 : BitVec 32 := Scalar.addi v1091 c2_i32_443
  let c4_i32_444 : BitVec 32 := 4#32
  let v1093 : BitVec 32 := Scalar.remsi v1092 c4_i32_444
  let v1099 : BitVec 32 := Scalar.muli c2_i32_448 v1093
  let c1_i32_449 : BitVec 32 := 1#32
  let v1100 : BitVec 32 := Scalar.addi v1099 c1_i32_449
  let c128_i32_540 : BitVec 32 := 128#32
  let v1248 : BitVec 32 := Scalar.muli v1100 c128_i32_540
  let c0_i32_543 : BitVec 32 := 0#32
  ![v1248.toNat, 0]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond31 (d0 : Dev nD) : BitVec 1 :=
  let c2_i32_454 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_451 : BitVec 32 := 1#32
  let v1104 : BitVec 32 := Scalar.addi v72 c1_i32_451
  let c3_i32_452 : BitVec 32 := 3#32
  let v1105 : BitVec 32 := Scalar.addi v1104 c3_i32_452
  let c4_i32_453 : BitVec 32 := 4#32
  let v1106 : BitVec 32 := Scalar.remsi v1105 c4_i32_453
  let v1107 : BitVec 32 := Scalar.muli c2_i32_454 v1106
  let c0_i32_455 : BitVec 32 := 0#32
  let v1108 : BitVec 32 := Scalar.addi v1107 c0_i32_455
  let v1109 : BitVec 1 := Scalar.cmpi .ne v1108 v2
  let v1110 : BitVec 32 := Scalar.extui v1109
  let c0_i32_456 : BitVec 32 := 0#32
  let v1111 : BitVec 1 := Scalar.cmpi .ne v1110 c0_i32_456
  v1111

def k0_off56 (d0 : Dev nD) : Fin 2 → Nat :=
  let c2_i32_454 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_451 : BitVec 32 := 1#32
  let v1104 : BitVec 32 := Scalar.addi v72 c1_i32_451
  let c3_i32_452 : BitVec 32 := 3#32
  let v1105 : BitVec 32 := Scalar.addi v1104 c3_i32_452
  let c4_i32_453 : BitVec 32 := 4#32
  let v1106 : BitVec 32 := Scalar.remsi v1105 c4_i32_453
  let v1107 : BitVec 32 := Scalar.muli c2_i32_454 v1106
  let c0_i32_455 : BitVec 32 := 0#32
  let v1108 : BitVec 32 := Scalar.addi v1107 c0_i32_455
  let c128_i32_540 : BitVec 32 := 128#32
  let v1248 : BitVec 32 := Scalar.muli v1108 c128_i32_540
  let c0_i32_543 : BitVec 32 := 0#32
  ![v1248.toNat, 0]
def k0_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_cond32 (d0 : Dev nD) : BitVec 1 :=
  let c2_i32_457 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_451 : BitVec 32 := 1#32
  let v1104 : BitVec 32 := Scalar.addi v72 c1_i32_451
  let c3_i32_452 : BitVec 32 := 3#32
  let v1105 : BitVec 32 := Scalar.addi v1104 c3_i32_452
  let c4_i32_453 : BitVec 32 := 4#32
  let v1106 : BitVec 32 := Scalar.remsi v1105 c4_i32_453
  let v1112 : BitVec 32 := Scalar.muli c2_i32_457 v1106
  let c1_i32_458 : BitVec 32 := 1#32
  let v1113 : BitVec 32 := Scalar.addi v1112 c1_i32_458
  let v1114 : BitVec 1 := Scalar.cmpi .ne v1113 v2
  let v1115 : BitVec 32 := Scalar.extui v1114
  let c0_i32_459 : BitVec 32 := 0#32
  let v1116 : BitVec 1 := Scalar.cmpi .ne v1115 c0_i32_459
  v1116

def k0_off58 (d0 : Dev nD) : Fin 2 → Nat :=
  let c2_i32_457 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v72 : BitVec 32 := Scalar.divsi v2 c2_i32_38
  let c1_i32_451 : BitVec 32 := 1#32
  let v1104 : BitVec 32 := Scalar.addi v72 c1_i32_451
  let c3_i32_452 : BitVec 32 := 3#32
  let v1105 : BitVec 32 := Scalar.addi v1104 c3_i32_452
  let c4_i32_453 : BitVec 32 := 4#32
  let v1106 : BitVec 32 := Scalar.remsi v1105 c4_i32_453
  let v1112 : BitVec 32 := Scalar.muli c2_i32_457 v1106
  let c1_i32_458 : BitVec 32 := 1#32
  let v1113 : BitVec 32 := Scalar.addi v1112 c1_i32_458
  let c128_i32_540 : BitVec 32 := 128#32
  let v1248 : BitVec 32 := Scalar.muli v1113 c128_i32_540
  let c0_i32_543 : BitVec 32 := 0#32
  ![v1248.toNat, 0]
def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_460 : BitVec 32 := 128#32
  let v1117 : BitVec 32 := Scalar.muli v2 c128_i32_460
  let v1118 : Index := Scalar.indexCast v1117
  let c0_461 : Index := 0#32
  ![v1118.toNat, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_492 : BitVec 32 := 0#32
  let v1176 : BitVec 1 := Scalar.cmpi .ne v2 c0_i32_492
  let v1177 : BitVec 32 := Scalar.extui v1176
  let c0_i32_493 : BitVec 32 := 0#32
  let v1178 : BitVec 1 := Scalar.cmpi .ne v1177 c0_i32_493
  v1178

def k0_off61 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev17 : Nat :=
  let c0_i32_543 : BitVec 32 := 0#32
  let c0_i32_541 : BitVec 32 := 0#32
  let c1_i32_542 : BitVec 32 := 1#32
  let v1248 : BitVec 32 := Scalar.muli c0_i32_541 c1_i32_542
  let v1249 : BitVec 32 := Scalar.addi c0_i32_543 v1248
  v1249.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_494 : BitVec 32 := 1#32
  let v1179 : BitVec 1 := Scalar.cmpi .ne v2 c1_i32_494
  let v1180 : BitVec 32 := Scalar.extui v1179
  let c0_i32_495 : BitVec 32 := 0#32
  let v1181 : BitVec 1 := Scalar.cmpi .ne v1180 c0_i32_495
  v1181

def k0_off63 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev18 : Nat :=
  let c0_i32_543 : BitVec 32 := 0#32
  let c1_i32_541 : BitVec 32 := 1#32
  let c1_i32_542 : BitVec 32 := 1#32
  let v1248 : BitVec 32 := Scalar.muli c1_i32_541 c1_i32_542
  let v1249 : BitVec 32 := Scalar.addi c0_i32_543 v1248
  v1249.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_496 : BitVec 32 := 2#32
  let v1182 : BitVec 1 := Scalar.cmpi .ne v2 c2_i32_496
  let v1183 : BitVec 32 := Scalar.extui v1182
  let c0_i32_497 : BitVec 32 := 0#32
  let v1184 : BitVec 1 := Scalar.cmpi .ne v1183 c0_i32_497
  v1184

def k0_off65 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev19 : Nat :=
  let c0_i32_543 : BitVec 32 := 0#32
  let c2_i32_541 : BitVec 32 := 2#32
  let c1_i32_542 : BitVec 32 := 1#32
  let v1248 : BitVec 32 := Scalar.muli c2_i32_541 c1_i32_542
  let v1249 : BitVec 32 := Scalar.addi c0_i32_543 v1248
  v1249.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_498 : BitVec 32 := 3#32
  let v1185 : BitVec 1 := Scalar.cmpi .ne v2 c3_i32_498
  let v1186 : BitVec 32 := Scalar.extui v1185
  let c0_i32_499 : BitVec 32 := 0#32
  let v1187 : BitVec 1 := Scalar.cmpi .ne v1186 c0_i32_499
  v1187

def k0_off67 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev20 : Nat :=
  let c0_i32_543 : BitVec 32 := 0#32
  let c3_i32_541 : BitVec 32 := 3#32
  let c1_i32_542 : BitVec 32 := 1#32
  let v1248 : BitVec 32 := Scalar.muli c3_i32_541 c1_i32_542
  let v1249 : BitVec 32 := Scalar.addi c0_i32_543 v1248
  v1249.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_500 : BitVec 32 := 4#32
  let v1188 : BitVec 1 := Scalar.cmpi .ne v2 c4_i32_500
  let v1189 : BitVec 32 := Scalar.extui v1188
  let c0_i32_501 : BitVec 32 := 0#32
  let v1190 : BitVec 1 := Scalar.cmpi .ne v1189 c0_i32_501
  v1190

def k0_off69 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev21 : Nat :=
  let c0_i32_543 : BitVec 32 := 0#32
  let c4_i32_541 : BitVec 32 := 4#32
  let c1_i32_542 : BitVec 32 := 1#32
  let v1248 : BitVec 32 := Scalar.muli c4_i32_541 c1_i32_542
  let v1249 : BitVec 32 := Scalar.addi c0_i32_543 v1248
  v1249.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_502 : BitVec 32 := 5#32
  let v1191 : BitVec 1 := Scalar.cmpi .ne v2 c5_i32_502
  let v1192 : BitVec 32 := Scalar.extui v1191
  let c0_i32_503 : BitVec 32 := 0#32
  let v1193 : BitVec 1 := Scalar.cmpi .ne v1192 c0_i32_503
  v1193

def k0_off71 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev22 : Nat :=
  let c0_i32_543 : BitVec 32 := 0#32
  let c5_i32_541 : BitVec 32 := 5#32
  let c1_i32_542 : BitVec 32 := 1#32
  let v1248 : BitVec 32 := Scalar.muli c5_i32_541 c1_i32_542
  let v1249 : BitVec 32 := Scalar.addi c0_i32_543 v1248
  v1249.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_504 : BitVec 32 := 6#32
  let v1194 : BitVec 1 := Scalar.cmpi .ne v2 c6_i32_504
  let v1195 : BitVec 32 := Scalar.extui v1194
  let c0_i32_505 : BitVec 32 := 0#32
  let v1196 : BitVec 1 := Scalar.cmpi .ne v1195 c0_i32_505
  v1196

def k0_off73 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev23 : Nat :=
  let c0_i32_543 : BitVec 32 := 0#32
  let c6_i32_541 : BitVec 32 := 6#32
  let c1_i32_542 : BitVec 32 := 1#32
  let v1248 : BitVec 32 := Scalar.muli c6_i32_541 c1_i32_542
  let v1249 : BitVec 32 := Scalar.addi c0_i32_543 v1248
  v1249.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_506 : BitVec 32 := 7#32
  let v1197 : BitVec 1 := Scalar.cmpi .ne v2 c7_i32_506
  let v1198 : BitVec 32 := Scalar.extui v1197
  let c0_i32_507 : BitVec 32 := 0#32
  let v1199 : BitVec 1 := Scalar.cmpi .ne v1198 c0_i32_507
  v1199

def k0_off75 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_544 : BitVec 32 := 0#32
  let c0_i32_545 : BitVec 32 := 0#32
  ![v2.toNat, 0, 0]
def k0_dev24 : Nat :=
  let c0_i32_543 : BitVec 32 := 0#32
  let c7_i32_541 : BitVec 32 := 7#32
  let c1_i32_542 : BitVec 32 := 1#32
  let v1248 : BitVec 32 := Scalar.muli c7_i32_541 c1_i32_542
  let v1249 : BitVec 32 := Scalar.addi c0_i32_543 v1248
  v1249.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_524 : BitVec 32 := 0#32
  let v1224 : BitVec 1 := Scalar.cmpi .ne v2 c0_i32_524
  let v1225 : BitVec 32 := Scalar.extui v1224
  let c0_i32_525 : BitVec 32 := 0#32
  let v1226 : BitVec 1 := Scalar.cmpi .ne v1225 c0_i32_525
  v1226

def k0_off77 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_526 : BitVec 32 := 1#32
  let v1227 : BitVec 1 := Scalar.cmpi .ne v2 c1_i32_526
  let v1228 : BitVec 32 := Scalar.extui v1227
  let c0_i32_527 : BitVec 32 := 0#32
  let v1229 : BitVec 1 := Scalar.cmpi .ne v1228 c0_i32_527
  v1229

def k0_off78 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_528 : BitVec 32 := 2#32
  let v1230 : BitVec 1 := Scalar.cmpi .ne v2 c2_i32_528
  let v1231 : BitVec 32 := Scalar.extui v1230
  let c0_i32_529 : BitVec 32 := 0#32
  let v1232 : BitVec 1 := Scalar.cmpi .ne v1231 c0_i32_529
  v1232

def k0_off79 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_530 : BitVec 32 := 3#32
  let v1233 : BitVec 1 := Scalar.cmpi .ne v2 c3_i32_530
  let v1234 : BitVec 32 := Scalar.extui v1233
  let c0_i32_531 : BitVec 32 := 0#32
  let v1235 : BitVec 1 := Scalar.cmpi .ne v1234 c0_i32_531
  v1235

def k0_off80 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_532 : BitVec 32 := 4#32
  let v1236 : BitVec 1 := Scalar.cmpi .ne v2 c4_i32_532
  let v1237 : BitVec 32 := Scalar.extui v1236
  let c0_i32_533 : BitVec 32 := 0#32
  let v1238 : BitVec 1 := Scalar.cmpi .ne v1237 c0_i32_533
  v1238

def k0_off81 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_534 : BitVec 32 := 5#32
  let v1239 : BitVec 1 := Scalar.cmpi .ne v2 c5_i32_534
  let v1240 : BitVec 32 := Scalar.extui v1239
  let c0_i32_535 : BitVec 32 := 0#32
  let v1241 : BitVec 1 := Scalar.cmpi .ne v1240 c0_i32_535
  v1241

def k0_off82 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_536 : BitVec 32 := 6#32
  let v1242 : BitVec 1 := Scalar.cmpi .ne v2 c6_i32_536
  let v1243 : BitVec 32 := Scalar.extui v1242
  let c0_i32_537 : BitVec 32 := 0#32
  let v1244 : BitVec 1 := Scalar.cmpi .ne v1243 c0_i32_537
  v1244

def k0_off83 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_538 : BitVec 32 := 7#32
  let v1245 : BitVec 1 := Scalar.cmpi .ne v2 c7_i32_538
  let v1246 : BitVec 32 := Scalar.extui v1245
  let c0_i32_539 : BitVec 32 := 0#32
  let v1247 : BitVec 1 := Scalar.cmpi .ne v1246 c0_i32_539
  v1247

def k0_off84 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_543 : BitVec 32 := 0#32
  let c0_i32_544 : BitVec 32 := 0#32
  ![v2.toNat, 0, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S1x1024x1024 : Shape := ⟨3, ![1, 1024, 1024]⟩
abbrev S1x1024x64x128 : Shape := ⟨4, ![1, 1024, 64, 128]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S1x1024x1024, .f32⟩
  | .hbm, ⟨6, _⟩ => ⟨S1x1024x64x128, .f32⟩
  | .hbm, ⟨7, _⟩ => ⟨S1x1024x64x128, .f32⟩
  | .hbm, ⟨8, _⟩ => ⟨S1x1024x8192, .f32⟩
  | .hbm, ⟨9, _⟩ => ⟨S1x1024x64x128, .f32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S1x64x1024x1024, .f32⟩
  | .hbm, ⟨22, _⟩ => ⟨S_, .f32⟩
  | .hbm, ⟨23, _⟩ => ⟨S1x64x1024x1024, .f32⟩
  | .hbm, ⟨24, _⟩ => ⟨S1x64x1024x1024, .f32⟩
  | .hbm, ⟨25, _⟩ => ⟨S1x1x1024x1024, .i1⟩
  | .hbm, ⟨26, _⟩ => ⟨S_, .f32⟩
  | .hbm, ⟨27, _⟩ => ⟨S_, .f32⟩
  | .hbm, ⟨28, _⟩ => ⟨S1x64x1024x1024, .i1⟩
  | .hbm, ⟨29, _⟩ => ⟨S1x64x1024x1024, .f32⟩
  | .hbm, ⟨30, _⟩ => ⟨S1x64x1024x1024, .f32⟩
  | .hbm, ⟨31, _⟩ => ⟨S_, .f32⟩
  | .hbm, ⟨32, _⟩ => ⟨S1x64x1024, .f32⟩
  | .hbm, ⟨33, _⟩ => ⟨S1x64x1024x1, .f32⟩
  | .hbm, ⟨34, _⟩ => ⟨S1x64x1024x1024, .f32⟩
  | .hbm, ⟨35, _⟩ => ⟨S1x64x1024x1024, .f32⟩
  | .hbm, ⟨36, _⟩ => ⟨S1x64x1024x1024, .f32⟩
  | .hbm, ⟨37, _⟩ => ⟨S_, .i1⟩
  | .hbm, ⟨38, _⟩ => ⟨S1024, .i1⟩
  | .hbm, ⟨39, _⟩ => ⟨S1x1x1024x1, .i1⟩
  | .hbm, ⟨40, _⟩ => ⟨S_, .f32⟩
  | .hbm, ⟨41, _⟩ => ⟨S1x64x1024, .f32⟩
  | .hbm, ⟨42, _⟩ => ⟨S1x64x1024x1, .f32⟩
  | .hbm, ⟨43, _⟩ => ⟨S_, .f32⟩
  | .hbm, ⟨44, _⟩ => ⟨S_, .f32⟩
  | .hbm, ⟨45, _⟩ => ⟨S1x64x1024x1, .i1⟩
  | .hbm, ⟨46, _⟩ => ⟨S1x64x1024x1, .f32⟩
  | .hbm, ⟨47, _⟩ => ⟨S1x64x1024x1, .f32⟩
  | .hbm, ⟨48, _⟩ => ⟨S1x64x1024x1024, .f32⟩
  | .hbm, ⟨49, _⟩ => ⟨S1x64x1024x1024, .f32⟩
  | .hbm, ⟨50, _⟩ => ⟨S1x1x1024x1, .i1⟩
  | .hbm, ⟨51, _⟩ => ⟨S_, .f32⟩
  | .hbm, ⟨52, _⟩ => ⟨S_, .f32⟩
  | .hbm, ⟨53, _⟩ => ⟨S1x64x1024x1024, .i1⟩
  | .hbm, ⟨54, _⟩ => ⟨S1x64x1024x1024, .f32⟩
  | .hbm, ⟨55, _⟩ => ⟨S1x64x1024x1024, .f32⟩
  | .hbm, ⟨56, _⟩ => ⟨S1x64x128x1024, .f32⟩
  | .hbm, ⟨57, _⟩ => ⟨S1x1024x64x128, .f32⟩
  | .hbm, ⟨58, _⟩ => ⟨S1x1024x8192, .f32⟩
  | .hbm, ⟨59, _⟩ => ⟨S1x1024x1024, .f32⟩
  | .hbm, ⟨60, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Base.lean ====
/-
  The memrefs, the semaphores and the contents of the kernel's buffers, as functions of a device.
  The contents are stated through the kernel's own payload functions, so that each store matches its
  contents by unfolding.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.ShareLeaves
public import Idealize.ShloMosaic.Lib.Tactic

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

/-! ## The resource algebra: the pipeline's copy and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The memory at launch: arbitrary contents, every semaphore counter zero, arbitrary generator registers. -/
def s₀ (ρ : Dev nD → PrngReg) : MemSt nD τ sig (Elt F) := ⟨m, fun _ => 0, ρ⟩

/-! ## Memrefs -/

abbrev xM : Memref sig .tc .vmem S1024x1024 .f32 := Memref.whole cc0_stg0_0
abbrev kM : Memref sig .tc .vmem S1024x1024 .f32 := Memref.whole cc0_stg1_0
abbrev vM : Memref sig .tc .vmem S1024x1024 .f32 := Memref.whole cc0_stg2_0
abbrev oM : Memref sig .tc .vmem S1024x1024 .f32 := Memref.whole cc0_stg3_0
abbrev wqM : Memref sig .tc .vmem S1024x1024 .f32 := Memref.whole cc0_scratch0
abbrev woM : Memref sig .tc .vmem S1024x1024 .f32 := Memref.whole cc0_scratch1
abbrev xbM : Memref sig .tc .vmem S1024x1024 .bf16 := Memref.whole cc0_scratch2
abbrev wqbM : Memref sig .tc .vmem S1024x1024 .bf16 := Memref.whole cc0_scratch3
abbrev wobM : Memref sig .tc .vmem S1024x1024 .bf16 := Memref.whole cc0_scratch4
abbrev kbM : Memref sig .tc .vmem S1024x1024 .bf16 := Memref.whole cc0_scratch5
abbrev vbM : Memref sig .tc .vmem S1024x1024 .bf16 := Memref.whole cc0_scratch6
abbrev ctxM : Memref sig .tc .vmem S1024x1024 .bf16 := Memref.whole cc0_scratch7
abbrev pM : Memref sig .tc .vmem S1024x1024 .bf16 := Memref.whole cc0_scratch8
abbrev bsM : Memref sig .tc .vmem S128x1024 .bf16 := Memref.whole cc0_scratch9
abbrev rsM : Memref sig .tc .vmem S8x128x1024 .bf16 := Memref.whole cc0_scratch10
abbrev bcM : Memref sig .tc .vmem S8x128x1024 .bf16 := Memref.whole cc0_scratch11
abbrev wqS : Memref sig .tc .hbm S1024x8192 .f32 := Memref.whole main_arg1
abbrev woS : Memref sig .tc .hbm S8192x1024 .f32 := Memref.whole main_arg4

/-- The block of the query projection that device `c` copies in: its 1024 columns. -/
abbrev wqB (c : Dev nD) : Memref sig .tc .hbm S1024x1024 .f32 :=
  wqS.slice (Rect.unit (s := S1024x8192) (k0_off1 c) S1024x1024.size (k0_off1_inb c)) (fun _ => rfl)
/-- The block of the output projection that device `c` copies in: its 1024 rows. -/
abbrev woB (c : Dev nD) : Memref sig .tc .hbm S1024x1024 .f32 :=
  woS.slice (Rect.unit (s := S8192x1024) (k0_off2 c) S1024x1024.size (k0_off2_inb c)) (fun _ => rfl)

theorem inbC (p : Dev nD) : ∀ a, (![128 * p.val, 0] : Fin 2 → ℕ) a + S128x1024.size a ≤ S1024x1024.size a := by
  revert p; decide
theorem inbS3 (p : Dev nD) : ∀ a, (![p.val, 0, 0] : Fin 3 → ℕ) a + S1x128x1024.size a ≤ S8x128x1024.size a := by
  revert p; decide
theorem inbS8 (p : Dev nD) : ∀ a, (![p.val] : Fin 1 → ℕ) a + S1.size a ≤ S8.size a := by
  revert p; decide
theorem inbS2 (b : Fin 2) : ∀ a, (![b.val] : Fin 1 → ℕ) a + S1.size a ≤ S2.size a := by
  revert b; decide

/-- Rows `128 p` to `128 p + 127` of the partial result: what goes to device `p`. -/
abbrev chunkV (p : Dev nD) : Memref sig .tc .vmem S128x1024 .bf16 :=
  pM.slice (Rect.unit (s := S1024x1024) ![128 * p.val, 0] S128x1024.size (inbC p)) (fun _ => rfl)
/-- Slab `p` of the reduce buffer: where device `p`'s partial rows land. -/
abbrev slabR (p : Dev nD) : Memref sig .tc .vmem S128x1024 .bf16 :=
  (rsM.slice (Rect.unit (s := S8x128x1024) ![p.val, 0, 0] S1x128x1024.size (inbS3 p)) (fun _ => rfl)).squeeze S128x1024
    squeezes_S1x128x1024_S128x1024
/-- Slab `p` of the broadcast buffer: where device `p`'s reduced rows land. -/
abbrev slabB (p : Dev nD) : Memref sig .tc .vmem S128x1024 .bf16 :=
  (bcM.slice (Rect.unit (s := S8x128x1024) ![p.val, 0, 0] S1x128x1024.size (inbS3 p)) (fun _ => rfl)).squeeze S128x1024
    squeezes_S1x128x1024_S128x1024

/-! ## Semaphores -/

abbrev barS : Sem sig := (SemArray.scalar (sig.barrier 0 rfl) : Sems sig S_).sem
set_option backward.proofsInPublic true in
abbrev ldS (b : Fin 2) : DmaSem sig :=
  ((cc0_scratch12.slice (Rect.unit (s := S2) ![b.val] S1.size (inbS2 b))).squeeze S_ squeezes_S1_S_).sem
set_option backward.proofsInPublic true in
abbrev sndS (i : Dev nD) : DmaSem sig :=
  ((cc0_scratch13.slice (Rect.unit (s := S8) ![i.val] S1.size (inbS8 i))).squeeze S_ squeezes_S1_S_).sem
set_option backward.proofsInPublic true in
abbrev rcvS (p : Dev nD) : DmaSem sig :=
  ((cc0_scratch14.slice (Rect.unit (s := S8) ![p.val] S1.size (inbS8 p))).squeeze S_ squeezes_S1_S_).sem
set_option backward.proofsInPublic true in
abbrev bsndS (q : Dev nD) : DmaSem sig :=
  ((cc0_scratch15.slice (Rect.unit (s := S8) ![q.val] S1.size (inbS8 q))).squeeze S_ squeezes_S1_S_).sem
set_option backward.proofsInPublic true in
abbrev brcvS (p : Dev nD) : DmaSem sig :=
  ((cc0_scratch16.slice (Rect.unit (s := S8) ![p.val] S1.size (inbS8 p))).squeeze S_ squeezes_S1_S_).sem

theorem ldS_val : ∀ b : Fin 2, (ldS b).val = 4 + b.val := by decide
theorem sndS_val : ∀ i : Dev nD, (sndS i).val = 6 + i.val := by decide
theorem rcvS_val : ∀ i : Dev nD, (rcvS i).val = 14 + i.val := by decide
theorem bsndS_val : ∀ i : Dev nD, (bsndS i).val = 22 + i.val := by decide
theorem brcvS_val : ∀ i : Dev nD, (brcvS i).val = 30 + i.val := by decide

/-! ## Contents -/

/-- The staged blocks: the whole of `x`, and this device's block of keys and of values. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg2))
def vstg (c : Dev nD) : (cc0_stg2_0 : Ref sig .tc).ty.Contents (Elt F) :=
  (win0_2.blk (0 : Fin 1)).view.read (Elt F) (m ((c : Thread nD τ).loc main_arg3))
/-- The device's blocks of the two weights, as the kernel's own copies bring them in. -/
def wqV (c : Dev nD) : (cc0_scratch0 : Ref sig .tc).ty.Contents (Elt F) :=
  (wqB c).view.read (Elt F) (m ((c : Thread nD τ).loc main_arg1))
def woV (c : Dev nD) : (cc0_scratch1 : Ref sig .tc).ty.Contents (Elt F) :=
  (woB c).view.read (Elt F) (m ((c : Thread nD τ).loc main_arg4))

/-- The five operands rounded. -/
def xbV (c : Dev nD) : FVec F S1024x1024 .bf16 := k0_pay1 (xstg m c)
def kbV (c : Dev nD) : FVec F S1024x1024 .bf16 := k0_pay2 (kstg m c)
def vbV (c : Dev nD) : FVec F S1024x1024 .bf16 := k0_pay3 (vstg m c)
def wqbV (c : Dev nD) : FVec F S1024x1024 .bf16 := k0_pay5 (k0_pay4 (wqV m c))
def wobV (c : Dev nD) : FVec F S1024x1024 .bf16 := k0_pay6 (woV m c)

/-- The tile of 256 rows device `c` computes at its step `r`: its own pair's tile comes last. -/
def tileOf (c : Dev nD) (r : Fin 4) : ℕ := (c.val / 2 + r.val + 1) % 4
/-- The first key row of that tile's window. -/
def kst (c : Dev nD) (r : Fin 4) : ℕ := min (256 * tileOf c r - 128) 512

theorem tileOf_lt (c : Dev nD) (r : Fin 4) : tileOf c r < 4 := Nat.mod_lt _ (by decide)

theorem inbT (c : Dev nD) (r : Fin 4) :
    ∀ a, (![256 * tileOf c r, 0] : Fin 2 → ℕ) a + S256x1024.size a ≤ S1024x1024.size a := by revert c r; decide
theorem inbH (c : Dev nD) (r : Fin 4) (h : Fin 8) :
    ∀ a, (![256 * tileOf c r, 128 * h.val] : Fin 2 → ℕ) a + S256x128.size a ≤ S1024x1024.size a := by revert c r h; decide
theorem inbK (c : Dev nD) (r : Fin 4) (h : Fin 8) :
    ∀ a, (![kst c r, 128 * h.val] : Fin 2 → ℕ) a + S512x128.size a ≤ S1024x1024.size a := by revert c r h; decide

abbrev rectT (c : Dev nD) (r : Fin 4) : Rect S1024x1024 := Rect.unit (s := S1024x1024) ![256 * tileOf c r, 0] S256x1024.size (inbT c r)
abbrev rectH (c : Dev nD) (r : Fin 4) (h : Fin 8) : Rect S1024x1024 :=
  Rect.unit (s := S1024x1024) ![256 * tileOf c r, 128 * h.val] S256x128.size (inbH c r h)
abbrev rectK (c : Dev nD) (r : Fin 4) (h : Fin 8) : Rect S1024x1024 :=
  Rect.unit (s := S1024x1024) ![kst c r, 128 * h.val] S512x128.size (inbK c r h)

/-- The tile's rows of `x`; a head's window of keys and of values. -/
def xT (c : Dev nD) (r : Fin 4) : Vec F S256x1024 .bf16 := xbM.view.readAt (Elt F) (rectT c r).toLoadRect (xbV m c)
def kT (c : Dev nD) (r : Fin 4) (h : Fin 8) : Vec F S512x128 .bf16 := kbM.view.readAt (Elt F) (rectK c r h).toLoadRect (kbV m c)
def vT (c : Dev nD) (r : Fin 4) (h : Fin 8) : Vec F S512x128 .bf16 := vbM.view.readAt (Elt F) (rectK c r h).toLoadRect (vbV m c)

/-- The kernel's word for its own device. -/
def word2 (c : Dev nD) : BitVec 32 := Scalar.remsi (Scalar.divsi (Dev.word c) 1#32) 8#32
/-- The first row of the tile, as the kernel computes it. -/
def rowW (c : Dev nD) (r : BitVec 32) : BitVec 32 :=
  Scalar.muli (Scalar.remsi (Scalar.addi (Scalar.addi (Scalar.divsi (word2 c) 2#32) 1#32) r) 4#32) 256#32
/-- Which pairs of a tile row and a window key lie within 128 of each other. -/
def maskV (c : Dev nD) (r : BitVec 32) : IVec S256x512 1 :=
  cmpi .sle (absi (subi (addi (broadcast S256x512 (rowW c r)) (iota .tc S256x512 32 [0] iota_S256x512_d0_w32))
    (addi (broadcast S256x512 (Scalar.minsi 512#32 (Scalar.maxsi 0#32 (Scalar.subi (rowW c r) 128#32)))) (iota .tc S256x512 32 [1] iota_S256x512_d1_w32))))
    (broadcast S256x512 128#32)

/-- The queries of a tile, all eight heads side by side. -/
def qV (c : Dev nD) (r : Fin 4) : FVec F S256x1024 .f32 := k0_pay7 (xT m c r) (wqbV m c)
/-- One head's columns of them. -/
def qcol (h : Fin 8) (q : FVec F S256x1024 .f32) : FVec F S256x128 .f32 :=
  match h with
  | 0 => extractStridedSlice S256x128 ![0, 0] q slices_S256x1024_o0_0_S256x128
  | 1 => extractStridedSlice S256x128 ![0, 128] q slices_S256x1024_o0_128_S256x128
  | 2 => extractStridedSlice S256x128 ![0, 256] q slices_S256x1024_o0_256_S256x128
  | 3 => extractStridedSlice S256x128 ![0, 384] q slices_S256x1024_o0_384_S256x128
  | 4 => extractStridedSlice S256x128 ![0, 512] q slices_S256x1024_o0_512_S256x128
  | 5 => extractStridedSlice S256x128 ![0, 640] q slices_S256x1024_o0_640_S256x128
  | 6 => extractStridedSlice S256x128 ![0, 768] q slices_S256x1024_o0_768_S256x128
  | 7 => extractStridedSlice S256x128 ![0, 896] q slices_S256x1024_o0_896_S256x128
/-- One head's attention over its window. -/
def headF (h : Fin 8) (msk : IVec S256x512 1) (q : FVec F S256x1024 .f32) (k v : Vec F S512x128 .bf16) : FVec F S256x128 .bf16 :=
  k0_pay10 msk (truncf .bf16 (qcol h q) bitsLt_bf16_f32) k v
def headV (c : Dev nD) (r : Fin 4) (h : Fin 8) : FVec F S256x128 .bf16 :=
  headF h (maskV c (BitVec.ofNat 32 r.val)) (qV m c r) (kT m c r h) (vT m c r h)

set_option backward.proofsInPublic true in
/-- The step at which device `c` computes tile `t`. -/
def stepOf (c : Dev nD) (t : ℕ) : Fin 4 := ⟨(t + 7 - c.val / 2) % 4, Nat.mod_lt _ (by decide)⟩
theorem stepOf_tileOf (c : Dev nD) (r : Fin 4) : stepOf c (tileOf c r) = r := by revert c r; decide

/-- The attention output of all eight heads, over all rows. -/
def ctxV (c : Dev nD) : (cc0_scratch7 : Ref sig .tc).ty.Contents (Elt F) := fun x : S1024x1024.Idx =>
  headV m c (stepOf c ((x 0).val / 256)) ⟨(x 1).val / 128, by have h : (x 1).val < 1024 := (x 1).isLt; show _ < 8; omega⟩
    (ix2 ⟨(x 0).val % 256, Nat.mod_lt _ (by decide)⟩ ⟨(x 1).val % 128, Nat.mod_lt _ (by decide)⟩)
/-- The tile's rows of it. -/
def cT (c : Dev nD) (r : Fin 4) : Vec F S256x1024 .bf16 := ctxM.view.readAt (Elt F) (rectT c r).toLoadRect (ctxV m c)
/-- The projected tile: device `c`'s part of the result, over the tile's rows. -/
def pT (c : Dev nD) (r : Fin 4) : FVec F S256x1024 .bf16 := k0_pay25 (cT m c r) (wobV m c)
/-- Device `c`'s part of the result, over all rows. -/
def pV (c : Dev nD) : (cc0_scratch8 : Ref sig .tc).ty.Contents (Elt F) := fun x : S1024x1024.Idx =>
  pT m c (stepOf c ((x 0).val / 256)) (ix2 ⟨(x 0).val % 256, Nat.mod_lt _ (by decide)⟩ (x 1))

set_option backward.proofsInPublic true in
/-- What the reduce buffer of device `c` holds: slab `p` is device `p`'s part of rows `128 c` on. -/
def rsV (c : Dev nD) : (cc0_scratch10 : Ref sig .tc).ty.Contents (Elt F) := fun x : S8x128x1024.Idx =>
  pV m (x 0) (ix2 (n0 := 1024) ⟨128 * c.val + (x 1).val, by
    have h : (x 1).val < 128 := (x 1).isLt; have h' : c.val < 8 := c.isLt; omega⟩ (x 2))
/-- The rows device `c` keeps for itself. -/
def ownV (c : Dev nD) : Vec F S128x1024 .bf16 :=
  pM.view.readAt (Elt F) (Rect.unit (s := S1024x1024) ![128 * c.val, 0] S128x1024.size (inbC c)).toLoadRect (pV m c)
def slR (p : Dev nD) (f : (cc0_scratch10 : Ref sig .tc).ty.Contents (Elt F)) : Vec F S1x128x1024 .bf16 :=
  rsM.view.readAt (Elt F) (Rect.unit (s := S8x128x1024) ![p.val, 0, 0] S1x128x1024.size (inbS3 p)).toLoadRect f
def slB (p : Dev nD) (f : (cc0_scratch11 : Ref sig .tc).ty.Contents (Elt F)) : Vec F S1x128x1024 .bf16 :=
  bcM.view.readAt (Elt F) (Rect.unit (s := S8x128x1024) ![p.val, 0, 0] S1x128x1024.size (inbS3 p)).toLoadRect f

/-- The sum of the eight parts of rows `128 c` on, from a reduce buffer's contents. -/
def red32F (c : Dev nD) (f : (cc0_scratch10 : Ref sig .tc).ty.Contents (Elt F)) : FVec F S128x1024 .f32 :=
  k0_pay84 (word2 c) (ownV m c) (k0_pay83 (word2 c) (ownV m c) (slR 0 f) (slR 1 f) (slR 2 f) (slR 3 f) (slR 4 f))
    (Scalar.cmpi .eq (word2 c) 5#32) (slR 5 f) (slR 6 f) (slR 7 f)
def red16F (c : Dev nD) (f : (cc0_scratch10 : Ref sig .tc).ty.Contents (Elt F)) : FVec F S128x1024 .bf16 :=
  k0_pay85 (word2 c) (ownV m c) (k0_pay83 (word2 c) (ownV m c) (slR 0 f) (slR 1 f) (slR 2 f) (slR 3 f) (slR 4 f))
    (Scalar.cmpi .eq (word2 c) 5#32) (slR 5 f) (slR 6 f) (slR 7 f)
def red32 (c : Dev nD) : FVec F S128x1024 .f32 := red32F m c (rsV m c)
def red16 (c : Dev nD) : (cc0_scratch9 : Ref sig .tc).ty.Contents (Elt F) := red16F m c (rsV m c)

/-- What every broadcast buffer holds: slab `p` is device `p`'s reduced rows. -/
def bcV : (cc0_scratch11 : Ref sig .tc).ty.Contents (Elt F) := fun x : S8x128x1024.Idx =>
  red16 m (x 0) (ix2 (x 1) (x 2))
/-- The result on device `c`: its own rows as summed, the others' as broadcast. -/
def outV (c : Dev nD) : (cc0_stg3_0 : Ref sig .tc).ty.Contents (Elt F) := fun x : S1024x1024.Idx =>
  if (x 0).val / 128 = c.val then red32 m c (ix2 ⟨(x 0).val % 128, Nat.mod_lt _ (by decide)⟩ (x 1))
  else k0_pay86 (slB ⟨(x 0).val / 128, by have h : (x 0).val < 1024 := (x 0).isLt; show _ < 8; omega⟩ (bcV m))
    (ix2 ⟨(x 0).val % 128, Nat.mod_lt _ (by decide)⟩ (x 1))

end Cert.KernelRun
-- ==== Proof.Sched.lean ====
/-
  The protocol: one round at each semaphore the devices meet at, what each paid amount hands over, and
  the levels at which a device may wait.
-/
module

public import proofs.«01_k».proof.Proof.Base

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

/-! ## Who sends what to whom -/

set_option backward.proofsInPublic true in
/-- The device the `i`-th send of device `c` goes to. -/
def tgt (c : Dev nD) (i : Dev nD) : Dev nD := ⟨2 * ((c.val / 2 + i.val / 2 + 1) % 4) + i.val % 2, by
  show _ < 8; omega⟩

/-! ## The cells -/

/-- What a semaphore of the protocol is for. -/
inductive Ck
  | ld (b : Fin 2) | snd (i : Dev nD) | rcv (p : Dev nD) | bsnd (q : Dev nD) | brcv (p : Dev nD) | bar
  deriving DecidableEq, Fintype

/-- The semaphore of a purpose. -/
def semOf : Ck → SemLoc sig
  | .ld b => .dma (ldS b) | .snd i => .dma (sndS i) | .rcv p => .dma (rcvS p)
  | .bsnd q => .dma (bsndS q) | .brcv p => .dma (brcvS p) | .bar => .reg barS

set_option backward.proofsInPublic true in
def ixOf (n : ℕ) : Dev nD := ⟨(n + 2) % 8, Nat.mod_lt _ (by decide)⟩
set_option backward.proofsInPublic true in
/-- The purpose of a semaphore; the pipeline's own have none. -/
def kind : SemLoc sig → Option Ck
  | .reg _ => some .bar
  | .dma s =>
    if s.val < 4 then none
    else if s.val < 6 then some (.ld ⟨s.val % 2, Nat.mod_lt _ (by decide)⟩)
    else if s.val < 14 then some (.snd (ixOf s.val))
    else if s.val < 22 then some (.rcv (ixOf s.val))
    else if s.val < 30 then some (.bsnd (ixOf s.val))
    else some (.brcv (ixOf s.val))

theorem kind_semOf (k : Ck) : kind (semOf k) = some k := by
  cases k with
  | ld b => revert b; decide
  | snd b => revert b; decide
  | rcv b => revert b; decide
  | bsnd b => revert b; decide
  | brcv b => revert b; decide
  | bar => rfl

theorem semOf_injective : Function.Injective semOf := fun a b h =>
  Option.some.inj ((kind_semOf a).symm.trans ((congrArg kind h).trans (kind_semOf b)))

abbrev cell (c : Dev nD) (k : Ck) : GSem nD τ sig := ((c : Thread nD τ), semOf k)

theorem cell_inj {c c' : Dev nD} {k k' : Ck} (h : cell c k = cell c' k') : c = c' ∧ k = k' := by
  have h1 : (c : Thread nD τ) = c' := congrArg Prod.fst h
  exact ⟨congrArg Prod.fst h1, semOf_injective (congrArg Prod.snd h)⟩

/-! ## Amounts -/

/-- The credit of a copy of one weight block, and of 128 rows of 1024 rounded values. -/
def NL : ℕ := (wqM : Memref sig .tc .vmem S1024x1024 .f32).view.dmaCredit
def NC : ℕ := (bsM : Memref sig .tc .vmem S128x1024 .bf16).view.dmaCredit
theorem NL_pos : 0 < NL := by unfold NL; exact View.dmaCredit_pos _ (by decide)
theorem NC_pos : 0 < NC := by unfold NC; exact View.dmaCredit_pos _ (by decide)

/-! ## Payloads -/

/-- Device `c`'s elements of a memref, at a share, holding `f`. -/
def mpts {sp : Space} {s : Shape} {e : EltTy} (c : Dev nD) (M : Memref sig .tc sp s e) (q : PosShare TreeShare)
    (f : Buf (Elt F) (M.view.loc (c : Thread nD τ))) : sProp 𝕄 := M.view.loc (c : Thread nD τ) ↦[M.view.set]{q} f

instance mpts_storable {sp : Space} {s : Shape} {e : EltTy} (c : Dev nD) (M : Memref sig .tc sp s e) (q : PosShare TreeShare)
    (f : Buf (Elt F) (M.view.loc (c : Thread nD τ))) : BI.Storable (upEmb : UEmb _ 𝕄) (mpts c M q f) := by unfold mpts; infer_instance

/-- One eighth of the reduced rows, read by the `q`-th broadcast. -/
def bshare (q : Dev nD) : PosShare TreeShare := ShareLeaves.leaf 3 fullShare q

/-- What the signal of device `p` hands the device signalled, `c`: `p`'s slabs for what `c` sends. -/
def barPay (c p : Dev nD) : sProp 𝕄 := iprop((∃ f, mpts p (slabR c) fullShare f) ∗ (∃ f, mpts p (slabB c) fullShare f))
def ldPay (c : Dev nD) (b : Fin 2) : sProp 𝕄 := match b with
  | 0 => iprop(mpts c wqM fullShare (wqV m c) ∗ mpts c (wqB c) fullShare (m ((c : Thread nD τ).loc main_arg1)))
  | 1 => iprop(mpts c woM fullShare (woV m c) ∗ mpts c (woB c) fullShare (m ((c : Thread nD τ).loc main_arg4)))
def sndPay (c i : Dev nD) : sProp 𝕄 := mpts c (chunkV (tgt c i)) fullShare (pV m c)
def rcvPay (c p : Dev nD) : sProp 𝕄 := mpts c (slabR p) fullShare (rsV m c)
def bsndPay (c q : Dev nD) : sProp 𝕄 := mpts c bsM (bshare q) (red16 m c)
def brcvPay (c p : Dev nD) : sProp 𝕄 := mpts c (slabB p) fullShare (bcV m)

instance barPay_storable (c p : Dev nD) : BI.Storable (upEmb : UEmb _ 𝕄) (barPay (F := F) c p) := by unfold barPay; infer_instance
instance ldPay_storable (c : Dev nD) (b : Fin 2) : BI.Storable (upEmb : UEmb _ 𝕄) (ldPay m c b) := by
  unfold ldPay; split <;> infer_instance
instance sndPay_storable (c p : Dev nD) : BI.Storable (upEmb : UEmb _ 𝕄) (sndPay m c p) := by unfold sndPay; infer_instance
instance rcvPay_storable (c p : Dev nD) : BI.Storable (upEmb : UEmb _ 𝕄) (rcvPay m c p) := by unfold rcvPay; infer_instance
instance bsndPay_storable (c p : Dev nD) : BI.Storable (upEmb : UEmb _ 𝕄) (bsndPay m c p) := by unfold bsndPay; infer_instance
instance brcvPay_storable (c p : Dev nD) : BI.Storable (upEmb : UEmb _ 𝕄) (brcvPay m c p) := by unfold brcvPay; infer_instance

/-! ## The schedule -/

def dutiesOf (c : Dev nD) : Option Ck → Finset (Dev nD)
  | none => ∅
  | some (.ld _) => {c}
  | some (.snd i) => if tgt c i ≠ c then {c} else ∅
  | some (.rcv p) => if p ≠ c then {p} else ∅
  | some (.bsnd q) => if q ≠ c then {c} else ∅
  | some (.brcv p) => if p ≠ c then {p} else ∅
  | some .bar => Finset.univ.erase c
def amountOf : Option Ck → ℕ
  | some .bar => 1
  | some (.ld _) => NL
  | _ => NC
def payOf (c : Dev nD) (d : Dev nD) : Option Ck → sProp 𝕄
  | none => iprop(emp)
  | some (.ld b) => ldPay m c b
  | some (.snd i) => sndPay m c i
  | some (.rcv p) => rcvPay m c p
  | some (.bsnd q) => bsndPay m c q
  | some (.brcv p) => brcvPay m c p
  | some .bar => barPay c d

theorem amountOf_pos (k : Option Ck) : 0 < amountOf k := by
  unfold amountOf
  split
  · exact Nat.one_pos
  · exact NL_pos
  · exact NC_pos

def rd : Rounds.Schedule (GSem nD τ sig) (Dev nD) 𝕄 where
  duties g r := if r = 0 ∧ g.1.2 = .tc then dutiesOf g.1.1 (kind g.2) else ∅
  unitless _ := False
  amount g _ _ := amountOf (kind g.2)
  payload g _ d := payOf m g.1.1 d (kind g.2)
  amount_pos g _ _ _ := amountOf_pos _

instance rd_payload_storable (g : GSem nD τ sig) (r : ℕ) (d : Dev nD) :
    BI.Storable (upEmb : UEmb _ 𝕄) ((rd m).payload g r d) := by
  show BI.Storable upEmb (payOf m g.1.1 d (kind g.2))
  unfold payOf
  split <;> infer_instance

theorem duties_cell (c : Dev nD) (k : Ck) : (rd m).duties (cell c k) 0 = dutiesOf c (some k) := by
  dsimp only [rd]; rw [if_pos ⟨rfl, rfl⟩]; show dutiesOf c (kind (semOf k)) = _; rw [kind_semOf]
theorem amount_cell (c : Dev nD) (k : Ck) (r : ℕ) (d : Dev nD) : (rd m).amount (cell c k) r d = amountOf (some k) := by
  show amountOf (kind (semOf k)) = _; rw [kind_semOf]
theorem payload_cell (c : Dev nD) (k : Ck) (r : ℕ) (d : Dev nD) : (rd m).payload (cell c k) r d = payOf m c d (some k) := by
  show payOf m c d (kind (semOf k)) = _; rw [kind_semOf]
theorem duties_later (g : GSem nD τ sig) : ∀ r, 1 ≤ r → (rd m).duties g r = ∅ :=
  fun r hr => by dsimp only [rd]; rw [if_neg fun h => by omega]

theorem expect_cell (c : Dev nD) (k : Ck) : (rd m).expect (cell c k) 0 = (dutiesOf c (some k)).card * amountOf (some k) := by
  unfold Schedule.expect Schedule.amountOf
  rw [duties_cell, Finset.sum_congr rfl fun d _ => amount_cell m c k 0 d, Finset.sum_const, smul_eq_mul]

theorem rest_cell (c : Dev nD) (k : Ck) :
    bigSep ((rd m).duties (cell c k) 0 \ ∅) (fun d => (rd m).payload (cell c k) 0 d)
      = bigSep (dutiesOf c (some k)) fun d => payOf m c d (some k) := by
  rw [Finset.sdiff_empty, duties_cell]
  exact congrArg (bigSep _) (funext fun d => payload_cell m c k 0 d)

/-! ## What each device owes at launch; the levels -/

/-- The devices from `k` on other than `c`. -/
def rest (c : Dev nD) (k : ℕ) : Finset (Dev nD) := Finset.univ.filter fun q => k ≤ q.val ∧ q ≠ c

theorem rest_zero (c : Dev nD) : rest c 0 = Finset.univ.erase c := by revert c; decide +kernel
theorem rest_end (c : Dev nD) : rest c 8 = ∅ := by revert c; decide +kernel
theorem rest_self (c : Dev nD) : rest c c.val = rest c (c.val + 1) := by revert c; decide +kernel
theorem rest_step (c p : Dev nD) (h : p ≠ c) : rest c p.val = insert p (rest c (p.val + 1)) := by revert c p; decide +kernel
theorem rest_not_mem (c p : Dev nD) : p ∉ rest c (p.val + 1) := by revert c p; decide +kernel

/-- The sends of device `c` from the `k`-th on that leave it. -/
def restS (c : Dev nD) (k : ℕ) : Finset (Dev nD) := Finset.univ.filter fun i => k ≤ i.val ∧ tgt c i ≠ c
theorem restS_end (c : Dev nD) : restS c 8 = ∅ := by revert c; decide +kernel
theorem restS_self (c i : Dev nD) (h : tgt c i = c) : restS c i.val = restS c (i.val + 1) := by revert c i; decide +kernel
theorem restS_step (c i : Dev nD) (h : tgt c i ≠ c) : restS c i.val = insert i (restS c (i.val + 1)) := by revert c i; decide +kernel
theorem restS_not_mem (c i : Dev nD) : i ∉ restS c (i.val + 1) := by revert c i; decide +kernel
theorem tgt_injective (c : Dev nD) : Function.Injective (tgt c) := by revert c; decide +kernel
theorem restS_image (c : Dev nD) : (restS c 0).image (tgt c) = Finset.univ.erase c := by revert c; decide +kernel

/-- What device `c` still owes: the ready signals from device `a` on, the parts from its `b`-th send on, and the reduced
    rows from device `d` on. -/
def owed (c : Dev nD) (a b d : ℕ) : CellTallies nD τ sig Unit :=
  (∑ q ∈ rest c d, tallyAt (cell q (.brcv c)) () NC) + ((∑ i ∈ restS c b, tallyAt (cell (tgt c i) (.rcv c)) () NC)
    + ∑ q ∈ rest c a, tallyAt (cell q .bar) () 1)

theorem owed_end (c : Dev nD) : owed c 8 8 8 = 0 := by
  unfold owed; rw [rest_end, restS_end, Finset.sum_empty, Finset.sum_empty, Finset.sum_empty, add_zero, add_zero]
theorem owed_bar (c p : Dev nD) (h : p ≠ c) (b d : ℕ) : owed c p.val b d = owed c (p.val + 1) b d + tallyAt (cell p .bar) () 1 := by
  unfold owed; rw [rest_step c p h, Finset.sum_insert (rest_not_mem c p)]; abel
theorem owed_bar_self (c : Dev nD) (b d : ℕ) : owed c c.val b d = owed c (c.val + 1) b d := by unfold owed; rw [rest_self c]
theorem owed_rcv (c i : Dev nD) (h : tgt c i ≠ c) (a d : ℕ) :
    owed c a i.val d = owed c a (i.val + 1) d + tallyAt (cell (tgt c i) (.rcv c)) () NC := by
  unfold owed; rw [restS_step c i h, Finset.sum_insert (restS_not_mem c i)]; abel
theorem owed_rcv_self (c i : Dev nD) (h : tgt c i = c) (a d : ℕ) : owed c a i.val d = owed c a (i.val + 1) d := by
  unfold owed; rw [restS_self c i h]
theorem owed_brcv (c p : Dev nD) (h : p ≠ c) (a b : ℕ) :
    owed c a b p.val = owed c a b (p.val + 1) + tallyAt (cell p (.brcv c)) () NC := by
  unfold owed; rw [rest_step c p h, Finset.sum_insert (rest_not_mem c p)]; abel
theorem owed_brcv_self (c : Dev nD) (a b : ℕ) : owed c a b c.val = owed c a b (c.val + 1) := by unfold owed; rw [rest_self c]

def L (g : GSem nD τ sig) : Finset Unit := if g.1.2 = .tc then {()} else ∅
/-- Ready signals at level 1, arriving parts at 2, arriving reduced rows at 3, everything else at 0. -/
def lvK : Option Ck → ℕ
  | some .bar => 1
  | some (.rcv _) => 2
  | some (.brcv _) => 3
  | _ => 0
def lv (g : GSem nD τ sig) (_ : Unit) : ℕ := lvK (kind g.2)

theorem lv_cell (c : Dev nD) (k : Ck) (u : Unit) : lv (cell c k) u = lvK (some k) := by
  show lvK (kind (semOf k)) = _; rw [kind_semOf]

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {ι : Type} [DecidableEq ι] (S : Finset ι) (k : ι → GSem nD τ sig) (n : ℕ) {g : GSem nD τ sig} {u : Unit}
    (h : 0 < (∑ i ∈ S, (tallyAt (k i) () n : CellTallies nD τ sig Unit)) g u) : ∃ i ∈ S, g = k i := by
  induction S using Finset.induction_on with
  | empty => rw [Finset.sum_empty] at h; exact absurd h (Nat.lt_irrefl 0)
  | insert a S ha ih =>
    rw [Finset.sum_insert ha, Pi.add_apply, Finsupp.add_apply, tallyAt_apply] at h
    by_cases hg : g = k a
    · exact ⟨a, Finset.mem_insert_self _ _, hg⟩
    · rw [if_neg fun h' => hg h'.1, zero_add] at h
      obtain ⟨i, hi, e⟩ := ih h
      exact ⟨i, Finset.mem_insert_of_mem hi, e⟩

theorem owed_pos {c : Dev nD} {a b d : ℕ} {g : GSem nD τ sig} {u : Unit} (h : 0 < owed c a b d g u) :
    (∃ q, g = cell q (.brcv c) ∧ rest c d ≠ ∅) ∨ (∃ q, g = cell q (.rcv c) ∧ restS c b ≠ ∅) ∨ (∃ q, g = cell q .bar ∧ rest c a ≠ ∅) := by
  unfold owed at h
  rw [Pi.add_apply, Finsupp.add_apply, Pi.add_apply, Finsupp.add_apply] at h
  rcases Nat.eq_zero_or_pos ((∑ q ∈ rest c d, (tallyAt (cell q (.brcv c)) () NC : CellTallies nD τ sig Unit)) g u) with h1 | h1
  · rcases Nat.eq_zero_or_pos ((∑ i ∈ restS c b, (tallyAt (cell (tgt c i) (.rcv c)) () NC : CellTallies nD τ sig Unit)) g u) with h2 | h2
    · rw [h1, h2, zero_add, zero_add] at h
      obtain ⟨q, hq, e⟩ := tally_sum_pos _ _ _ h
      exact .inr (.inr ⟨q, e, Finset.ne_empty_of_mem hq⟩)
    · obtain ⟨q, hq, e⟩ := tally_sum_pos _ _ _ h2
      exact .inr (.inl ⟨_, e, Finset.ne_empty_of_mem hq⟩)
  · obtain ⟨q, hq, e⟩ := tally_sum_pos _ _ _ h1
    exact .inl ⟨_, e, Finset.ne_empty_of_mem hq⟩

/-- A wait whose level is below everything still owed may be entered. -/
theorem mayWait_owed (c : Dev nD) (sm : SemLoc sig) (a b d : ℕ) (n : ℕ) (hn : lvK (kind sm) ≤ n)
    (ha : rest c a ≠ ∅ → n < 1) (hb : restS c b ≠ ∅ → n < 2) (hd : rest c d ≠ ∅ → n < 3) :
    (levAts L lv : sProp 𝕄) ⊢ MayWait (c : Thread nD τ) sm () (owed c a b d) :=
  MayOwe.of_cut (L := L) (lev := lv) n (fun p hp => by rw [Finset.mem_singleton.mp hp, L_tc]; exact Finset.mem_singleton_self _)
    (fun g u hg => by rcases owed_pos hg with ⟨q, rfl, _⟩ | ⟨q, rfl, _⟩ | ⟨q, rfl, _⟩ <;> exact Finset.mem_singleton_self _)
    (fun p hp => by rw [Finset.mem_singleton.mp hp]; exact hn)
    (fun g u hg => by
      rcases owed_pos hg with ⟨q, rfl, h⟩ | ⟨q, rfl, h⟩ | ⟨q, rfl, h⟩
      · rw [lv_cell]; exact hd h
      · rw [lv_cell]; exact hb h
      · rw [lv_cell]; exact ha h)

end Cert.KernelRun
-- ==== Proof.Tile.lean ====
/-
  The attention of one tile: the rules that pass the tile's state along the kernel's loads and stores.
-/
module

public import proofs.«01_k».proof.Proof.Sched

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

/-! ## Rules that pass a state along a program -/

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem seq_step {c : Dev nD} {α β : Type} {P : sProp 𝕄} {p : Prog (TpuEff nD τ sig (Elt F) Λ₀ .tc) α}
    {k : α → Prog (TpuEff nD τ sig (Elt F) Λ₀ .tc) β} {Q : β → sProp 𝕄}
    (h : P ⊢ wpc c p (fun a => wpc c (k a) Q)) : P ⊢ wpc c (p >>= k) Q := by
  unfold wpc at h ⊢; rw [wp_bind]; exact h

theorem pure_step {c : Dev nD} {α : Type} {P : sProp 𝕄} {a : α} {Q : α → sProp 𝕄} (h : P ⊢ Q a) :
    P ⊢ wpc c (pure a) Q := by
  unfold wpc; rw [wp_pure]; exact h.trans fupd_intro

theorem if_step {c : Dev nD} {α : Type} {X : Prop} [Decidable X] {P : sProp 𝕄} {A : X → Prog (TpuEff nD τ sig (Elt F) Λ₀ .tc) PUnit}
    {J : Prog (TpuEff nD τ sig (Elt F) Λ₀ .tc) α} {Q : α → sProp 𝕄}
    (h : P ⊢ wpc c (if x : X then A x else pure ⟨⟩) (fun _ => wpc c J Q)) :
    P ⊢ wpc c (if x : X then (A x >>= fun _ => J) else J) Q := by
  split
  · rename_i x
    rw [dif_pos x] at h
    exact seq_step h
  · rename_i x
    rw [dif_neg x] at h
    refine h.trans ?_
    unfold wpc
    rw [wp_pure]
    exact (Entails.of_eq (fupd_wp_eq _ _ _ _ _))

/-! ## The state while one tile is computed -/

theorem mpts_whole (c : Dev nD) (b : Ref sig .tc) (q : PosShare TreeShare) (f : Buf (Elt F) ((c : Thread nD τ).loc b)) :
    mpts c (Memref.whole b) q f = (((c : Thread nD τ).loc b) ↦{q} f : sProp 𝕄) := by
  unfold mpts; rw [View.set_whole]

/-- The attention output's buffer once `h` heads of the tile of step `r` are done. -/
def ctxAt (c : Dev nD) (r : Fin 4) (h : ℕ) : sProp 𝕄 :=
  iprop(∃ g : Buf (Elt F) ((c : Thread nD τ).loc cc0_scratch7),
    ⌜∀ x : S1024x1024.Idx, (x 0).val / 256 = tileOf c r → (x 1).val < 128 * h → g x = ctxV m c x⌝ ∗ (((c : Thread nD τ).loc cc0_scratch7) ↦{fullShare} g))

/-- The rounded operands, and the attention output's buffer. -/
def TS (c : Dev nD) (r : Fin 4) (h : ℕ) : sProp 𝕄 :=
  iprop((((c : Thread nD τ).loc cc0_scratch2) ↦{fullShare} xbV m c) ∗ (((c : Thread nD τ).loc cc0_scratch3) ↦{fullShare} wqbV m c)
    ∗ (((c : Thread nD τ).loc cc0_scratch5) ↦{fullShare} kbV m c) ∗ (((c : Thread nD τ).loc cc0_scratch6) ↦{fullShare} vbV m c)
    ∗ (((c : Thread nD τ).loc cc0_scratch4) ↦{fullShare} wobV m c) ∗ ctxAt m c r h)

theorem ctxAt_elim {c : Dev nD} {r : Fin 4} {h : ℕ} {R Z : sProp 𝕄}
    (H : ∀ g : Buf (Elt F) ((c : Thread nD τ).loc cc0_scratch7), (∀ x : S1024x1024.Idx, (x 0).val / 256 = tileOf c r → (x 1).val < 128 * h → g x = ctxV m c x) →
      iprop(R ∗ (((c : Thread nD τ).loc cc0_scratch7) ↦{fullShare} g)) ⊢ Z) : iprop(R ∗ ctxAt m c r h) ⊢ Z := by
  unfold ctxAt
  iintro ⟨HR, %g, %hg, HG⟩
  iapply (H g hg)
  isplitl [HR] <;> iassumption

theorem ctxAt_intro {c : Dev nD} {r : Fin 4} {h : ℕ} {R : sProp 𝕄} (g : Buf (Elt F) ((c : Thread nD τ).loc cc0_scratch7))
    (hg : ∀ x : S1024x1024.Idx, (x 0).val / 256 = tileOf c r → (x 1).val < 128 * h → g x = ctxV m c x) :
    iprop(R ∗ (((c : Thread nD τ).loc cc0_scratch7) ↦{fullShare} g)) ⊢ iprop(R ∗ ctxAt m c r h) := by
  unfold ctxAt
  iintro ⟨HR, HG⟩
  isplitl [HR]; · iexact HR
  iexists g
  isplitr
  · ipureintro; exact hg
  · iexact HG

theorem ctxAt_zero (c : Dev nD) (r r' : Fin 4) (h : ℕ) : ctxAt m c r h ⊢ ctxAt m c r' 0 := by
  unfold ctxAt
  iintro ⟨%g, -, H⟩
  iexists g
  isplitr
  · ipureintro; intro x _ hx; omega
  · iexact H

theorem tile_next (c : Dev nD) (r r' : Fin 4) (h : ℕ) : TS m c r h ⊢ TS m c r' 0 := by
  unfold TS
  iintro ⟨H1, H2, H3, H4, H5, H6⟩
  isplitl [H1]; · iexact H1
  isplitl [H2]; · iexact H2
  isplitl [H3]; · iexact H3
  isplitl [H4]; · iexact H4
  isplitl [H5]; · iexact H5
  iapply (ctxAt_zero m c r r' h); iexact H6

theorem hz : (![0, 0] : Fin 2 → ℕ) = fun _ => 0 := by funext a; match a with | ⟨0, _⟩ => rfl | ⟨1, _⟩ => rfl

/-- A load through a memref whose elements are held in full. -/
theorem load_step {c : Dev nD} {cs : CoreSpace} {s : Shape} {e : EltTy} {M : Memref sig .tc cs s e} {r : LoadRect s} {hl : M.view.LoadsAt r}
    {S : Finset (Idx (M.view.loc (c : Thread nD τ)))} {f : Buf (Elt F) (M.view.loc (c : Thread nD τ))}
    {P R : sProp 𝕄} {Q : (r.shape.Idx → Elt F e) → sProp 𝕄} (hS : M.view.setOn r.set ⊆ S)
    (hP : P ⊢ iprop(R ∗ (M.view.loc (c : Thread nD τ) ↦[S]{fullShare} f)))
    (h : iprop(R ∗ (M.view.loc (c : Thread nD τ) ↦[S]{fullShare} f)) ⊢ Q (M.view.readAt (Elt F) r f)) :
    P ⊢ wpc c (Prog.lift (.load M r hl)) Q := by
  refine hP.trans ?_
  unfold wpc Prog.lift
  iintro ⟨HR, H⟩
  iapply (wp_load 𝒱₀ (c : Thread nD τ) none Set.univ (m := M) hS) $$ H
  iintro H
  rw [wp_ret]
  imodintro
  iapply h
  isplitl [HR]; · iexact HR
  iexact H

/-- A store through a memref whose elements are held in full. -/
theorem store_step {c : Dev nD} {cs : CoreSpace} {s : Shape} {e : EltTy} {M : Memref sig .tc cs s e} {r : Rect s} {w : r.shape.Idx → Elt F e}
    {hx : (M.access r).Stores Finset.univ} {hm}
    {S : Finset (Idx ((M.access r).loc (c : Thread nD τ)))} {f : Buf (Elt F) ((M.access r).loc (c : Thread nD τ))}
    {P R : sProp 𝕄} {Q : PUnit.{1} → sProp 𝕄} (hS : (M.access r).setOn Finset.univ ⊆ S)
    (hP : P ⊢ iprop(R ∗ ((M.access r).loc (c : Thread nD τ) ↦[S]{fullShare} f)))
    (h : iprop(R ∗ ((M.access r).loc (c : Thread nD τ) ↦[S]{fullShare} (M.access r).write (Elt F) f w Finset.univ)) ⊢ Q ⟨⟩) :
    P ⊢ wpc c (Prog.lift (.store M r w Finset.univ hx hm)) Q := by
  refine hP.trans ?_
  unfold wpc Prog.lift
  iintro ⟨HR, H⟩
  iapply (wp_store 𝒱₀ (c : Thread nD τ) none Set.univ (m := M) (r := r) (Mk := Finset.univ) hS) $$ H
  iintro H
  rw [wp_ret]
  imodintro
  iapply h
  isplitl [HR]; · iexact HR
  iexact H

section Steps
variable {c : Dev nD} {r : Fin 4} {n : ℕ}

theorem TS_x : TS m c r n ⊣⊢ iprop(((((c : Thread nD τ).loc cc0_scratch3) ↦{fullShare} wqbV m c)
    ∗ (((c : Thread nD τ).loc cc0_scratch5) ↦{fullShare} kbV m c) ∗ (((c : Thread nD τ).loc cc0_scratch6) ↦{fullShare} vbV m c)
    ∗ (((c : Thread nD τ).loc cc0_scratch4) ↦{fullShare} wobV m c) ∗ ctxAt m c r n) ∗ (((c : Thread nD τ).loc cc0_scratch2) ↦{fullShare} xbV m c)) := by
  unfold TS; exact sep_comm
theorem TS_wq : TS m c r n ⊣⊢ iprop(((((c : Thread nD τ).loc cc0_scratch2) ↦{fullShare} xbV m c)
    ∗ (((c : Thread nD τ).loc cc0_scratch5) ↦{fullShare} kbV m c) ∗ (((c : Thread nD τ).loc cc0_scratch6) ↦{fullShare} vbV m c)
    ∗ (((c : Thread nD τ).loc cc0_scratch4) ↦{fullShare} wobV m c) ∗ ctxAt m c r n) ∗ (((c : Thread nD τ).loc cc0_scratch3) ↦{fullShare} wqbV m c)) := by
  unfold TS
  constructor
  · iintro ⟨H1, H2, H3⟩; isplitr [H2]; · (isplitl [H1] <;> iassumption)
    iexact H2
  · iintro ⟨⟨H1, H3⟩, H2⟩; isplitl [H1]; · iexact H1
    isplitl [H2] <;> iassumption
theorem TS_k : TS m c r n ⊣⊢ iprop(((((c : Thread nD τ).loc cc0_scratch2) ↦{fullShare} xbV m c)
    ∗ (((c : Thread nD τ).loc cc0_scratch3) ↦{fullShare} wqbV m c) ∗ (((c : Thread nD τ).loc cc0_scratch6) ↦{fullShare} vbV m c)
    ∗ (((c : Thread nD τ).loc cc0_scratch4) ↦{fullShare} wobV m c) ∗ ctxAt m c r n) ∗ (((c : Thread nD τ).loc cc0_scratch5) ↦{fullShare} kbV m c)) := by
  unfold TS
  constructor
  · iintro ⟨H1, H2, H3, H4⟩; isplitr [H3]
    · isplitl [H1]; · iexact H1
      isplitl [H2] <;> iassumption
    iexact H3
  · iintro ⟨⟨H1, H2, H4⟩, H3⟩; isplitl [H1]; · iexact H1
    isplitl [H2]; · iexact H2
    isplitl [H3] <;> iassumption
theorem TS_v : TS m c r n ⊣⊢ iprop(((((c : Thread nD τ).loc cc0_scratch2) ↦{fullShare} xbV m c)
    ∗ (((c : Thread nD τ).loc cc0_scratch3) ↦{fullShare} wqbV m c) ∗ (((c : Thread nD τ).loc cc0_scratch5) ↦{fullShare} kbV m c)
    ∗ (((c : Thread nD τ).loc cc0_scratch4) ↦{fullShare} wobV m c) ∗ ctxAt m c r n) ∗ (((c : Thread nD τ).loc cc0_scratch6) ↦{fullShare} vbV m c)) := by
  unfold TS
  constructor
  · iintro ⟨H1, H2, H3, H4, H5⟩; isplitr [H4]
    · isplitl [H1]; · iexact H1
      isplitl [H2]; · iexact H2
      isplitl [H3] <;> iassumption
    iexact H4
  · iintro ⟨⟨H1, H2, H3, H5⟩, H4⟩; isplitl [H1]; · iexact H1
    isplitl [H2]; · iexact H2
    isplitl [H3]; · iexact H3
    isplitl [H4] <;> iassumption
theorem TS_wo : TS m c r n ⊣⊢ iprop(((((c : Thread nD τ).loc cc0_scratch2) ↦{fullShare} xbV m c)
    ∗ (((c : Thread nD τ).loc cc0_scratch3) ↦{fullShare} wqbV m c) ∗ (((c : Thread nD τ).loc cc0_scratch5) ↦{fullShare} kbV m c)
    ∗ (((c : Thread nD τ).loc cc0_scratch6) ↦{fullShare} vbV m c) ∗ ctxAt m c r n) ∗ (((c : Thread nD τ).loc cc0_scratch4) ↦{fullShare} wobV m c)) := by
  unfold TS
  constructor
  · iintro ⟨H1, H2, H3, H4, H5, H6⟩; isplitr [H5]
    · isplitl [H1]; · iexact H1
      isplitl [H2]; · iexact H2
      isplitl [H3]; · iexact H3
      isplitl [H4] <;> iassumption
    iexact H5
  · iintro ⟨⟨H1, H2, H3, H4, H6⟩, H5⟩; isplitl [H1]; · iexact H1
    isplitl [H2]; · iexact H2
    isplitl [H3]; · iexact H3
    isplitl [H4]; · iexact H4
    isplitl [H5] <;> iassumption
theorem TS_ctx : TS m c r n ⊣⊢ iprop(((((c : Thread nD τ).loc cc0_scratch2) ↦{fullShare} xbV m c)
    ∗ (((c : Thread nD τ).loc cc0_scratch3) ↦{fullShare} wqbV m c) ∗ (((c : Thread nD τ).loc cc0_scratch5) ↦{fullShare} kbV m c)
    ∗ (((c : Thread nD τ).loc cc0_scratch6) ↦{fullShare} vbV m c) ∗ (((c : Thread nD τ).loc cc0_scratch4) ↦{fullShare} wobV m c)) ∗ ctxAt m c r n) := by
  unfold TS
  constructor
  · iintro ⟨H1, H2, H3, H4, H5, H6⟩; isplitr [H6]
    · isplitl [H1]; · iexact H1
      isplitl [H2]; · iexact H2
      isplitl [H3]; · iexact H3
      isplitl [H4] <;> iassumption
    iexact H6
  · iintro ⟨⟨H1, H2, H3, H4, H5⟩, H6⟩; isplitl [H1]; · iexact H1
    isplitl [H2]; · iexact H2
    isplitl [H3]; · iexact H3
    isplitl [H4]; · iexact H4
    isplitl [H5] <;> iassumption

/-- With one part of the state in front: what a rule about that part needs, and what it gives back. -/
theorem out_of {R T A B : sProp 𝕄} (e : T ⊣⊢ iprop(A ∗ B)) : iprop(R ∗ T) ⊢ iprop((R ∗ A) ∗ B) :=
  (sep_mono_right e.1).trans sep_assoc.2
theorem back_in {R T A B Z : sProp 𝕄} (e : T ⊣⊢ iprop(A ∗ B)) (h : iprop(R ∗ T) ⊢ Z) : iprop((R ∗ A) ∗ B) ⊢ Z :=
  (sep_assoc.1.trans (sep_mono_right e.2)).trans h

theorem ld_x {R : sProp 𝕄} {off : Fin 2 → ℕ} {inb} {hl} {Q : Vec F S256x1024 .bf16 → sProp 𝕄} (hoff : off = ![256 * tileOf c r, 0]) (s : Fin 4) (n : ℕ)
    (h : iprop(R ∗ TS m c s n) ⊢ Q (xT m c r)) :
    iprop(R ∗ TS m c s n) ⊢ wpc c (Prog.lift (.load xbM (Rect.unit (s := S1024x1024) off S256x1024.size inb).toLoadRect hl)) Q := by
  subst hoff
  exact load_step (Finset.subset_univ _) (out_of (TS_x m)) (back_in (TS_x m) h)

theorem ld_wq {R : sProp 𝕄} {inb} {hl} {Q : Vec F S1024x1024 .bf16 → sProp 𝕄} (s : Fin 4) (n : ℕ) (h : iprop(R ∗ TS m c s n) ⊢ Q (wqbV m c)) :
    iprop(R ∗ TS m c s n) ⊢ wpc c (Prog.lift (.load wqbM (Rect.unit (s := S1024x1024) ![0, 0] S1024x1024.size inb).toLoadRect hl)) Q := by
  refine load_step (Finset.subset_univ _) (out_of (TS_wq m)) (back_in (TS_wq m) ?_)
  exact h.trans (Entails.of_eq (congrArg Q (Memref.readAt_unit_zero (Elt F) cc0_scratch3 hz inb (wqbV m c)).symm))

theorem ld_wo {R : sProp 𝕄} {inb} {hl} {Q : Vec F S1024x1024 .bf16 → sProp 𝕄} (s : Fin 4) (n : ℕ) (h : iprop(R ∗ TS m c s n) ⊢ Q (wobV m c)) :
    iprop(R ∗ TS m c s n) ⊢ wpc c (Prog.lift (.load wobM (Rect.unit (s := S1024x1024) ![0, 0] S1024x1024.size inb).toLoadRect hl)) Q := by
  refine load_step (Finset.subset_univ _) (out_of (TS_wo m)) (back_in (TS_wo m) ?_)
  exact h.trans (Entails.of_eq (congrArg Q (Memref.readAt_unit_zero (Elt F) cc0_scratch4 hz inb (wobV m c)).symm))

theorem ld_k {R : sProp 𝕄} {off : Fin 2 → ℕ} {inb} {hl} {Q : Vec F S512x128 .bf16 → sProp 𝕄} (hd : Fin 8) (hoff : off = ![kst c r, 128 * hd.val])
    (h : iprop(R ∗ TS m c r n) ⊢ Q (kT m c r hd)) :
    iprop(R ∗ TS m c r n) ⊢ wpc c (Prog.lift (.load kbM (Rect.unit (s := S1024x1024) off S512x128.size inb).toLoadRect hl)) Q := by
  subst hoff
  exact load_step (Finset.subset_univ _) (out_of (TS_k m)) (back_in (TS_k m) h)

theorem ld_v {R : sProp 𝕄} {off : Fin 2 → ℕ} {inb} {hl} {Q : Vec F S512x128 .bf16 → sProp 𝕄} (hd : Fin 8) (hoff : off = ![kst c r, 128 * hd.val])
    (h : iprop(R ∗ TS m c r n) ⊢ Q (vT m c r hd)) :
    iprop(R ∗ TS m c r n) ⊢ wpc c (Prog.lift (.load vbM (Rect.unit (s := S1024x1024) off S512x128.size inb).toLoadRect hl)) Q := by
  subst hoff
  exact load_step (Finset.subset_univ _) (out_of (TS_v m)) (back_in (TS_v m) h)

/-- A load of the attention output's buffer whose value is not used. -/
theorem ld_c {R : sProp 𝕄} {rr : LoadRect S1024x1024} {hl} {Q : (rr.shape.Idx → F .bf16) → sProp 𝕄}
    (h : ∀ v, iprop(R ∗ TS m c r n) ⊢ Q v) :
    iprop(R ∗ TS m c r n) ⊢ wpc c (Prog.lift (.load ctxM rr hl)) Q := by
  refine (out_of (TS_ctx m)).trans (ctxAt_elim m fun g hg => ?_)
  exact load_step (M := ctxM) (f := g) (Finset.subset_univ _) .rfl ((ctxAt_intro m g hg).trans (back_in (TS_ctx m) (h _)))

theorem rectH_emb (c : Dev nD) (r : Fin 4) (hd : Fin 8) (j : S256x128.Idx) :
    (((rectH c r hd).emb j) 0).val = 256 * tileOf c r + (j 0).val ∧ (((rectH c r hd).emb j) 1).val = 128 * hd.val + (j 1).val := by
  constructor
  · rw [Rect.emb_apply]; show 256 * tileOf c r + 1 * (j 0).val = _; omega
  · rw [Rect.emb_apply]; show 128 * hd.val + 1 * (j 1).val = _; omega

theorem ctxV_emb (c : Dev nD) (r : Fin 4) (hd : Fin 8) (j : S256x128.Idx) : ctxV m c ((rectH c r hd).emb j) = headV m c r hd j := by
  obtain ⟨h0, h1⟩ := rectH_emb c r hd j
  have j0 : (j 0).val < 256 := (j 0).isLt
  have j1 : (j 1).val < 128 := (j 1).isLt
  have e0 : (((rectH c r hd).emb j) 0).val / 256 = tileOf c r := by omega
  have e1 : (((rectH c r hd).emb j) 1).val / 128 = hd.val := by omega
  unfold ctxV
  dsimp only
  have hi : ∀ (a : Fin 4) (b : Fin 8) (x : S256x128.Idx), a = r → b = hd → x = j → headV m c a b x = headV m c r hd j := by
    rintro _ _ _ rfl rfl rfl; rfl
  refine hi _ _ _ ?_ ?_ ?_
  · rw [e0, stepOf_tileOf]
  · exact Fin.ext e1
  · funext a
    match a with
    | ⟨0, _⟩ => exact Fin.ext (by show (((rectH c r hd).emb j) 0).val % 256 = (j 0).val; omega)
    | ⟨1, _⟩ => exact Fin.ext (by show (((rectH c r hd).emb j) 1).val % 128 = (j 1).val; omega)

theorem ctx_write (c : Dev nD) (r : Fin 4) (hd : Fin 8) (g : (cc0_scratch7 : Ref sig .tc).ty.Contents (Elt F)) (w : FVec F S256x128 .bf16) (x : S1024x1024.Idx) :
    ((∀ j, (rectH c r hd).emb j ≠ x) → (ctxM.access (rectH c r hd)).write (Elt F) g w Finset.univ x = g x)
      ∧ (∀ j, (rectH c r hd).emb j = x → (ctxM.access (rectH c r hd)).write (Elt F) g w Finset.univ x = w j) := by
  constructor
  · intro h
    refine View.write_of_not_mem (v := ctxM.access (rectH c r hd)) g w Finset.univ fun hmem => ?_
    obtain ⟨j, -, hj⟩ := Finset.mem_map.mp hmem
    exact h j hj
  · rintro j rfl
    exact View.write_emb_of_mem (v := ctxM.access (rectH c r hd)) g w (Finset.mem_univ j)

theorem ctx_step (c : Dev nD) (r : Fin 4) (hd : Fin 8) (g : (cc0_scratch7 : Ref sig .tc).ty.Contents (Elt F))
    (hg : ∀ x : S1024x1024.Idx, (x 0).val / 256 = tileOf c r → (x 1).val < 128 * hd.val → g x = ctxV m c x)
    (x : S1024x1024.Idx) (hx0 : (x 0).val / 256 = tileOf c r) (hx1 : (x 1).val < 128 * (hd.val + 1)) :
    (ctxM.access (rectH c r hd)).write (Elt F) g (headV m c r hd) Finset.univ x = ctxV m c x := by
  obtain ⟨hno, hyes⟩ := ctx_write c r hd g (headV m c r hd) x
  by_cases hlt : (x 1).val < 128 * hd.val
  · refine (hno fun j e => ?_).trans (hg x hx0 hlt)
    have h1 := (rectH_emb c r hd j).2
    rw [e] at h1; omega
  · have a0 : (x 0).val - 256 * tileOf c r < 256 := by omega
    have a1 : (x 1).val - 128 * hd.val < 128 := by omega
    have e : (rectH c r hd).emb (ix2 ⟨(x 0).val - 256 * tileOf c r, a0⟩ ⟨(x 1).val - 128 * hd.val, a1⟩) = x := by
      obtain ⟨h0, h1⟩ := rectH_emb c r hd (ix2 ⟨(x 0).val - 256 * tileOf c r, a0⟩ ⟨(x 1).val - 128 * hd.val, a1⟩)
      funext a
      match a with
      | ⟨0, _⟩ => exact Fin.ext (h0.trans (by show 256 * tileOf c r + ((x 0).val - 256 * tileOf c r) = (x 0).val; omega))
      | ⟨1, _⟩ => exact Fin.ext (h1.trans (by show 128 * hd.val + ((x 1).val - 128 * hd.val) = (x 1).val; omega))
    rw [hyes _ e, ← ctxV_emb, e]

/-- The store of one head's output. -/
theorem st_c {R : sProp 𝕄} {off : Fin 2 → ℕ} {inb} {w : FVec F S256x128 .bf16} {hx} {hm} {Q : PUnit.{1} → sProp 𝕄} (hd : Fin 8)
    (hoff : off = ![256 * tileOf c r, 128 * hd.val]) (hw : w = headV m c r hd)
    (h : iprop(R ∗ TS m c r (hd.val + 1)) ⊢ Q ⟨⟩) :
    iprop(R ∗ TS m c r hd.val) ⊢ wpc c (Prog.lift (.store ctxM (Rect.unit (s := S1024x1024) off S256x128.size inb) w Finset.univ hx hm)) Q := by
  subst hoff
  subst hw
  refine (out_of (TS_ctx m)).trans (ctxAt_elim m fun g hg => ?_)
  have e2 := (ctxAt_intro m _ (ctx_step m c r hd g hg)).trans (back_in (TS_ctx m) h)
  have e3 := store_step (c := c) (M := ctxM) (r := rectH c r hd) (w := headV m c r hd) (hx := hx) (hm := hm) (S := Finset.univ) (f := g) (Finset.subset_univ _) .rfl e2
  exact e3

end Steps

end Cert.KernelRun
-- ==== Proof.Steps.lean ====
/-
  The protocol's steps: a signal, a copy, a send, a wait, each passing a component of the state along, with the
  loops over the devices kept as one family with a position in it.
-/
module

public import proofs.«01_k».proof.Proof.Tile

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

/-! ## A family worked through one device after another -/

/-- Devices below `k` are done (`B`), the others are still to do (`A`). -/
def loop (k : ℕ) (A B : Dev nD → sProp 𝕄) : sProp 𝕄 := bigSep Finset.univ fun p : Dev nD => if p.val < k then B p else A p

theorem loop_step {A B : Dev nD → sProp 𝕄} (p : Dev nD) : loop p.val A B ⊢ iprop(A p ∗ (B p -∗ loop (p.val + 1) A B)) := by
  have e1 : loop p.val A B = iprop(A p ∗ bigSep (Finset.univ.erase p) fun q : Dev nD => if q.val < p.val then B q else A q) := by
    unfold loop
    rw [BI.bigSep_erase (Finset.mem_univ p), if_neg (Nat.lt_irrefl _)]
    rfl
  have e2 : loop (p.val + 1) A B = iprop(B p ∗ bigSep (Finset.univ.erase p) fun q : Dev nD => if q.val < p.val then B q else A q) := by
    unfold loop
    rw [BI.bigSep_erase (Finset.mem_univ p), if_pos (Nat.lt_succ_self _),
      BI.bigSep_congr (s := Finset.univ.erase p) (Ψ := fun q : Dev nD => if q.val < p.val then B q else A q) (fun q hq => by
        have hne : q.val ≠ p.val := fun e => (Finset.mem_erase.mp hq).1 (Fin.ext e)
        by_cases h : q.val < p.val
        · simp [h, Nat.lt_succ_of_lt h]
        · have h' : ¬ q.val < p.val + 1 := by omega
          simp [h, h'])]
    rfl
  rw [e1, e2]
  iintro ⟨HA, Hr⟩
  isplitl [HA]; · iexact HA
  iintro HB
  isplitl [HB]; · iexact HB
  iexact Hr

theorem loop_zero {A B : Dev nD → sProp 𝕄} : loop 0 A B = bigSep Finset.univ A := by
  unfold loop; exact BI.bigSep_congr fun p _ => if_neg (Nat.not_lt_zero _)
theorem loop_end {A B : Dev nD → sProp 𝕄} : loop 8 A B = bigSep Finset.univ B := by
  unfold loop; exact BI.bigSep_congr fun p _ => if_pos p.isLt

/-- A conditional step of a loop: either branch takes the state `St` to `St'`. -/
theorem loop_if {c : Dev nD} {α : Type} {X : Prop} [Decidable X] {St St' : sProp 𝕄} {A : X → Prog (TpuEff nD τ sig (Elt F) Λ₀ .tc) PUnit}
    {J : Prog (TpuEff nD τ sig (Elt F) Λ₀ .tc) α} {Q : α → sProp 𝕄}
    (hA : ∀ (x : X) (Z : PUnit.{1} → sProp 𝕄), (St' ⊢ Z ⟨⟩) → St ⊢ wpc c (A x) Z) (hN : ¬ X → St ⊢ St') (h : St' ⊢ wpc c J Q) :
    St ⊢ wpc c (if x : X then (A x >>= fun _ => J) else J) Q := by
  split
  · rename_i x; exact seq_step (hA x _ h)
  · rename_i x; exact (hN x).trans h

/-! ## The records: the cells' invariants, that their round is open, and the levels -/

variable (K : Dev nD × Ck → ℕ)

def recs : sProp 𝕄 := iprop((bigSep Finset.univ fun p : Dev nD × Ck => cellInv ER (rd m) (K p) (cell p.1 p.2))
  ∗ (bigSep Finset.univ fun p : Dev nD × Ck => reached ER (cell p.1 p.2) 0) ∗ levAts L lv)

instance recs_persistent : BI.Persistent (recs m K) := by unfold recs; infer_instance

theorem recs_cell (p : Dev nD) (k : Ck) : recs m K ⊢ cellInv ER (rd m) (K (p, k)) (cell p k) := by
  unfold recs
  exact sep_elim_left.trans (BI.bigSep_elim (i := (p, k)) (Finset.mem_univ _))
theorem recs_reached (p : Dev nD) (k : Ck) : recs m K ⊢ reached ER (cell p k) 0 := by
  unfold recs
  exact (sep_elim_right.trans sep_elim_left).trans (BI.bigSep_elim (i := (p, k)) (Finset.mem_univ _))
theorem recs_lev : recs m K ⊢ levAts L lv := by unfold recs; exact sep_elim_right.trans sep_elim_right

/-- What device `c` still owes, at some waits. -/
def ow (c : Dev nD) (a b d : ℕ) : sProp 𝕄 := iprop(∃ W, owes (c : Thread nD τ) (owed c a b d) W)

/-! ## The ready signals -/

def sigA (c p : Dev nD) : sProp 𝕄 := if p = c then iprop(emp) else iprop(dutyTok ER (cell p .bar) 0 c
  ∗ (∃ f, mpts c (slabR p) fullShare f) ∗ (∃ f, mpts c (slabB p) fullShare f))
theorem sigA_ne {c p : Dev nD} (hne : p ≠ c) : (sigA c p : sProp 𝕄) ⊢ iprop(dutyTok ER (cell p .bar) 0 c
    ∗ ((∃ f, mpts c (slabR p) fullShare f) ∗ (∃ f, mpts c (slabB p) fullShare f))) := by
  unfold sigA; rw [if_neg hne]
def BS (c : Dev nD) (k : ℕ) : sProp 𝕄 := iprop(recs m K ∗ ow c k 0 0 ∗ loop k (sigA c) (fun _ => iprop(emp)))

theorem bar_pay (c q : Dev nD) : iprop((∃ f, mpts c (slabR q) fullShare f) ∗ (∃ f, mpts c (slabB q) fullShare f))
    ⊢ (rd m).payload ((q : Thread nD τ), SemLoc.reg barS) 0 c :=
  Entails.of_eq ((payload_cell m q .bar 0 c).symm)

theorem signal_op {c : Dev nD} (p : Dev nD) {q : Dev nD} {R : sProp 𝕄} {Z : PUnit.{1} → sProp 𝕄} (hne : p ≠ c) (hq : q = p)
    (h : iprop(R ∗ BS m K c (p.val + 1)) ⊢ Z ⟨⟩) : iprop(R ∗ BS m K c p.val) ⊢ wpc c (semSignalWord q barS 1#32) Z := by
  subst hq
  unfold BS ow wpc semSignalWord
  iintro ⟨HR, #Hrec, ⟨%W, HO⟩, HL⟩
  icases (loop_step q) $$ HL with ⟨HA, HL⟩
  icases (sigA_ne hne) $$ HA with ⟨Ht, Hs⟩
  iapply (Rounds.wp_signal 𝒱₀ ER (rd m) (c : Thread nD τ) none (dst := (q : Thread nD τ)) (sem := barS) (r := 0) (κ := K (q, .bar))
      (d := c) (by rw [show ((q : Thread nD τ), SemLoc.reg barS) = cell q .bar from rfl, duties_cell]; exact Finset.mem_erase.mpr ⟨hne.symm, Finset.mem_univ _⟩)
      ((amount_cell m q .bar 0 c).trans (by decide)) () (owed c (q.val + 1) 0 0) (owed_bar c q hne 0 0))
    $$ [HO Ht Hs]
  · isplitr; · iapply (recs_cell m K q .bar); iexact Hrec
    isplitl [HO]; · iexact HO
    isplitl [Ht]; · iexact Ht
    isplitl [Hs]; · iapply (bar_pay m c q); iexact Hs
    · iapply (recs_reached m K q .bar); iexact Hrec
  iintro HO
  rw [wp_ret]
  imodintro
  iapply h
  isplitl [HR]; · iexact HR
  unfold BS ow
  isplitr; · iexact Hrec
  isplitl [HO]; · iexists W; iexact HO
  iapply HL
  iempintro

theorem signal_skip {c : Dev nD} (p : Dev nD) {R : sProp 𝕄} (he : p = c) : iprop(R ∗ BS m K c p.val) ⊢ iprop(R ∗ BS m K c (p.val + 1)) := by
  subst he
  unfold BS ow
  rw [owed_bar_self]
  iintro ⟨HR, #Hrec, HO, HL⟩
  icases (loop_step p) $$ HL with ⟨HA, HL⟩
  isplitl [HR]; · iexact HR
  isplitr; · iexact Hrec
  isplitl [HO]; · iexact HO
  iapply HL
  iempintro

/-! ## Waits -/

/-- A wait on one of the device's own cells for everything its round brings. -/
theorem wait_op {c : Dev nD} (k : Ck) (a b d n : ℕ) {w : TpuEff nD τ sig (Elt F) Λ₀ .tc PUnit} {k' : ℕ} {R : sProp 𝕄} {Z : PUnit.{1} → sProp 𝕄}
    (hw : ∀ K' : PUnit → sProp 𝕄, wpE (defs₀ (F := F)) 𝒱₀ (c : Thread nD τ) none Set.univ w K' = waitSpec (c : Thread nD τ) Set.univ (semOf k) k' K')
    (hk : k' = (dutiesOf c (some k)).card * amountOf (some k))
    (hn : lvK (some k) ≤ n) (ha : rest c a ≠ ∅ → n < 1) (hb : restS c b ≠ ∅ → n < 2) (hd : rest c d ≠ ∅ → n < 3)
    (h : iprop(R ∗ recs m K ∗ ow c a b d ∗ atPos ER (cell c k) 1 ∅ 0 ∗ bigSep (dutiesOf c (some k)) fun e => payOf m c e (some k)) ⊢ Z ⟨⟩) :
    iprop(R ∗ recs m K ∗ ow c a b d ∗ atPos ER (cell c k) 0 ∅ 0 ∗ cred (tallyAt (cell c k) () k')) ⊢ wpc c (.op w .ret) Z := by
  unfold wpc ow
  iintro ⟨HR, #Hrec, ⟨%W, HO⟩, Hat, Hcr⟩
  iapply (Rounds.wp_wait_rest_token 𝒱₀ ER (rd m) (c : Thread nD τ) none (κ := K (c, k)) (sm := semOf k)
      hw (Set.mem_univ _) () (O := owed c a b d) (W := W) (R := 0) (m := 0) (T := ∅)
      (by rw [Nat.zero_add, hk]; exact (expect_cell m c k).symm)) $$ [Hcr HO Hat]
  · isplitr; · iapply (recs_cell m K c k); iexact Hrec
    isplitl [Hcr]; · iexact Hcr
    isplitl [HO]; · iexact HO
    isplitr
    · iapply (mayWait_owed c (semOf k) a b d n (by rw [kind_semOf]; exact hn) ha hb hd); iapply (recs_lev m K); iexact Hrec
    iexact Hat
  iintro ⟨HO, Hat, -, Hpay⟩
  ihave Hp := (Entails.of_eq (rest_cell m c k)) $$ Hpay
  rw [wp_ret]
  imodintro
  iapply h
  isplitl [HR]; · iexact HR
  isplitr; · iexact Hrec
  unfold ow
  isplitl [HO]; · iexists _; iexact HO
  isplitl [Hat]; · iexact Hat
  iexact Hp

theorem bar_wait {c : Dev nD} {R : sProp 𝕄} {Z : PUnit.{1} → sProp 𝕄}
    (h : iprop(R ∗ recs m K ∗ ow c 8 0 0 ∗ atPos ER (cell c .bar) 1 ∅ 0 ∗ bigSep (Finset.univ.erase c) fun p => barPay c p) ⊢ Z ⟨⟩) :
    iprop(R ∗ recs m K ∗ ow c 8 0 0 ∗ atPos ER (cell c .bar) 0 ∅ 0 ∗ cred (tallyAt (cell c .bar) () 7)) ⊢ wpc c (semWaitWord barS 7#32) Z := by
  unfold semWaitWord
  exact wait_op m K .bar 8 0 0 1 (k' := 7) (wpE_semWait_eq 𝒱₀ (c : Thread nD τ) none Set.univ)
    ((by decide : ∀ c : Dev nD, 7 = (dutiesOf c (some Ck.bar)).card * amountOf (some Ck.bar)) c) (le_refl _) (fun e => absurd (rest_end c) e) (fun _ => by decide) (fun _ => by decide) h

end Cert.KernelRun
-- ==== Proof.Sends.lean ====
/-
  The copies, local and remote, and the waits for them; the projected rows and the slabs they move.
-/
module

public import proofs.«01_k».proof.Proof.Steps
public import Idealize.ShloMosaic.Lib.ValueLayout

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

/-! ## Where a slab's and a chunk's elements lie -/

theorem slab_emb (p : Dev nD) (j : S128x1024.Idx) : (slabR p).view.emb j = ix3 (n0 := 8) p (j 0) (j 1) := by
  show (Rect.unit (s := S8x128x1024) ![p.val, 0, 0] S1x128x1024.size (inbS3 p)).emb (Shape.reshapeEquiv _ j) = _
  refine (congrArg (Rect.unit (s := S8x128x1024) ![p.val, 0, 0] S1x128x1024.size (inbS3 p)).emb
    ((congrArg (Shape.reshapeEquiv _) (ValueIdx.eq_ix2 (n0 := 128) (n1 := 1024) j)).trans
      (ValueIdx.reshapeEquiv_ix2_1ab (a := 128) (b := 1024) _ (j 0) (j 1)))).trans ?_
  funext a
  match a with
  | ⟨0, _⟩ => exact Fin.ext (by rw [Rect.emb_apply]; show p.val + 1 * 0 = p.val; omega)
  | ⟨1, _⟩ => exact Fin.ext (by rw [Rect.emb_apply]; show 0 + 1 * (j 0).val = (j 0).val; omega)
  | ⟨2, _⟩ => exact Fin.ext (by rw [Rect.emb_apply]; show 0 + 1 * (j 1).val = (j 1).val; omega)

theorem slabB_emb (p : Dev nD) (j : S128x1024.Idx) : (slabB p).view.emb j = ix3 (n0 := 8) p (j 0) (j 1) := slab_emb p j

theorem chunk_emb (p : Dev nD) (j : S128x1024.Idx) (h : 128 * p.val + (j 0).val < 1024) :
    (chunkV p).view.emb j = ix2 (n0 := 1024) ⟨128 * p.val + (j 0).val, h⟩ (j 1) := by
  show (Rect.unit (s := S1024x1024) ![128 * p.val, 0] S128x1024.size (inbC p)).emb j = _
  funext a
  match a with
  | ⟨0, _⟩ => exact Fin.ext (by rw [Rect.emb_apply]; show 128 * p.val + 1 * (j 0).val = 128 * p.val + (j 0).val; omega)
  | ⟨1, _⟩ => exact Fin.ext (by rw [Rect.emb_apply]; show 0 + 1 * (j 1).val = (j 1).val; omega)

theorem row_lt (p : Dev nD) (j : S128x1024.Idx) : 128 * p.val + (j 0).val < 1024 := by
  have h1 : (j 0).val < 128 := (j 0).isLt
  have h2 : p.val < 8 := p.isLt
  omega

/-- The elements of a chunk. -/
theorem mem_chunk (p : Dev nD) (x : S1024x1024.Idx) : x ∈ (chunkV p).view.set ↔ (x 0).val / 128 = p.val := by
  constructor
  · intro hx
    obtain ⟨j, -, rfl⟩ := Finset.mem_map.mp hx
    rw [chunk_emb p j (row_lt p j)]
    show (128 * p.val + (j 0).val) / 128 = p.val
    have h1 : (j 0).val < 128 := (j 0).isLt
    omega
  · intro hx
    have h1 : (x 0).val - 128 * p.val < 128 := by omega
    refine Finset.mem_map.mpr ⟨ix2 (n0 := 128) (n1 := 1024) ⟨(x 0).val - 128 * p.val, h1⟩ (x 1), Finset.mem_univ _, ?_⟩
    refine (chunk_emb p _ (by show 128 * p.val + ((x 0).val - 128 * p.val) < 1024; have h2 : (x 0).val < 1024 := (x 0).isLt; omega)).trans ?_
    funext a
    match a with
    | ⟨0, _⟩ => exact Fin.ext (by show 128 * p.val + ((x 0).val - 128 * p.val) = (x 0).val; omega)
    | ⟨1, _⟩ => rfl

/-- The elements of a slab. -/
theorem mem_slab (p : Dev nD) (x : S8x128x1024.Idx) : x ∈ (slabR p).view.set ↔ (x 0) = p := by
  constructor
  · intro hx
    obtain ⟨j, -, rfl⟩ := Finset.mem_map.mp hx
    rw [slab_emb p j]
  · intro hp
    refine Finset.mem_map.mpr ⟨ix2 (n0 := 128) (n1 := 1024) (x 1) (x 2), Finset.mem_univ _, (slab_emb p _).trans ?_⟩
    subst hp
    funext a
    match a with
    | ⟨0, _⟩ => rfl
    | ⟨1, _⟩ => rfl
    | ⟨2, _⟩ => rfl
theorem mem_slabB (p : Dev nD) (x : S8x128x1024.Idx) : x ∈ (slabB p).view.set ↔ (x 0) = p := mem_slab p x

/-! ## What the copies write -/

theorem sent_rows (c t : Dev nD) (fd : (cc0_scratch10 : Ref sig .tc).ty.Contents (Elt F)) (x : S8x128x1024.Idx) (hx : x ∈ (slabR c).view.set) :
    (slabR c).view.write (Elt F) fd ((chunkV t).view.read (Elt F) (pV m c)) Finset.univ x = rsV m t x := by
  obtain ⟨j, -, rfl⟩ := Finset.mem_map.mp hx
  rw [View.write_emb_of_mem (v := (slabR c).view) fd _ (Finset.mem_univ j), slab_emb c j]
  show pV m c ((chunkV t).view.emb j) = pV m c _
  rw [chunk_emb t j (row_lt t j)]
  rfl

theorem sent_red (c : Dev nD) (fd : (cc0_scratch11 : Ref sig .tc).ty.Contents (Elt F)) (x : S8x128x1024.Idx) (hx : x ∈ (slabB c).view.set) :
    (slabB c).view.write (Elt F) fd (bsM.view.read (Elt F) (red16 m c)) Finset.univ x = bcV m x := by
  obtain ⟨j, -, rfl⟩ := Finset.mem_map.mp hx
  rw [View.write_emb_of_mem (v := (slabB c).view) fd _ (Finset.mem_univ j), slabB_emb c j]
  show red16 m c j = red16 m c (ix2 (j 0) (j 1))
  exact congrArg (red16 m c) (ValueIdx.eq_ix2 j)

/-! ## The projected rows: which are still here -/

/-- At which send the rows of chunk `p` go. -/
def sidx (c : Dev nD) (p : ℕ) : ℕ := 2 * (stepOf c (p / 2)).val + p % 2
theorem sidx_tgt (c i : Dev nD) : sidx c (tgt c i).val = i.val := by revert c i; decide +kernel
theorem sidx_inj (c p q : Dev nD) (h : sidx c p.val = sidx c q.val) : p = q := by revert c p q; decide +kernel
theorem tile_of_step (c : Dev nD) (r t : Fin 4) (h : (stepOf c t.val).val = r.val) : t.val = tileOf c r := by revert c r t; decide +kernel
theorem sidx_lt (c : Dev nD) (p : ℕ) : sidx c p < 8 := by
  unfold sidx; have := (stepOf c (p / 2)).isLt; omega

/-- The elements whose send is the `k`-th or later. -/
def PS (c : Dev nD) (k : ℕ) : Finset S1024x1024.Idx := Finset.univ.filter fun x => k ≤ sidx c ((x 0).val / 128)

/-- The projected rows not yet sent; those of the sends before `l` have been computed. -/
def PW (c : Dev nD) (k l : ℕ) : sProp 𝕄 :=
  iprop(∃ g : Buf (Elt F) ((c : Thread nD τ).loc cc0_scratch8),
    ⌜∀ x : S1024x1024.Idx, sidx c ((x 0).val / 128) < l → g x = pV m c x⌝ ∗ (((c : Thread nD τ).loc cc0_scratch8) ↦[PS c k]{fullShare} g))

/-- The rows of one send, computed. -/
def chk (c i : Dev nD) : sProp 𝕄 := mpts c (chunkV (tgt c i)) fullShare (pV m c)

theorem dev_of_row (x : S1024x1024.Idx) : (x 0).val / 128 < 8 := by
  have h : (x 0).val < 1024 := (x 0).isLt
  omega

theorem PS_chunk (c i : Dev nD) (x : S1024x1024.Idx) : x ∈ (chunkV (tgt c i)).view.set ↔ sidx c ((x 0).val / 128) = i.val := by
  rw [mem_chunk]
  constructor
  · intro h; rw [h, sidx_tgt]
  · intro h
    exact congrArg Fin.val (sidx_inj c ⟨(x 0).val / 128, dev_of_row x⟩ (tgt c i) (h.trans (sidx_tgt c i).symm))

theorem PW_take (c i : Dev nD) (l : ℕ) (h : i.val < l) : PW m c i.val l ⊢ iprop(chk m c i ∗ PW m c (i.val + 1) l) := by
  unfold PW chk mpts
  iintro ⟨%g, %hg, H⟩
  have hs : (chunkV (tgt c i)).view.set ⊆ PS c i.val := fun x hx => Finset.mem_filter.mpr ⟨Finset.mem_univ _, ((PS_chunk c i x).mp hx).ge⟩
  have hd : PS c i.val \ (chunkV (tgt c i)).view.set = PS c (i.val + 1) := by
    ext x
    constructor
    · intro hx
      obtain ⟨h1, h2⟩ := Finset.mem_sdiff.mp hx
      have h3 := (Finset.mem_filter.mp h1).2
      exact Finset.mem_filter.mpr ⟨Finset.mem_univ _, Nat.lt_of_le_of_ne h3 fun e => h2 ((PS_chunk c i x).mpr e.symm)⟩
    · intro hx
      have h3 := (Finset.mem_filter.mp hx).2
      exact Finset.mem_sdiff.mpr ⟨Finset.mem_filter.mpr ⟨Finset.mem_univ _, Nat.le_of_succ_le h3⟩, fun e => by
        have := (PS_chunk c i x).mp e; omega⟩
  have e1 := (pointsTo_split_subset (ℓ := (c : Thread nD τ).loc cc0_scratch8) (q := fullShare) (f := g) (Ix := Unit) (Name := ℕ) (U := UU) (Lvl := ℕ) hs).1
  rw [hd] at e1
  icases e1 $$ H with ⟨H1, H2⟩
  isplitl [H1]
  · iapply (Entails.of_eq (pointsTo_congr (ℓ := (c : Thread nD τ).loc cc0_scratch8) (q := fullShare) (f := g) (g := pV m c)
      fun x hx => hg x (by rw [(PS_chunk c i x).mp hx]; exact h)))
    iexact H1
  · iexists g
    isplitr
    · ipureintro; exact hg
    · iexact H2

/-- A tile's rows are those of two sends. -/
theorem rectT_emb (c : Dev nD) (r : Fin 4) (j : S256x1024.Idx) :
    (((rectT c r).emb j) 0).val = 256 * tileOf c r + (j 0).val ∧ (((rectT c r).emb j) 1).val = (j 1).val := by
  constructor
  · rw [Rect.emb_apply]; show 256 * tileOf c r + 1 * (j 0).val = _; omega
  · rw [Rect.emb_apply]; show 0 + 1 * (j 1).val = _; omega

theorem sidx_tile (c : Dev nD) (r : Fin 4) (n : ℕ) (h : n / 256 = tileOf c r) : 2 * r.val ≤ sidx c (n / 128) ∧ sidx c (n / 128) < 2 * r.val + 2 := by
  unfold sidx
  have e : n / 128 / 2 = tileOf c r := by omega
  rw [e, stepOf_tileOf]; omega

theorem pT_emb (c : Dev nD) (r : Fin 4) (j : S256x1024.Idx) : pV m c ((rectT c r).emb j) = pT m c r j := by
  obtain ⟨h0, h1⟩ := rectT_emb c r j
  have j0 : (j 0).val < 256 := (j 0).isLt
  have e0 : (((rectT c r).emb j) 0).val / 256 = tileOf c r := by omega
  have hi : ∀ (a : Fin 4) (x : S256x1024.Idx), a = r → x = j → pT m c a x = pT m c r j := by rintro _ _ rfl rfl; rfl
  unfold pV
  refine hi _ _ ?_ ?_
  · rw [e0, stepOf_tileOf]
  · funext a
    match a with
    | ⟨0, _⟩ => exact Fin.ext (by show (((rectT c r).emb j) 0).val % 256 = (j 0).val; omega)
    | ⟨1, _⟩ => exact Fin.ext h1

theorem p_set (c : Dev nD) (r : Fin 4) (M : Finset S256x1024.Idx) : (pM.access (rectT c r)).setOn M ⊆ PS c (2 * r.val) := by
  intro x hx
  obtain ⟨j, -, rfl⟩ := Finset.mem_map.mp hx
  have j0 : (j 0).val < 256 := (j 0).isLt
  have h0 := (rectT_emb c r j).1
  exact Finset.mem_filter.mpr ⟨Finset.mem_univ _, (sidx_tile c r (((rectT c r).emb j) 0).val (by omega)).1⟩

theorem p_setL (c : Dev nD) (r : Fin 4) : pM.view.setOn (rectT c r).toLoadRect.set ⊆ PS c (2 * r.val) := by
  intro x hx
  obtain ⟨y, hy, rfl⟩ := Finset.mem_map.mp hx
  obtain ⟨j, hj, e⟩ := (LoadRect.mem_set (r := (rectT c r).toLoadRect)).mp hy 0
  have hj' : j < 256 := hj
  have e' : (y 0).val = 256 * tileOf c r + 1 * j := e
  exact Finset.mem_filter.mpr ⟨Finset.mem_univ _, (sidx_tile c r (y 0).val (by omega)).1⟩

theorem p_write (c : Dev nD) (r : Fin 4) (g : (cc0_scratch8 : Ref sig .tc).ty.Contents (Elt F)) (w : FVec F S256x1024 .bf16) (x : S1024x1024.Idx) :
    ((∀ j, (rectT c r).emb j ≠ x) → (pM.access (rectT c r)).write (Elt F) g w Finset.univ x = g x)
      ∧ (∀ j, (rectT c r).emb j = x → (pM.access (rectT c r)).write (Elt F) g w Finset.univ x = w j) := by
  constructor
  · intro h
    refine View.write_of_not_mem (v := pM.access (rectT c r)) g w Finset.univ fun hmem => ?_
    obtain ⟨j, -, hj⟩ := Finset.mem_map.mp hmem
    exact h j hj
  · rintro j rfl
    exact View.write_emb_of_mem (v := pM.access (rectT c r)) g w (Finset.mem_univ j)

theorem p_step (c : Dev nD) (r : Fin 4) (g : (cc0_scratch8 : Ref sig .tc).ty.Contents (Elt F))
    (hg : ∀ x : S1024x1024.Idx, sidx c ((x 0).val / 128) < 2 * r.val → g x = pV m c x)
    (x : S1024x1024.Idx) (hx : sidx c ((x 0).val / 128) < 2 * r.val + 2) :
    (pM.access (rectT c r)).write (Elt F) g (pT m c r) Finset.univ x = pV m c x := by
  obtain ⟨hno, hyes⟩ := p_write c r g (pT m c r) x
  by_cases hlt : (x 0).val / 256 = tileOf c r
  · have a0 : (x 0).val - 256 * tileOf c r < 256 := by omega
    have e : (rectT c r).emb (ix2 ⟨(x 0).val - 256 * tileOf c r, a0⟩ (x 1)) = x := by
      obtain ⟨h0, h1⟩ := rectT_emb c r (ix2 ⟨(x 0).val - 256 * tileOf c r, a0⟩ (x 1))
      funext a
      match a with
      | ⟨0, _⟩ => exact Fin.ext (h0.trans (by show 256 * tileOf c r + ((x 0).val - 256 * tileOf c r) = (x 0).val; omega))
      | ⟨1, _⟩ => exact Fin.ext h1
    rw [hyes _ e, ← pT_emb, e]
  · refine (hno fun j e => ?_).trans (hg x ?_)
    · have h0 := (rectT_emb c r j).1
      have j0 : (j 0).val < 256 := (j 0).isLt
      rw [e] at h0; omega
    · by_contra hge
      refine hlt ?_
      unfold sidx at hx hge
      have e1 : (stepOf c ((x 0).val / 128 / 2)).val = r.val := by omega
      have e2 : (x 0).val / 128 / 2 = (x 0).val / 256 := by omega
      rw [e2] at e1
      have h3 : (x 0).val / 256 < 4 := by have := dev_of_row x; omega
      exact tile_of_step c r ⟨_, h3⟩ e1

/-! ## The sends -/

variable (K : Dev nD × Ck → ℕ)

def sndA (c i : Dev nD) : sProp 𝕄 := if tgt c i = c then iprop(emp) else iprop(dutyTok ER (cell c (.snd i)) 0 c
  ∗ dutyTok ER (cell (tgt c i) (.rcv c)) 0 c ∗ ∃ f, mpts (tgt c i) (slabR c) fullShare f)
def sndB (c i : Dev nD) : sProp 𝕄 := if tgt c i = c then chk m c i else cred (tallyAt (cell c (.snd i)) () NC)
theorem sndA_ne {c i : Dev nD} (h : tgt c i ≠ c) : (sndA c i : sProp 𝕄) ⊢ iprop(dutyTok ER (cell c (.snd i)) 0 c
    ∗ dutyTok ER (cell (tgt c i) (.rcv c)) 0 c ∗ ∃ f, mpts (tgt c i) (slabR c) fullShare f) := by unfold sndA; rw [if_neg h]
theorem sndB_ne {c i : Dev nD} (h : tgt c i ≠ c) : cred (tallyAt (cell c (.snd i)) () NC) ⊢ (sndB m c i : sProp 𝕄) := by
  unfold sndB; rw [if_neg h]
theorem sndB_self {c i : Dev nD} (h : tgt c i = c) : chk m c i ⊢ (sndB m c i : sProp 𝕄) := by
  unfold sndB; rw [if_pos h]

/-- Between the sends: what is owed, what each send still needs or has left, and the rows still here. -/
def SS (c : Dev nD) (k l : ℕ) : sProp 𝕄 := iprop(recs m K ∗ ow c 8 k 0 ∗ loop k (sndA c) (sndB m c) ∗ PW m c k l)

theorem send_rule (c i : Dev nD) (hne : tgt c i ≠ c) {hsc : (slabR c : Memref sig .tc .vmem S128x1024 .bf16).view.ref.isScScratch = false}
    {hsrc : (chunkV (tgt c i)).view.WordExact} {hdst : (slabR c : Memref sig .tc .vmem S128x1024 .bf16).view.WordExact}
    {hsem : DmaTarget.Typed .vmem (.dma (rcvS c)) (.remote (Dev.tc (tgt c i) : Thread nD τ) (slabR c : Memref sig .tc .vmem S128x1024 .bf16) (.dma (sndS i)) hsc)}
    {α : Type} {Q : α → sProp 𝕄} {k : PUnit → Prog (TpuEff nD τ sig (Elt F) Λ₀ .tc) α} (fd : Buf (Elt F) ((slabR c).view.loc (tgt c i : Thread nD τ))) (W : Waits sig Unit) :
    iprop(cellInv ER (rd m) (K (c, .snd i)) (cell c (.snd i)) ∗ cellInv ER (rd m) (K (tgt c i, .rcv c)) (cell (tgt c i) (.rcv c))
        ∗ mpts c (chunkV (tgt c i)) fullShare (pV m c) ∗ mpts (tgt c i) (slabR c) fullShare fd ∗ owes (c : Thread nD τ) (owed c 8 i.val 0) W
        ∗ dutyTok ER (cell c (.snd i)) 0 c ∗ reached ER (cell c (.snd i)) 0
        ∗ dutyTok ER (cell (tgt c i) (.rcv c)) 0 c ∗ reached ER (cell (tgt c i) (.rcv c)) 0)
      ⊢ iprop(((cred (tallyAt (cell c (.snd i)) () NC) ∗ owes (c : Thread nD τ) (owed c 8 (i.val + 1) 0) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (chunkV (tgt c i)) (.remote (Dev.tc (tgt c i) : Thread nD τ) (slabR c) (.dma (sndS i)) hsc) (.dma (rcvS c)) hsrc hdst hsem) k) Q) :=
  Rounds.wp_send_pointsTo 𝒱₀ ER (rd m) (c : Thread nD τ) none (κ₁ := K (c, .snd i)) (κ₂ := K (tgt c i, .rcv c))
    (r₁ := 0) (r₂ := 0) (d₁ := c) (d₂ := c) (fd := fd)
    (by rw [duties_cell, show dutiesOf c (some (.snd i)) = {c} from if_pos hne]; exact Finset.mem_singleton_self _)
    (by rw [duties_cell, show dutiesOf (tgt c i) (some (.rcv c)) = {c} from if_pos hne.symm]; exact Finset.mem_singleton_self _)
    () () NC rfl (amount_cell m c (.snd i) 0 c) (amount_cell m (tgt c i) (.rcv c) 0 c) (owed c 8 (i.val + 1) 0) (owed_rcv c i hne 8 0) (W := W)
    (Entails.of_eq (payload_cell m c (.snd i) 0 c).symm)
    ((Entails.of_eq (pointsTo_congr fun x hx => sent_rows m c (tgt c i) fd x hx)).trans (Entails.of_eq (payload_cell m (tgt c i) (.rcv c) 0 c).symm))

/-- The `i`-th send of device `c`, where it leaves the device. -/
theorem send_op {c : Dev nD} (i : Dev nD) (l : ℕ) {t : Dev nD} {oR : Fin 1 → ℕ} {oD : Fin 3 → ℕ} {oP : Fin 2 → ℕ} {iR iD iP}
    {hsc} {hsrc} {hdst} {hsem} {R T : sProp 𝕄} {Z : PUnit.{1} → sProp 𝕄} (hl : i.val < l) (hne : tgt c i ≠ c) (ht : t = tgt c i)
    (hR : oR = ![c.val]) (hD : oD = ![c.val, 0, 0]) (hP : oP = ![128 * (tgt c i).val, 0])
    (h : iprop((R ∗ SS m K c (i.val + 1) l) ∗ T) ⊢ Z ⟨⟩) :
    iprop((R ∗ SS m K c i.val l) ∗ T) ⊢ wpc c (Prog.lift (.enqueueDma
      (pM.slice (Rect.unit (s := S1024x1024) oP S128x1024.size iP) (fun _ => rfl))
      (.remote (Dev.tc t : Thread nD τ) ((rsM.slice (Rect.unit (s := S8x128x1024) oD S1x128x1024.size iD) (fun _ => rfl)).squeeze S128x1024
        squeezes_S1x128x1024_S128x1024) (.dma (sndS i)) hsc)
      (.dma ((cc0_scratch14.slice (Rect.unit (s := S8) oR S1.size iR)).squeeze S_ squeezes_S1_S_).sem) hsrc hdst hsem)) Z := by
  subst ht hR hD hP
  unfold SS ow wpc Prog.lift
  iintro ⟨⟨HR, #Hrec, ⟨%W, HO⟩, HL, HP⟩, HT⟩
  icases (loop_step i) $$ HL with ⟨HA, HL⟩
  icases (sndA_ne hne) $$ HA with ⟨Ht1, Ht2, %fd, Hd⟩
  icases (PW_take m c i l hl) $$ HP with ⟨Hc, HP⟩
  iapply (send_rule m K c i hne fd W) $$ [HO Ht1 Ht2 Hd Hc]
  · isplitr; · iapply (recs_cell m K c (.snd i)); iexact Hrec
    isplitr; · iapply (recs_cell m K (tgt c i) (.rcv c)); iexact Hrec
    isplitl [Hc]; · unfold chk; iexact Hc
    isplitl [Hd]; · iexact Hd
    isplitl [HO]; · iexact HO
    isplitl [Ht1]; · iexact Ht1
    isplitr; · iapply (recs_reached m K c (.snd i)); iexact Hrec
    isplitl [Ht2]; · iexact Ht2
    iapply (recs_reached m K (tgt c i) (.rcv c)); iexact Hrec
  iintro ⟨Hcr, HO⟩
  rw [wp_ret]
  imodintro
  iapply h
  isplitr [HT]
  · isplitl [HR]; · iexact HR
    unfold SS ow
    isplitr; · iexact Hrec
    isplitl [HO]; · iexists W; iexact HO
    isplitl [HL Hcr]
    · iapply HL; iapply (sndB_ne m hne); iexact Hcr
    iexact HP
  iexact HT

/-- The send of the device's own rows is none: they stay. -/
theorem send_skip {c : Dev nD} (i : Dev nD) (l : ℕ) {R T : sProp 𝕄} (hl : i.val < l) (he : tgt c i = c) :
    iprop((R ∗ SS m K c i.val l) ∗ T) ⊢ iprop((R ∗ SS m K c (i.val + 1) l) ∗ T) := by
  unfold SS ow
  rw [owed_rcv_self c i he 8 0]
  iintro ⟨⟨HR, #Hrec, HO, HL, HP⟩, HT⟩
  icases (loop_step i) $$ HL with ⟨HA, HL⟩
  icases (PW_take m c i l hl) $$ HP with ⟨Hc, HP⟩
  isplitr [HT]
  · isplitl [HR]; · iexact HR
    isplitr; · iexact Hrec
    isplitl [HO]; · iexact HO
    isplitl [HL Hc]
    · iapply HL; iapply (sndB_self m he); iexact Hc
    iexact HP
  iexact HT

theorem SS_elim {c : Dev nD} {k l : ℕ} {R T Z : sProp 𝕄}
    (H : ∀ g : Buf (Elt F) ((c : Thread nD τ).loc cc0_scratch8), (∀ x : S1024x1024.Idx, sidx c ((x 0).val / 128) < l → g x = pV m c x) →
      iprop(((R ∗ recs m K ∗ ow c 8 k 0 ∗ loop k (sndA c) (sndB m c)) ∗ T) ∗ (((c : Thread nD τ).loc cc0_scratch8) ↦[PS c k]{fullShare} g)) ⊢ Z) :
    iprop((R ∗ SS m K c k l) ∗ T) ⊢ Z := by
  unfold SS PW
  iintro ⟨⟨HR, Hrec, HO, HL, %g, %hg, HP⟩, HT⟩
  iapply (H g hg)
  isplitr [HP]
  · isplitr [HT]
    · isplitl [HR]; · iexact HR
      isplitl [Hrec]; · iexact Hrec
      isplitl [HO] <;> iassumption
    iexact HT
  iexact HP

theorem SS_intro {c : Dev nD} {k l : ℕ} {R T : sProp 𝕄} (g : Buf (Elt F) ((c : Thread nD τ).loc cc0_scratch8))
    (hg : ∀ x : S1024x1024.Idx, sidx c ((x 0).val / 128) < l → g x = pV m c x) :
    iprop(((R ∗ recs m K ∗ ow c 8 k 0 ∗ loop k (sndA c) (sndB m c)) ∗ T) ∗ (((c : Thread nD τ).loc cc0_scratch8) ↦[PS c k]{fullShare} g))
      ⊢ iprop((R ∗ SS m K c k l) ∗ T) := by
  unfold SS PW
  iintro ⟨⟨⟨HR, Hrec, HO, HL⟩, HT⟩, HP⟩
  isplitr [HT]
  · isplitl [HR]; · iexact HR
    isplitl [Hrec]; · iexact Hrec
    isplitl [HO]; · iexact HO
    isplitl [HL]; · iexact HL
    iexists g
    isplitr
    · ipureintro; exact hg
    · iexact HP
  iexact HT

/-- A load of a tile of the projected rows before any is stored there: its value is not used. -/
theorem ld_p {c : Dev nD} {R T : sProp 𝕄} (r : Fin 4) {off : Fin 2 → ℕ} {inb} {hl} {Q : Vec F S256x1024 .bf16 → sProp 𝕄} (hoff : off = ![256 * tileOf c r, 0])
    (h : ∀ v, iprop((R ∗ SS m K c (2 * r.val) (2 * r.val)) ∗ T) ⊢ Q v) :
    iprop((R ∗ SS m K c (2 * r.val) (2 * r.val)) ∗ T)
      ⊢ wpc c (Prog.lift (.load pM (Rect.unit (s := S1024x1024) off S256x1024.size inb).toLoadRect hl)) Q := by
  subst hoff
  refine SS_elim m K fun g hg => ?_
  exact load_step (M := pM) (f := g) (S := PS c (2 * r.val)) (p_setL c r) .rfl ((SS_intro m K g hg).trans (h _))

/-- The store of a tile's projected rows. -/
theorem st_p {c : Dev nD} {R T : sProp 𝕄} (r : Fin 4) {off : Fin 2 → ℕ} {inb} {w : FVec F S256x1024 .bf16} {hx} {hm} {Q : PUnit.{1} → sProp 𝕄}
    (hoff : off = ![256 * tileOf c r, 0]) (hw : w = pT m c r)
    (h : iprop((R ∗ SS m K c (2 * r.val) (2 * r.val + 2)) ∗ T) ⊢ Q ⟨⟩) :
    iprop((R ∗ SS m K c (2 * r.val) (2 * r.val)) ∗ T)
      ⊢ wpc c (Prog.lift (.store pM (Rect.unit (s := S1024x1024) off S256x1024.size inb) w Finset.univ hx hm)) Q := by
  subst hoff hw
  refine SS_elim m K fun g hg => ?_
  have e2 := (SS_intro (T := T) (R := R) (k := 2 * r.val) m K _ (p_step m c r g hg)).trans h
  have e3 := store_step (c := c) (M := pM) (r := rectT c r) (w := pT m c r) (hx := hx) (hm := hm) (S := PS c (2 * r.val)) (f := g)
    (p_set c r Finset.univ) .rfl e2
  exact e3

/-- The load of a tile of the attention output once all its heads are stored. -/
theorem ld_ctx {c : Dev nD} {R : sProp 𝕄} {r : Fin 4} {off : Fin 2 → ℕ} {inb} {hl} {Q : Vec F S256x1024 .bf16 → sProp 𝕄} (hoff : off = ![256 * tileOf c r, 0])
    (h : iprop(R ∗ TS m c r 8) ⊢ Q (cT m c r)) :
    iprop(R ∗ TS m c r 8) ⊢ wpc c (Prog.lift (.load ctxM (Rect.unit (s := S1024x1024) off S256x1024.size inb).toLoadRect hl)) Q := by
  subst hoff
  refine (out_of (TS_ctx m)).trans (ctxAt_elim m fun g hg => ?_)
  have e : ctxM.view.readAt (Elt F) (rectT c r).toLoadRect g = cT m c r := by
    funext j
    refine hg ((rectT c r).emb j) ?_ ?_
    · have h0 := (rectT_emb c r j).1
      have j0 : (j 0).val < 256 := (j 0).isLt
      omega
    · have h1 : (((rectT c r).emb j) 1).val < 1024 := (((rectT c r).emb j) 1).isLt
      omega
  exact load_step (M := ctxM) (f := g) (Finset.subset_univ _) .rfl
    ((ctxAt_intro m g hg).trans (back_in (TS_ctx m) (h.trans (Entails.of_eq (congrArg Q e.symm)))))

end Cert.KernelRun
-- ==== Proof.Waits.lean ====
/-
  The waits for the copies, the broadcast of the reduced rows, and the stores of the result.
-/
module

public import proofs.«01_k».proof.Proof.Sends

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ)

/-! ## A loop of waits -/

/-- Between two steps of a loop: the records, what is owed, and the loop. -/
def LS (c : Dev nD) (a b d : ℕ) (k : ℕ) (A B : Dev nD → sProp 𝕄) : sProp 𝕄 := iprop(recs m K ∗ ow c a b d ∗ loop k A B)

theorem loop_wait {c : Dev nD} (k : Ck) (p : Dev nD) (a b d n : ℕ) {w : TpuEff nD τ sig (Elt F) Λ₀ .tc PUnit} {k' : ℕ} {R : sProp 𝕄}
    {A B : Dev nD → sProp 𝕄} {Z : PUnit.{1} → sProp 𝕄}
    (hw : ∀ K' : PUnit → sProp 𝕄, wpE (defs₀ (F := F)) 𝒱₀ (c : Thread nD τ) none Set.univ w K' = waitSpec (c : Thread nD τ) Set.univ (semOf k) k' K')
    (hk : k' = (dutiesOf c (some k)).card * amountOf (some k))
    (hn : lvK (some k) ≤ n) (ha : rest c a ≠ ∅ → n < 1) (hb : restS c b ≠ ∅ → n < 2) (hd : rest c d ≠ ∅ → n < 3)
    (hA : A p ⊢ iprop(atPos ER (cell c k) 0 ∅ 0 ∗ cred (tallyAt (cell c k) () k')))
    (hB : iprop(atPos ER (cell c k) 1 ∅ 0 ∗ bigSep (dutiesOf c (some k)) fun e => payOf m c e (some k)) ⊢ B p)
    (h : iprop(R ∗ LS m K c a b d (p.val + 1) A B) ⊢ Z ⟨⟩) :
    iprop(R ∗ LS m K c a b d p.val A B) ⊢ wpc c (.op w .ret) Z := by
  have e1 : iprop(R ∗ LS m K c a b d p.val A B) ⊢ iprop((R ∗ (B p -∗ loop (p.val + 1) A B)) ∗ recs m K ∗ ow c a b d
      ∗ atPos ER (cell c k) 0 ∅ 0 ∗ cred (tallyAt (cell c k) () k')) := by
    unfold LS
    iintro ⟨HR, #Hrec, HO, HL⟩
    icases (loop_step p) $$ HL with ⟨HA, HL⟩
    icases hA $$ HA with ⟨H1, H2⟩
    isplitl [HR HL]; · isplitl [HR] <;> iassumption
    isplitr; · iexact Hrec
    isplitl [HO]; · iexact HO
    isplitl [H1] <;> iassumption
  refine e1.trans (wait_op m K k a b d n hw hk hn ha hb hd ?_)
  refine BIBase.Entails.trans ?_ h
  unfold LS
  iintro ⟨⟨HR, HL⟩, #Hrec, HO, H1, H2⟩
  isplitl [HR]; · iexact HR
  isplitr; · iexact Hrec
  isplitl [HO]; · iexact HO
  iapply HL
  iapply hB
  isplitl [H1] <;> iassumption

/-- The step of such a loop that does not wait. -/
theorem loop_pass {c : Dev nD} (p : Dev nD) (a b d : ℕ) {R : sProp 𝕄} {A B : Dev nD → sProp 𝕄} (h : A p ⊢ B p) :
    iprop(R ∗ LS m K c a b d p.val A B) ⊢ iprop(R ∗ LS m K c a b d (p.val + 1) A B) := by
  unfold LS
  iintro ⟨HR, #Hrec, HO, HL⟩
  icases (loop_step p) $$ HL with ⟨HA, HL⟩
  isplitl [HR]; · iexact HR
  isplitr; · iexact Hrec
  isplitl [HO]; · iexact HO
  iapply HL
  iapply h
  iexact HA

/-! ## The parts arriving -/

def rcvA (c p : Dev nD) : sProp 𝕄 := if p = c then atPos ER (cell c (.rcv p)) 0 ∅ 0
  else iprop(atPos ER (cell c (.rcv p)) 0 ∅ 0 ∗ cred (tallyAt (cell c (.rcv p)) () NC))
def rcvB (c p : Dev nD) : sProp 𝕄 := if p = c then atPos ER (cell c (.rcv p)) 0 ∅ 0
  else iprop(atPos ER (cell c (.rcv p)) 1 ∅ 0 ∗ mpts c (slabR p) fullShare (rsV m c))

theorem recv_op {c : Dev nD} (p : Dev nD) {h1 h2} {R : sProp 𝕄} {Z : PUnit.{1} → sProp 𝕄} (hne : p ≠ c)
    (h : iprop(R ∗ LS m K c 8 8 0 (p.val + 1) (rcvA c) (rcvB m c)) ⊢ Z ⟨⟩) :
    iprop(R ∗ LS m K c 8 8 0 p.val (rcvA c) (rcvB m c)) ⊢ wpc c (Prog.lift (.waitDma2 (rcvS p) (slabR p) (slabR p) h1 h2)) Z := by
  have hdut : dutiesOf c (some (.rcv p)) = {p} := if_pos hne
  refine loop_wait m K (.rcv p) p 8 8 0 2 (k' := NC) (wpE_waitDma2_eq 𝒱₀ (c : Thread nD τ) none Set.univ)
    (by rw [hdut, Finset.card_singleton, Nat.one_mul]; rfl) (le_refl _) (fun e => absurd (rest_end c) e) (fun e => absurd (restS_end c) e) (fun _ => by decide) ?_ ?_ h
  · unfold rcvA; rw [if_neg hne]
  · unfold rcvB; rw [if_neg hne, hdut, BI.bigSep_singleton]; exact .rfl

theorem recv_skip {c : Dev nD} (p : Dev nD) {R : sProp 𝕄} (he : p = c) :
    iprop(R ∗ LS m K c 8 8 0 p.val (rcvA c) (rcvB m c)) ⊢ iprop(R ∗ LS m K c 8 8 0 (p.val + 1) (rcvA c) (rcvB m c)) :=
  loop_pass m K p 8 8 0 (by unfold rcvA rcvB; rw [if_pos he, if_pos he])

/-! ## The sends done -/

theorem chunk_credit {oP : Fin 2 → ℕ} {iP} : (pM.slice (Rect.unit (s := S1024x1024) oP S128x1024.size iP) (fun _ => rfl)).view.dmaCredit = NC := by
  unfold NC
  show sig.dmaCredit _ _ _ _ _ = sig.dmaCredit _ _ _ _ _
  unfold sig
  dsimp only
  rfl

def swA (c i : Dev nD) : sProp 𝕄 := iprop(atPos ER (cell c (.snd i)) 0 ∅ 0 ∗ sndB m c i)
def swB (c i : Dev nD) : sProp 𝕄 := iprop(atPos ER (cell c (.snd i)) (if tgt c i = c then 0 else 1) ∅ 0 ∗ chk m c i)

theorem sent_op {c : Dev nD} (i : Dev nD) {s : Shape} {e : EltTy} {oP : Fin 2 → ℕ} {iP} {M : Memref sig .tc .vmem s e} {h1 h2} {R : sProp 𝕄} {Z : PUnit.{1} → sProp 𝕄} (hne : tgt c i ≠ c)
    (h : iprop(R ∗ LS m K c 8 8 0 (i.val + 1) (swA m c) (swB m c)) ⊢ Z ⟨⟩) :
    iprop(R ∗ LS m K c 8 8 0 i.val (swA m c) (swB m c)) ⊢ wpc c (Prog.lift (.waitDma2 (sndS i) M
      (pM.slice (Rect.unit (s := S1024x1024) oP S128x1024.size iP) (fun _ => rfl)) h1 h2)) Z := by
  have hdut : dutiesOf c (some (.snd i)) = {c} := if_pos hne
  refine loop_wait m K (.snd i) i 8 8 0 2 (k' := NC) (fun K' => (wpE_waitDma2_eq 𝒱₀ (c : Thread nD τ) none Set.univ K').trans (congrArg (fun n => waitSpec (c : Thread nD τ) Set.univ (semOf (.snd i)) n K') chunk_credit))
    (by rw [hdut, Finset.card_singleton, Nat.one_mul]; rfl) (by simp [lvK]) (fun e => absurd (rest_end c) e) (fun e => absurd (restS_end c) e) (fun _ => by decide) ?_ ?_ h
  · unfold swA sndB; rw [if_neg hne]
  · unfold swB; rw [if_neg hne, hdut, BI.bigSep_singleton]; exact .rfl

theorem sent_skip {c : Dev nD} (i : Dev nD) {R : sProp 𝕄} (he : tgt c i = c) :
    iprop(R ∗ LS m K c 8 8 0 i.val (swA m c) (swB m c)) ⊢ iprop(R ∗ LS m K c 8 8 0 (i.val + 1) (swA m c) (swB m c)) :=
  loop_pass m K i 8 8 0 (by unfold swA swB sndB; rw [if_pos he, if_pos he])

/-! ## The broadcast of the reduced rows -/

def bsA (c q : Dev nD) : sProp 𝕄 := iprop(mpts c bsM (bshare q) (red16 m c) ∗ (if q = c then iprop(emp) else
  iprop(dutyTok ER (cell c (.bsnd q)) 0 c ∗ dutyTok ER (cell q (.brcv c)) 0 c ∗ ∃ f, mpts q (slabB c) fullShare f)))
def bsB (c q : Dev nD) : sProp 𝕄 := if q = c then mpts c bsM (bshare q) (red16 m c) else cred (tallyAt (cell c (.bsnd q)) () NC)
theorem bsA_ne {c q : Dev nD} (h : q ≠ c) : bsA m c q ⊢ iprop(mpts c bsM (bshare q) (red16 m c)
    ∗ dutyTok ER (cell c (.bsnd q)) 0 c ∗ dutyTok ER (cell q (.brcv c)) 0 c ∗ ∃ f, mpts q (slabB c) fullShare f) := by unfold bsA; rw [if_neg h]
theorem bsA_self {c q : Dev nD} (h : q = c) : bsA m c q ⊢ bsB m c q := by
  unfold bsA bsB; rw [if_pos h, if_pos h]
  iintro ⟨H, -⟩; iexact H
theorem bsB_ne {c q : Dev nD} (h : q ≠ c) : cred (tallyAt (cell c (.bsnd q)) () NC) ⊢ (bsB m c q : sProp 𝕄) := by
  unfold bsB; rw [if_neg h]

theorem bsend_rule (c q : Dev nD) (hne : q ≠ c) {hsc : (slabB c : Memref sig .tc .vmem S128x1024 .bf16).view.ref.isScScratch = false}
    {hsrc : (bsM : Memref sig .tc .vmem S128x1024 .bf16).view.WordExact} {hdst : (slabB c : Memref sig .tc .vmem S128x1024 .bf16).view.WordExact}
    {hsem : DmaTarget.Typed .vmem (.dma (brcvS c)) (.remote (Dev.tc q : Thread nD τ) (slabB c : Memref sig .tc .vmem S128x1024 .bf16) (.dma (bsndS q)) hsc)}
    {α : Type} {Q : α → sProp 𝕄} {k : PUnit → Prog (TpuEff nD τ sig (Elt F) Λ₀ .tc) α} (fd : Buf (Elt F) ((slabB c).view.loc (q : Thread nD τ))) (W : Waits sig Unit) :
    iprop(cellInv ER (rd m) (K (c, .bsnd q)) (cell c (.bsnd q)) ∗ cellInv ER (rd m) (K (q, .brcv c)) (cell q (.brcv c))
        ∗ mpts c bsM (bshare q) (red16 m c) ∗ mpts q (slabB c) fullShare fd ∗ owes (c : Thread nD τ) (owed c 8 8 q.val) W
        ∗ dutyTok ER (cell c (.bsnd q)) 0 c ∗ reached ER (cell c (.bsnd q)) 0
        ∗ dutyTok ER (cell q (.brcv c)) 0 c ∗ reached ER (cell q (.brcv c)) 0)
      ⊢ iprop(((cred (tallyAt (cell c (.bsnd q)) () NC) ∗ owes (c : Thread nD τ) (owed c 8 8 (q.val + 1)) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma bsM (.remote (Dev.tc q : Thread nD τ) (slabB c) (.dma (bsndS q)) hsc) (.dma (brcvS c)) hsrc hdst hsem) k) Q) :=
  Rounds.wp_send_pointsTo 𝒱₀ ER (rd m) (c : Thread nD τ) none (κ₁ := K (c, .bsnd q)) (κ₂ := K (q, .brcv c))
    (r₁ := 0) (r₂ := 0) (d₁ := c) (d₂ := c) (fd := fd)
    (by rw [duties_cell, show dutiesOf c (some (.bsnd q)) = {c} from if_pos hne]; exact Finset.mem_singleton_self _)
    (by rw [duties_cell, show dutiesOf q (some (.brcv c)) = {c} from if_pos hne.symm]; exact Finset.mem_singleton_self _)
    () () NC rfl (amount_cell m c (.bsnd q) 0 c) (amount_cell m q (.brcv c) 0 c) (owed c 8 8 (q.val + 1)) (owed_brcv c q hne 8 8) (W := W)
    (Entails.of_eq (payload_cell m c (.bsnd q) 0 c).symm)
    ((Entails.of_eq (pointsTo_congr fun x hx => sent_red m c fd x hx)).trans (Entails.of_eq (payload_cell m q (.brcv c) 0 c).symm))

theorem bsend_op {c : Dev nD} (q : Dev nD) {t : Dev nD} {oR : Fin 1 → ℕ} {oD : Fin 3 → ℕ} {iR iD} {hsc} {hsrc} {hdst} {hsem} {R : sProp 𝕄}
    {Z : PUnit.{1} → sProp 𝕄} (hne : q ≠ c) (ht : t = q) (hR : oR = ![c.val]) (hD : oD = ![c.val, 0, 0])
    (h : iprop(R ∗ LS m K c 8 8 (q.val + 1) (q.val + 1) (bsA m c) (bsB m c)) ⊢ Z ⟨⟩) :
    iprop(R ∗ LS m K c 8 8 q.val q.val (bsA m c) (bsB m c)) ⊢ wpc c (Prog.lift (.enqueueDma bsM
      (.remote (Dev.tc t : Thread nD τ) ((bcM.slice (Rect.unit (s := S8x128x1024) oD S1x128x1024.size iD) (fun _ => rfl)).squeeze S128x1024
        squeezes_S1x128x1024_S128x1024) (.dma (bsndS q)) hsc)
      (.dma ((cc0_scratch16.slice (Rect.unit (s := S8) oR S1.size iR)).squeeze S_ squeezes_S1_S_).sem) hsrc hdst hsem)) Z := by
  subst ht hR hD
  unfold LS ow wpc Prog.lift
  iintro ⟨HR, #Hrec, ⟨%W, HO⟩, HL⟩
  icases (loop_step t) $$ HL with ⟨HA, HL⟩
  icases (bsA_ne m hne) $$ HA with ⟨Hc, Ht1, Ht2, %fd, Hd⟩
  iapply (bsend_rule m K c t hne fd W) $$ [HO Ht1 Ht2 Hd Hc]
  · isplitr; · iapply (recs_cell m K c (.bsnd t)); iexact Hrec
    isplitr; · iapply (recs_cell m K t (.brcv c)); iexact Hrec
    isplitl [Hc]; · iexact Hc
    isplitl [Hd]; · iexact Hd
    isplitl [HO]; · iexact HO
    isplitl [Ht1]; · iexact Ht1
    isplitr; · iapply (recs_reached m K c (.bsnd t)); iexact Hrec
    isplitl [Ht2]; · iexact Ht2
    iapply (recs_reached m K t (.brcv c)); iexact Hrec
  iintro ⟨Hcr, HO⟩
  rw [wp_ret]
  imodintro
  iapply h
  isplitl [HR]; · iexact HR
  unfold LS ow
  isplitr; · iexact Hrec
  isplitl [HO]; · iexists W; iexact HO
  iapply HL; iapply (bsB_ne m hne); iexact Hcr

theorem bsend_skip {c : Dev nD} (q : Dev nD) {R : sProp 𝕄} (he : q = c) :
    iprop(R ∗ LS m K c 8 8 q.val q.val (bsA m c) (bsB m c)) ⊢ iprop(R ∗ LS m K c 8 8 (q.val + 1) (q.val + 1) (bsA m c) (bsB m c)) := by
  have e := loop_pass m K (c := c) (R := R) q 8 8 q.val (bsA_self m he)
  subst he
  refine e.trans ?_
  unfold LS ow
  rw [owed_brcv_self]

def bwA (c q : Dev nD) : sProp 𝕄 := iprop(atPos ER (cell c (.bsnd q)) 0 ∅ 0 ∗ bsB m c q)
def bwB (c q : Dev nD) : sProp 𝕄 := iprop(atPos ER (cell c (.bsnd q)) (if q = c then 0 else 1) ∅ 0 ∗ mpts c bsM (bshare q) (red16 m c))

theorem bsent_op {c : Dev nD} (q : Dev nD) {s : Shape} {e : EltTy} {M : Memref sig .tc .vmem s e} {h1 h2} {R : sProp 𝕄} {Z : PUnit.{1} → sProp 𝕄} (hne : q ≠ c)
    (h : iprop(R ∗ LS m K c 8 8 8 (q.val + 1) (bwA m c) (bwB m c)) ⊢ Z ⟨⟩) :
    iprop(R ∗ LS m K c 8 8 8 q.val (bwA m c) (bwB m c)) ⊢ wpc c (Prog.lift (.waitDma2 (bsndS q) M bsM h1 h2)) Z := by
  have hdut : dutiesOf c (some (.bsnd q)) = {c} := if_pos hne
  refine loop_wait m K (.bsnd q) q 8 8 8 2 (k' := NC) (wpE_waitDma2_eq 𝒱₀ (c : Thread nD τ) none Set.univ)
    (by rw [hdut, Finset.card_singleton, Nat.one_mul]; rfl) (by simp [lvK]) (fun e => absurd (rest_end c) e) (fun e => absurd (restS_end c) e) (fun e => absurd (rest_end c) e) ?_ ?_ h
  · unfold bwA bsB; rw [if_neg hne]
  · unfold bwB; rw [if_neg hne, hdut, BI.bigSep_singleton]; exact .rfl

theorem bsent_skip {c : Dev nD} (q : Dev nD) {R : sProp 𝕄} (he : q = c) :
    iprop(R ∗ LS m K c 8 8 8 q.val (bwA m c) (bwB m c)) ⊢ iprop(R ∗ LS m K c 8 8 8 (q.val + 1) (bwA m c) (bwB m c)) :=
  loop_pass m K q 8 8 8 (by unfold bwA bwB bsB; rw [if_pos he, if_pos he])

/-! ## The reduced rows arriving, and the result -/

def brA (c p : Dev nD) : sProp 𝕄 := if p = c then atPos ER (cell c (.brcv p)) 0 ∅ 0
  else iprop(atPos ER (cell c (.brcv p)) 0 ∅ 0 ∗ cred (tallyAt (cell c (.brcv p)) () NC))
def brB (c p : Dev nD) : sProp 𝕄 := if p = c then atPos ER (cell c (.brcv p)) 0 ∅ 0
  else iprop(atPos ER (cell c (.brcv p)) 1 ∅ 0 ∗ mpts c (slabB p) fullShare (bcV m))

/-- The result's buffer once the rows of the devices before `k`, and this device's own, are stored. -/
def OA (c : Dev nD) (k : ℕ) : sProp 𝕄 :=
  iprop(∃ g : Buf (Elt F) ((c : Thread nD τ).loc cc0_stg3_0),
    ⌜∀ x : S1024x1024.Idx, ((x 0).val / 128 < k ∨ (x 0).val / 128 = c.val) → g x = outV m c x⌝ ∗ (((c : Thread nD τ).loc cc0_stg3_0) ↦{fullShare} g))

theorem OA_elim {c : Dev nD} {k : ℕ} {R Z : sProp 𝕄}
    (H : ∀ g : Buf (Elt F) ((c : Thread nD τ).loc cc0_stg3_0),
      (∀ x : S1024x1024.Idx, ((x 0).val / 128 < k ∨ (x 0).val / 128 = c.val) → g x = outV m c x) →
      iprop(R ∗ (((c : Thread nD τ).loc cc0_stg3_0) ↦{fullShare} g)) ⊢ Z) : iprop(R ∗ OA m c k) ⊢ Z := by
  unfold OA
  iintro ⟨HR, %g, %hg, HG⟩
  iapply (H g hg)
  isplitl [HR] <;> iassumption

theorem OA_intro {c : Dev nD} {k : ℕ} {R : sProp 𝕄} (g : Buf (Elt F) ((c : Thread nD τ).loc cc0_stg3_0))
    (hg : ∀ x : S1024x1024.Idx, ((x 0).val / 128 < k ∨ (x 0).val / 128 = c.val) → g x = outV m c x) :
    iprop(R ∗ (((c : Thread nD τ).loc cc0_stg3_0) ↦{fullShare} g)) ⊢ iprop(R ∗ OA m c k) := by
  unfold OA
  iintro ⟨HR, HG⟩
  isplitl [HR]; · iexact HR
  iexists g
  isplitr
  · ipureintro; exact hg
  · iexact HG

abbrev rectC (p : Dev nD) : Rect S1024x1024 := Rect.unit (s := S1024x1024) ![128 * p.val, 0] S128x1024.size (inbC p)

theorem rectC_emb (p : Dev nD) (j : S128x1024.Idx) :
    (((rectC p).emb j) 0).val = 128 * p.val + (j 0).val ∧ (((rectC p).emb j) 1).val = (j 1).val := by
  constructor
  · rw [Rect.emb_apply]; show 128 * p.val + 1 * (j 0).val = _; omega
  · rw [Rect.emb_apply]; show 0 + 1 * (j 1).val = _; omega

theorem o_write (p : Dev nD) (g : (cc0_stg3_0 : Ref sig .tc).ty.Contents (Elt F)) (w : FVec F S128x1024 .f32) (x : S1024x1024.Idx) :
    ((x 0).val / 128 ≠ p.val → (oM.access (rectC p)).write (Elt F) g w Finset.univ x = g x)
      ∧ ((x 0).val / 128 = p.val → (oM.access (rectC p)).write (Elt F) g w Finset.univ x = w (ix2 ⟨(x 0).val % 128, Nat.mod_lt _ (by decide)⟩ (x 1))) := by
  constructor
  · intro h
    refine View.write_of_not_mem (v := oM.access (rectC p)) g w Finset.univ fun hmem => ?_
    obtain ⟨j, -, hj⟩ := Finset.mem_map.mp hmem
    have h0 := (rectC_emb p j).1
    have j0 : (j 0).val < 128 := (j 0).isLt
    have e : (rectC p).emb j = x := hj
    rw [e] at h0
    exact h (by omega)
  · intro h
    have e : (rectC p).emb (ix2 ⟨(x 0).val % 128, Nat.mod_lt _ (by decide)⟩ (x 1)) = x := by
      obtain ⟨h0, h1⟩ := rectC_emb p (ix2 ⟨(x 0).val % 128, Nat.mod_lt _ (by decide)⟩ (x 1))
      funext a
      match a with
      | ⟨0, _⟩ => exact Fin.ext (h0.trans (by show 128 * p.val + (x 0).val % 128 = (x 0).val; omega))
      | ⟨1, _⟩ => exact Fin.ext h1
    have e2 := View.write_emb_of_mem (v := oM.access (rectC p)) g w (Finset.mem_univ (ix2 (n0 := 128) (n1 := 1024) ⟨(x 0).val % 128, Nat.mod_lt _ (by decide)⟩ (x 1)))
    have e3 : (oM.access (rectC p)).emb (ix2 (n0 := 128) (n1 := 1024) ⟨(x 0).val % 128, Nat.mod_lt _ (by decide)⟩ (x 1)) = x := e
    rw [e3] at e2
    exact e2

theorem out_own (c : Dev nD) (g : (cc0_stg3_0 : Ref sig .tc).ty.Contents (Elt F)) (x : S1024x1024.Idx)
    (hx : (x 0).val / 128 < 0 ∨ (x 0).val / 128 = c.val) :
    (oM.access (rectC c)).write (Elt F) g (red32 m c) Finset.univ x = outV m c x := by
  have h : (x 0).val / 128 = c.val := hx.resolve_left (Nat.not_lt_zero _)
  rw [(o_write c g _ x).2 h]
  unfold outV
  rw [if_pos h]

theorem out_bc (c p : Dev nD) (hne : p ≠ c) (g : (cc0_stg3_0 : Ref sig .tc).ty.Contents (Elt F))
    (hg : ∀ x : S1024x1024.Idx, ((x 0).val / 128 < p.val ∨ (x 0).val / 128 = c.val) → g x = outV m c x) (x : S1024x1024.Idx)
    (hx : (x 0).val / 128 < p.val + 1 ∨ (x 0).val / 128 = c.val) :
    (oM.access (rectC p)).write (Elt F) g (k0_pay86 (slB p (bcV m))) Finset.univ x = outV m c x := by
  by_cases h : (x 0).val / 128 = p.val
  · rw [(o_write p g _ x).2 h]
    unfold outV
    have hc : (x 0).val / 128 ≠ c.val := fun e => hne (Fin.ext (h.symm.trans e))
    rw [if_neg hc]
    have hi : ∀ q : Dev nD, q = p → k0_pay86 (slB p (bcV m)) (ix2 ⟨(x 0).val % 128, Nat.mod_lt _ (by decide)⟩ (x 1))
        = k0_pay86 (slB q (bcV m)) (ix2 ⟨(x 0).val % 128, Nat.mod_lt _ (by decide)⟩ (x 1)) := by rintro _ rfl; rfl
    exact hi _ (Fin.ext h)
  · rw [(o_write p g _ x).1 h]
    exact hg x (hx.imp (fun h' => by omega) id)

theorem OA_skip {c : Dev nD} (p : Dev nD) (he : p = c) : OA m c p.val ⊢ OA m c (p.val + 1) := by
  unfold OA
  iintro ⟨%g, %hg, H⟩
  iexists g
  isplitr
  · ipureintro
    intro x hx
    refine hg x ?_
    subst he
    rcases hx with hx | hx
    · rcases Nat.lt_succ_iff_lt_or_eq.mp hx with h | h
      · exact .inl h
      · exact .inr h
    · exact .inr hx
  · iexact H

/-- The own rows' store. -/
theorem ld_o {c : Dev nD} {R : sProp 𝕄} {k : ℕ} {rr : LoadRect S1024x1024} {hl} {Q : (rr.shape.Idx → F .f32) → sProp 𝕄}
    (h : ∀ v, iprop(R ∗ OA m c k) ⊢ Q v) : iprop(R ∗ OA m c k) ⊢ wpc c (Prog.lift (.load oM rr hl)) Q := by
  refine OA_elim m fun g hg => ?_
  exact load_step (M := oM) (f := g) (Finset.subset_univ _) .rfl ((OA_intro m g hg).trans (h _))

theorem st_own {c : Dev nD} {R : sProp 𝕄} {off : Fin 2 → ℕ} {inb} {w : FVec F S128x1024 .f32} {hx} {hm} {Q : PUnit.{1} → sProp 𝕄}
    {g : Buf (Elt F) ((c : Thread nD τ).loc cc0_stg3_0)}
    (hoff : off = ![128 * c.val, 0]) (hw : w = red32 m c) (h : iprop(R ∗ OA m c 0) ⊢ Q ⟨⟩) :
    iprop(R ∗ (((c : Thread nD τ).loc cc0_stg3_0) ↦{fullShare} g))
      ⊢ wpc c (Prog.lift (.store oM (Rect.unit (s := S1024x1024) off S128x1024.size inb) w Finset.univ hx hm)) Q := by
  subst hoff hw
  have e2 := (OA_intro (R := R) m _ (out_own m c g)).trans h
  have e3 := store_step (c := c) (M := oM) (r := rectC c) (w := red32 m c) (hx := hx) (hm := hm) (S := Finset.univ) (f := g)
    (Finset.subset_univ _) .rfl e2
  exact e3

theorem st_bc {c : Dev nD} {R : sProp 𝕄} (p : Dev nD) (hne : p ≠ c) {inb} {w : FVec F S128x1024 .f32} {hx} {hm} {Q : PUnit.{1} → sProp 𝕄}
    (hw : w = k0_pay86 (slB p (bcV m))) (h : iprop(R ∗ OA m c (p.val + 1)) ⊢ Q ⟨⟩) :
    iprop(R ∗ OA m c p.val)
      ⊢ wpc c (Prog.lift (.store oM (Rect.unit (s := S1024x1024) ![128 * p.val, 0] S128x1024.size inb) w Finset.univ hx hm)) Q := by
  subst hw
  refine OA_elim m fun g hg => ?_
  have e2 := (OA_intro (R := R) m _ (out_bc m c p hne g hg)).trans h
  have e3 := store_step (c := c) (M := oM) (r := rectC p) (w := k0_pay86 (slB p (bcV m))) (hx := hx) (hm := hm) (S := Finset.univ) (f := g)
    (Finset.subset_univ _) .rfl e2
  exact e3

theorem slab_setL (p : Dev nD) (inb) : bcM.view.setOn (Rect.unit (s := S8x128x1024) ![p.val, 0, 0] S1x128x1024.size inb).toLoadRect.set ⊆ (slabB p).view.set := by
  intro x hx
  obtain ⟨y, hy, rfl⟩ := Finset.mem_map.mp hx
  obtain ⟨j, hj, e⟩ := (LoadRect.mem_set (r := (Rect.unit (s := S8x128x1024) ![p.val, 0, 0] S1x128x1024.size inb).toLoadRect)).mp hy 0
  have hj' : j < 1 := hj
  have e' : (y 0).val = p.val + 1 * j := e
  exact (mem_slabB p y).mpr (Fin.ext (by omega))

theorem brcv_pay (c p : Dev nD) : payOf m c p (some (.brcv p)) ⊢ (bcM.view.loc (c : Thread nD τ) ↦[(slabB p).view.set]{fullShare} bcV m : sProp 𝕄) := .rfl
theorem brcv_back (c p : Dev nD) : (bcM.view.loc (c : Thread nD τ) ↦[(slabB p).view.set]{fullShare} bcV m : sProp 𝕄) ⊢ (mpts c (slabB p) fullShare (bcV m) : sProp 𝕄) := .rfl

/-- Device `p`'s reduced rows: the wait, the load, and their store into the result. -/
theorem brecv_op {c : Dev nD} (p : Dev nD) {h1 h2} {inb inbo inbo'} {hl hlo hx hm} {fw : Vec F S1x128x1024 .bf16 → FVec F S128x1024 .f32}
    (hfw : fw = k0_pay86)
    {R : sProp 𝕄} {α : Type} {J : Prog (TpuEff nD τ sig (Elt F) Λ₀ .tc) α} {Q : α → sProp 𝕄} (hne : p ≠ c)
    (h : iprop((R ∗ LS m K c 8 8 8 (p.val + 1) (brA c) (brB m c)) ∗ OA m c (p.val + 1)) ⊢ wpc c J Q) :
    iprop((R ∗ LS m K c 8 8 8 p.val (brA c) (brB m c)) ∗ OA m c p.val) ⊢ wpc c
      (Prog.lift (.waitDma2 (brcvS p) bsM (slabB p) h1 h2) >>= fun _ =>
        Prog.lift (.load bcM (Rect.unit (s := S8x128x1024) ![p.val, 0, 0] S1x128x1024.size inb).toLoadRect hl) >>= fun v =>
        Prog.lift (.load oM (Rect.unit (s := S1024x1024) ![128 * p.val, 0] S128x1024.size inbo).toLoadRect hlo) >>= fun _ =>
        Prog.lift (.store oM (Rect.unit (s := S1024x1024) ![128 * p.val, 0] S128x1024.size inbo') (fw v) Finset.univ hx hm) >>= fun _ => J) Q := by
  subst hfw
  have hdut : dutiesOf c (some (.brcv p)) = {p} := if_pos hne
  have e1 : iprop((R ∗ LS m K c 8 8 8 p.val (brA c) (brB m c)) ∗ OA m c p.val)
      ⊢ iprop(((R ∗ OA m c p.val) ∗ (brB m c p -∗ loop (p.val + 1) (brA c) (brB m c))) ∗ recs m K ∗ ow c 8 8 8
      ∗ atPos ER (cell c (.brcv p)) 0 ∅ 0 ∗ cred (tallyAt (cell c (.brcv p)) () NC)) := by
    unfold LS
    iintro ⟨⟨HR, #Hrec, HO, HL⟩, Hout⟩
    icases (loop_step p) $$ HL with ⟨HA, HL⟩
    unfold brA
    icases (Entails.of_eq (if_neg hne)) $$ HA with ⟨H1, H2⟩
    isplitl [HR HL Hout]
    · isplitr [HL]
      · isplitl [HR] <;> iassumption
      · iexact HL
    isplitr; · iexact Hrec
    isplitl [HO]; · iexact HO
    isplitl [H1] <;> iassumption
  refine e1.trans (seq_step ?_)
  refine wait_op m K (.brcv p) 8 8 8 3 (k' := NC) (wpE_waitDma2_eq 𝒱₀ (c : Thread nD τ) none Set.univ)
    (by rw [hdut, Finset.card_singleton, Nat.one_mul]; rfl) (le_refl _) (fun e => absurd (rest_end c) e) (fun e => absurd (restS_end c) e)
    (fun e => absurd (rest_end c) e) ?_
  rw [hdut, BI.bigSep_singleton]
  refine seq_step (load_step (c := c) (M := bcM) (S := (slabB p).view.set) (f := bcV m)
    (R := iprop(((R ∗ OA m c p.val) ∗ (brB m c p -∗ loop (p.val + 1) (brA c) (brB m c))) ∗ recs m K ∗ ow c 8 8 8
      ∗ atPos ER (cell c (.brcv p)) 1 ∅ 0)) (slab_setL p inb) ?_ ?_)
  · iintro ⟨H1, H2, H3, H4, H5⟩
    isplitr [H5]
    · isplitl [H1]; · iexact H1
      isplitl [H2]; · iexact H2
      isplitl [H3] <;> iassumption
    · iapply (brcv_pay m c p); iexact H5
  refine BIBase.Entails.trans (Q := iprop((R ∗ LS m K c 8 8 8 (p.val + 1) (brA c) (brB m c)) ∗ OA m c p.val)) ?_
    (seq_step (ld_o m fun v => seq_step (st_bc m p hne rfl h)))
  unfold LS
  iintro ⟨⟨⟨⟨HR, Hout⟩, HL⟩, #Hrec, HO, H1⟩, H5⟩
  isplitr [Hout]
  · isplitl [HR]; · iexact HR
    isplitr; · iexact Hrec
    isplitl [HO]; · iexact HO
    iapply HL
    unfold brB
    iapply (Entails.of_eq (if_neg hne).symm)
    isplitl [H1]; · iexact H1
    iapply (brcv_back m c p); iexact H5
  iexact Hout

theorem brecv_skip {c : Dev nD} (p : Dev nD) {R : sProp 𝕄} (he : p = c) :
    iprop((R ∗ LS m K c 8 8 8 p.val (brA c) (brB m c)) ∗ OA m c p.val)
      ⊢ iprop((R ∗ LS m K c 8 8 8 (p.val + 1) (brA c) (brB m c)) ∗ OA m c (p.val + 1)) :=
  BIClass.sep_mono (loop_pass m K p 8 8 8 (by unfold brA brB; rw [if_pos he, if_pos he])) (OA_skip m p he)

end Cert.KernelRun
-- ==== Proof.Facts.lean ====
/-
  The windows, the targets and the conditions the kernel computes from its device word, in closed form.
-/
module

public import proofs.«01_k».proof.Proof.Waits

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

theorem kwin0 : ∀ (c : Dev nD) (r : Fin 4), k0_off4 c (BitVec.ofNat 32 r.val) = ![kst c r, 128 * (0 : Fin 8).val] := by decide +kernel
theorem kwin1 : ∀ (c : Dev nD) (r : Fin 4), k0_off6 c (BitVec.ofNat 32 r.val) = ![kst c r, 128 * (1 : Fin 8).val] := by decide +kernel
theorem kwin2 : ∀ (c : Dev nD) (r : Fin 4), k0_off8 c (BitVec.ofNat 32 r.val) = ![kst c r, 128 * (2 : Fin 8).val] := by decide +kernel
theorem kwin3 : ∀ (c : Dev nD) (r : Fin 4), k0_off10 c (BitVec.ofNat 32 r.val) = ![kst c r, 128 * (3 : Fin 8).val] := by decide +kernel
theorem kwin4 : ∀ (c : Dev nD) (r : Fin 4), k0_off12 c (BitVec.ofNat 32 r.val) = ![kst c r, 128 * (4 : Fin 8).val] := by decide +kernel
theorem kwin5 : ∀ (c : Dev nD) (r : Fin 4), k0_off14 c (BitVec.ofNat 32 r.val) = ![kst c r, 128 * (5 : Fin 8).val] := by decide +kernel
theorem kwin6 : ∀ (c : Dev nD) (r : Fin 4), k0_off16 c (BitVec.ofNat 32 r.val) = ![kst c r, 128 * (6 : Fin 8).val] := by decide +kernel
theorem kwin7 : ∀ (c : Dev nD) (r : Fin 4), k0_off18 c (BitVec.ofNat 32 r.val) = ![kst c r, 128 * (7 : Fin 8).val] := by decide +kernel
theorem cwin0 : ∀ (c : Dev nD) (r : Fin 4), k0_off5 c (BitVec.ofNat 32 r.val) = ![256 * tileOf c r, 128 * (0 : Fin 8).val] := by decide +kernel
theorem cwin1 : ∀ (c : Dev nD) (r : Fin 4), k0_off7 c (BitVec.ofNat 32 r.val) = ![256 * tileOf c r, 128 * (1 : Fin 8).val] := by decide +kernel
theorem cwin2 : ∀ (c : Dev nD) (r : Fin 4), k0_off9 c (BitVec.ofNat 32 r.val) = ![256 * tileOf c r, 128 * (2 : Fin 8).val] := by decide +kernel
theorem cwin3 : ∀ (c : Dev nD) (r : Fin 4), k0_off11 c (BitVec.ofNat 32 r.val) = ![256 * tileOf c r, 128 * (3 : Fin 8).val] := by decide +kernel
theorem cwin4 : ∀ (c : Dev nD) (r : Fin 4), k0_off13 c (BitVec.ofNat 32 r.val) = ![256 * tileOf c r, 128 * (4 : Fin 8).val] := by decide +kernel
theorem cwin5 : ∀ (c : Dev nD) (r : Fin 4), k0_off15 c (BitVec.ofNat 32 r.val) = ![256 * tileOf c r, 128 * (5 : Fin 8).val] := by decide +kernel
theorem cwin6 : ∀ (c : Dev nD) (r : Fin 4), k0_off17 c (BitVec.ofNat 32 r.val) = ![256 * tileOf c r, 128 * (6 : Fin 8).val] := by decide +kernel
theorem cwin7 : ∀ (c : Dev nD) (r : Fin 4), k0_off19 c (BitVec.ofNat 32 r.val) = ![256 * tileOf c r, 128 * (7 : Fin 8).val] := by decide +kernel
theorem twin : ∀ (c : Dev nD) (r : Fin 4), k0_off3 c (BitVec.ofNat 32 r.val) = ![256 * tileOf c r, 0] := by decide +kernel
theorem sndR0 : ∀ c : Dev nD, k0_off20 c = ![c.val] := by decide +kernel
theorem sndD0 : ∀ c : Dev nD, k0_off21 c = ![c.val, 0, 0] := by decide +kernel
theorem sndP0 : ∀ c : Dev nD, k0_off22 c = ![128 * (tgt c 0).val, 0] := by decide +kernel
theorem sndT0 : ∀ c : Dev nD, k0_dev9 c = (tgt c 0).val := by decide +kernel
theorem sndC0 : ∀ c : Dev nD, k0_cond9 c = 1#1 ↔ tgt c 0 ≠ c := by decide +kernel
theorem senC0 : ∀ c : Dev nD, k0_cond25 c = 1#1 ↔ tgt c 0 ≠ c := by decide +kernel
theorem sigC0 : ∀ c : Dev nD, k0_cond1 c = 1#1 ↔ (0 : Dev nD) ≠ c := by decide +kernel
theorem sigT0 : k0_dev1 = (0 : Dev nD).val := by decide +kernel
theorem bsT0 : k0_dev17 = (0 : Dev nD).val := by decide +kernel
theorem bsC0 : ∀ c : Dev nD, k0_cond33 c = 1#1 ↔ (0 : Dev nD) ≠ c := by decide +kernel
theorem bwC0 : ∀ c : Dev nD, k0_cond49 c = 1#1 ↔ (0 : Dev nD) ≠ c := by decide +kernel
theorem bsR0 : ∀ c : Dev nD, k0_off61 c = ![c.val] := by decide +kernel
theorem bsD0 : ∀ c : Dev nD, k0_off62 c = ![c.val, 0, 0] := by decide +kernel
theorem rcvC0 : ∀ c : Dev nD, Scalar.cmpi .ne (Scalar.extui (Scalar.cmpi .ne (word2 c) 0#32) : BitVec 32) 0#32 = 1#1 ↔ (0 : Dev nD) ≠ c := by decide +kernel
theorem sndR1 : ∀ c : Dev nD, k0_off23 c = ![c.val] := by decide +kernel
theorem sndD1 : ∀ c : Dev nD, k0_off24 c = ![c.val, 0, 0] := by decide +kernel
theorem sndP1 : ∀ c : Dev nD, k0_off25 c = ![128 * (tgt c 1).val, 0] := by decide +kernel
theorem sndT1 : ∀ c : Dev nD, k0_dev10 c = (tgt c 1).val := by decide +kernel
theorem sndC1 : ∀ c : Dev nD, k0_cond10 c = 1#1 ↔ tgt c 1 ≠ c := by decide +kernel
theorem senC1 : ∀ c : Dev nD, k0_cond26 c = 1#1 ↔ tgt c 1 ≠ c := by decide +kernel
theorem sigC1 : ∀ c : Dev nD, k0_cond2 c = 1#1 ↔ (1 : Dev nD) ≠ c := by decide +kernel
theorem sigT1 : k0_dev2 = (1 : Dev nD).val := by decide +kernel
theorem bsT1 : k0_dev18 = (1 : Dev nD).val := by decide +kernel
theorem bsC1 : ∀ c : Dev nD, k0_cond34 c = 1#1 ↔ (1 : Dev nD) ≠ c := by decide +kernel
theorem bwC1 : ∀ c : Dev nD, k0_cond50 c = 1#1 ↔ (1 : Dev nD) ≠ c := by decide +kernel
theorem bsR1 : ∀ c : Dev nD, k0_off63 c = ![c.val] := by decide +kernel
theorem bsD1 : ∀ c : Dev nD, k0_off64 c = ![c.val, 0, 0] := by decide +kernel
theorem rcvC1 : ∀ c : Dev nD, Scalar.cmpi .ne (Scalar.extui (Scalar.cmpi .ne (word2 c) 1#32) : BitVec 32) 0#32 = 1#1 ↔ (1 : Dev nD) ≠ c := by decide +kernel
theorem sndR2 : ∀ c : Dev nD, k0_off26 c = ![c.val] := by decide +kernel
theorem sndD2 : ∀ c : Dev nD, k0_off27 c = ![c.val, 0, 0] := by decide +kernel
theorem sndP2 : ∀ c : Dev nD, k0_off28 c = ![128 * (tgt c 2).val, 0] := by decide +kernel
theorem sndT2 : ∀ c : Dev nD, k0_dev11 c = (tgt c 2).val := by decide +kernel
theorem sndC2 : ∀ c : Dev nD, k0_cond11 c = 1#1 ↔ tgt c 2 ≠ c := by decide +kernel
theorem senC2 : ∀ c : Dev nD, k0_cond27 c = 1#1 ↔ tgt c 2 ≠ c := by decide +kernel
theorem sigC2 : ∀ c : Dev nD, k0_cond3 c = 1#1 ↔ (2 : Dev nD) ≠ c := by decide +kernel
theorem sigT2 : k0_dev3 = (2 : Dev nD).val := by decide +kernel
theorem bsT2 : k0_dev19 = (2 : Dev nD).val := by decide +kernel
theorem bsC2 : ∀ c : Dev nD, k0_cond35 c = 1#1 ↔ (2 : Dev nD) ≠ c := by decide +kernel
theorem bwC2 : ∀ c : Dev nD, k0_cond51 c = 1#1 ↔ (2 : Dev nD) ≠ c := by decide +kernel
theorem bsR2 : ∀ c : Dev nD, k0_off65 c = ![c.val] := by decide +kernel
theorem bsD2 : ∀ c : Dev nD, k0_off66 c = ![c.val, 0, 0] := by decide +kernel
theorem rcvC2 : ∀ c : Dev nD, Scalar.cmpi .ne (Scalar.extui (Scalar.cmpi .ne (word2 c) 2#32) : BitVec 32) 0#32 = 1#1 ↔ (2 : Dev nD) ≠ c := by decide +kernel
theorem sndR3 : ∀ c : Dev nD, k0_off29 c = ![c.val] := by decide +kernel
theorem sndD3 : ∀ c : Dev nD, k0_off30 c = ![c.val, 0, 0] := by decide +kernel
theorem sndP3 : ∀ c : Dev nD, k0_off31 c = ![128 * (tgt c 3).val, 0] := by decide +kernel
theorem sndT3 : ∀ c : Dev nD, k0_dev12 c = (tgt c 3).val := by decide +kernel
theorem sndC3 : ∀ c : Dev nD, k0_cond12 c = 1#1 ↔ tgt c 3 ≠ c := by decide +kernel
theorem senC3 : ∀ c : Dev nD, k0_cond28 c = 1#1 ↔ tgt c 3 ≠ c := by decide +kernel
theorem sigC3 : ∀ c : Dev nD, k0_cond4 c = 1#1 ↔ (3 : Dev nD) ≠ c := by decide +kernel
theorem sigT3 : k0_dev4 = (3 : Dev nD).val := by decide +kernel
theorem bsT3 : k0_dev20 = (3 : Dev nD).val := by decide +kernel
theorem bsC3 : ∀ c : Dev nD, k0_cond36 c = 1#1 ↔ (3 : Dev nD) ≠ c := by decide +kernel
theorem bwC3 : ∀ c : Dev nD, k0_cond52 c = 1#1 ↔ (3 : Dev nD) ≠ c := by decide +kernel
theorem bsR3 : ∀ c : Dev nD, k0_off67 c = ![c.val] := by decide +kernel
theorem bsD3 : ∀ c : Dev nD, k0_off68 c = ![c.val, 0, 0] := by decide +kernel
theorem rcvC3 : ∀ c : Dev nD, Scalar.cmpi .ne (Scalar.extui (Scalar.cmpi .ne (word2 c) 3#32) : BitVec 32) 0#32 = 1#1 ↔ (3 : Dev nD) ≠ c := by decide +kernel
theorem sndR4 : ∀ c : Dev nD, k0_off32 c = ![c.val] := by decide +kernel
theorem sndD4 : ∀ c : Dev nD, k0_off33 c = ![c.val, 0, 0] := by decide +kernel
theorem sndP4 : ∀ c : Dev nD, k0_off34 c = ![128 * (tgt c 4).val, 0] := by decide +kernel
theorem sndT4 : ∀ c : Dev nD, k0_dev13 c = (tgt c 4).val := by decide +kernel
theorem sndC4 : ∀ c : Dev nD, k0_cond13 c = 1#1 ↔ tgt c 4 ≠ c := by decide +kernel
theorem senC4 : ∀ c : Dev nD, k0_cond29 c = 1#1 ↔ tgt c 4 ≠ c := by decide +kernel
theorem sigC4 : ∀ c : Dev nD, k0_cond5 c = 1#1 ↔ (4 : Dev nD) ≠ c := by decide +kernel
theorem sigT4 : k0_dev5 = (4 : Dev nD).val := by decide +kernel
theorem bsT4 : k0_dev21 = (4 : Dev nD).val := by decide +kernel
theorem bsC4 : ∀ c : Dev nD, k0_cond37 c = 1#1 ↔ (4 : Dev nD) ≠ c := by decide +kernel
theorem bwC4 : ∀ c : Dev nD, k0_cond53 c = 1#1 ↔ (4 : Dev nD) ≠ c := by decide +kernel
theorem bsR4 : ∀ c : Dev nD, k0_off69 c = ![c.val] := by decide +kernel
theorem bsD4 : ∀ c : Dev nD, k0_off70 c = ![c.val, 0, 0] := by decide +kernel
theorem rcvC4 : ∀ c : Dev nD, Scalar.cmpi .ne (Scalar.extui (Scalar.cmpi .ne (word2 c) 4#32) : BitVec 32) 0#32 = 1#1 ↔ (4 : Dev nD) ≠ c := by decide +kernel
theorem sndR5 : ∀ c : Dev nD, k0_off35 c = ![c.val] := by decide +kernel
theorem sndD5 : ∀ c : Dev nD, k0_off36 c = ![c.val, 0, 0] := by decide +kernel
theorem sndP5 : ∀ c : Dev nD, k0_off37 c = ![128 * (tgt c 5).val, 0] := by decide +kernel
theorem sndT5 : ∀ c : Dev nD, k0_dev14 c = (tgt c 5).val := by decide +kernel
theorem sndC5 : ∀ c : Dev nD, k0_cond14 c = 1#1 ↔ tgt c 5 ≠ c := by decide +kernel
theorem senC5 : ∀ c : Dev nD, k0_cond30 c = 1#1 ↔ tgt c 5 ≠ c := by decide +kernel
theorem sigC5 : ∀ c : Dev nD, k0_cond6 c = 1#1 ↔ (5 : Dev nD) ≠ c := by decide +kernel
theorem sigT5 : k0_dev6 = (5 : Dev nD).val := by decide +kernel
theorem bsT5 : k0_dev22 = (5 : Dev nD).val := by decide +kernel
theorem bsC5 : ∀ c : Dev nD, k0_cond38 c = 1#1 ↔ (5 : Dev nD) ≠ c := by decide +kernel
theorem bwC5 : ∀ c : Dev nD, k0_cond54 c = 1#1 ↔ (5 : Dev nD) ≠ c := by decide +kernel
theorem bsR5 : ∀ c : Dev nD, k0_off71 c = ![c.val] := by decide +kernel
theorem bsD5 : ∀ c : Dev nD, k0_off72 c = ![c.val, 0, 0] := by decide +kernel
theorem rcvC5 : ∀ c : Dev nD, Scalar.cmpi .ne (Scalar.extui (Scalar.cmpi .ne (word2 c) 5#32) : BitVec 32) 0#32 = 1#1 ↔ (5 : Dev nD) ≠ c := by decide +kernel
theorem sndR6 : ∀ c : Dev nD, k0_off38 c = ![c.val] := by decide +kernel
theorem sndD6 : ∀ c : Dev nD, k0_off39 c = ![c.val, 0, 0] := by decide +kernel
theorem sndP6 : ∀ c : Dev nD, k0_off40 c = ![128 * (tgt c 6).val, 0] := by decide +kernel
theorem sndT6 : ∀ c : Dev nD, k0_dev15 c = (tgt c 6).val := by decide +kernel
theorem sndC6 : ∀ c : Dev nD, k0_cond15 c = 1#1 ↔ tgt c 6 ≠ c := by decide +kernel
theorem senC6 : ∀ c : Dev nD, k0_cond31 c = 1#1 ↔ tgt c 6 ≠ c := by decide +kernel
theorem sigC6 : ∀ c : Dev nD, k0_cond7 c = 1#1 ↔ (6 : Dev nD) ≠ c := by decide +kernel
theorem sigT6 : k0_dev7 = (6 : Dev nD).val := by decide +kernel
theorem bsT6 : k0_dev23 = (6 : Dev nD).val := by decide +kernel
theorem bsC6 : ∀ c : Dev nD, k0_cond39 c = 1#1 ↔ (6 : Dev nD) ≠ c := by decide +kernel
theorem bwC6 : ∀ c : Dev nD, k0_cond55 c = 1#1 ↔ (6 : Dev nD) ≠ c := by decide +kernel
theorem bsR6 : ∀ c : Dev nD, k0_off73 c = ![c.val] := by decide +kernel
theorem bsD6 : ∀ c : Dev nD, k0_off74 c = ![c.val, 0, 0] := by decide +kernel
theorem rcvC6 : ∀ c : Dev nD, Scalar.cmpi .ne (Scalar.extui (Scalar.cmpi .ne (word2 c) 6#32) : BitVec 32) 0#32 = 1#1 ↔ (6 : Dev nD) ≠ c := by decide +kernel
theorem sndR7 : ∀ c : Dev nD, k0_off41 c = ![c.val] := by decide +kernel
theorem sndD7 : ∀ c : Dev nD, k0_off42 c = ![c.val, 0, 0] := by decide +kernel
theorem sndP7 : ∀ c : Dev nD, k0_off43 c = ![128 * (tgt c 7).val, 0] := by decide +kernel
theorem sndT7 : ∀ c : Dev nD, k0_dev16 c = (tgt c 7).val := by decide +kernel
theorem sndC7 : ∀ c : Dev nD, k0_cond16 c = 1#1 ↔ tgt c 7 ≠ c := by decide +kernel
theorem senC7 : ∀ c : Dev nD, k0_cond32 c = 1#1 ↔ tgt c 7 ≠ c := by decide +kernel
theorem sigC7 : ∀ c : Dev nD, k0_cond8 c = 1#1 ↔ (7 : Dev nD) ≠ c := by decide +kernel
theorem sigT7 : k0_dev8 = (7 : Dev nD).val := by decide +kernel
theorem bsT7 : k0_dev24 = (7 : Dev nD).val := by decide +kernel
theorem bsC7 : ∀ c : Dev nD, k0_cond40 c = 1#1 ↔ (7 : Dev nD) ≠ c := by decide +kernel
theorem bwC7 : ∀ c : Dev nD, k0_cond56 c = 1#1 ↔ (7 : Dev nD) ≠ c := by decide +kernel
theorem bsR7 : ∀ c : Dev nD, k0_off75 c = ![c.val] := by decide +kernel
theorem bsD7 : ∀ c : Dev nD, k0_off76 c = ![c.val, 0, 0] := by decide +kernel
theorem rcvC7 : ∀ c : Dev nD, Scalar.cmpi .ne (Scalar.extui (Scalar.cmpi .ne (word2 c) 7#32) : BitVec 32) 0#32 = 1#1 ↔ (7 : Dev nD) ≠ c := by decide +kernel
theorem ownwin : ∀ c : Dev nD, k0_off60 c = ![128 * c.val, 0] := by decide +kernel

/-- The computed condition fails just where the device is the named one. -/
theorem not_ne {X : Prop} {p c : Dev nD} (h : X ↔ p ≠ c) (hx : ¬ X) : p = c := by
  by_contra e; exact hx (h.mpr e)

/-- The state handed from one tile to the next. -/
theorem to_tile {c : Dev nD} {R Z : sProp 𝕄} (r r' : Fin 4) (h : iprop(R ∗ TS m c r' 0) ⊢ Z) : iprop(R ∗ TS m c r 8) ⊢ Z :=
  (BIClass.sep_mono .rfl (tile_next m c r r' 8)).trans h

end Cert.KernelRun
-- ==== Proof.Tiles.lean ====
/-
  The tiles: eight heads of attention, the projection of their outputs, and the sends of the projected rows.
-/
module

public import proofs.«01_k».proof.Proof.Facts

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

attribute [local irreducible] Scalar.cmpi k0_cond1 k0_cond2 k0_cond3 k0_cond4 k0_cond5 k0_cond6 k0_cond7 k0_cond8 k0_cond9 k0_cond10 k0_cond11 k0_cond12 k0_cond13 k0_cond14 k0_cond15 k0_cond16 k0_cond25 k0_cond26 k0_cond27 k0_cond28 k0_cond29 k0_cond30 k0_cond31 k0_cond32 k0_cond33 k0_cond34 k0_cond35 k0_cond36 k0_cond37 k0_cond38 k0_cond39 k0_cond40 k0_cond49 k0_cond50 k0_cond51 k0_cond52 k0_cond53 k0_cond54 k0_cond55 k0_cond56

/-- What is kept from the tiles on: the rounded operands, what each send left, and the rows of none. -/
def sentR (c : Dev nD) : sProp 𝕄 := iprop(TS m c 3 8 ∗ loop 8 (sndA c) (sndB m c) ∗ PW m c 8 8)

theorem to_recv {R : sProp 𝕄} : iprop(((R ∗ loop 0 (rcvA c) (rcvB m c)) ∗ SS m K c 8 8) ∗ TS m c 3 8)
    ⊢ iprop((R ∗ sentR m c) ∗ LS m K c 8 8 0 0 (rcvA c) (rcvB m c)) := by
  unfold SS LS sentR
  iintro ⟨⟨⟨HR, HL⟩, #Hrec, HO, HS, HP⟩, HT⟩
  isplitr [HO HL]
  · isplitl [HR]; · iexact HR
    isplitl [HT]; · iexact HT
    isplitl [HS] <;> iassumption
  isplitr; · iexact Hrec
  isplitl [HO] <;> iassumption

theorem part4 {R : sProp 𝕄} {v77 : BitVec 32} {v95 : BitVec 32} {Q : (Σ' (v138 : FVec F S256x128 .f32), FVec F S256x128 .f32) → sProp 𝕄}
    (h : iprop((R ∗ SS m K c 0 0) ∗ TS m c 0 1) ⊢ Q ⟨(k0_pay12 (qV m c 0) (maskV c 0#32) (kT m c 0 1) (vT m c 0 1)), (k0_pay13 (qV m c 0) (maskV c 0#32) (kT m c 0 1))⟩) :
    iprop((R ∗ SS m K c 0 0) ∗ TS m c 0 0) ⊢ wpc c (k0_part4 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c v77 (qV m c 0) (maskV c 0#32) v95 (k0_pay9 (xT m c 0) (wqbV m c))) Q := by
  rw [k0_part4_eq_skeleton]
  unfold k0_part4_skel
  refine seq_step (ld_k m (r := 0) 0 (kwin0 c 0) ?_)
  refine seq_step (ld_v m (r := 0) 0 (kwin0 c 0) ?_)
  refine seq_step (ld_c m fun u0 => ?_)
  refine seq_step (st_c m 0 (cwin0 c 0) rfl ?_)
  refine seq_step (ld_k m (r := 0) 1 (kwin1 c 0) ?_)
  refine seq_step (ld_v m (r := 0) 1 (kwin1 c 0) ?_)
  exact pure_step h

theorem part5 {R : sProp 𝕄} {v77 : BitVec 32} {v95 : BitVec 32} {Q : (Σ' (v180 : FVec F S256x512 .f32), FVec F S256x1 .f32) → sProp 𝕄}
    (h : iprop((R ∗ SS m K c 0 0) ∗ TS m c 0 3) ⊢ Q ⟨(k0_pay16 (qV m c 0) (maskV c 0#32) (kT m c 0 3)), (k0_pay17 (qV m c 0) (maskV c 0#32) (kT m c 0 3))⟩) :
    iprop((R ∗ SS m K c 0 0) ∗ TS m c 0 1) ⊢ wpc c (k0_part5 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c v77 (qV m c 0) (maskV c 0#32) v95 (k0_pay12 (qV m c 0) (maskV c 0#32) (kT m c 0 1) (vT m c 0 1)) (k0_pay13 (qV m c 0) (maskV c 0#32) (kT m c 0 1))) Q := by
  rw [k0_part5_eq_skeleton]
  unfold k0_part5_skel
  refine seq_step (ld_c m fun u0 => ?_)
  refine seq_step (st_c m 1 (cwin1 c 0) rfl ?_)
  refine seq_step (ld_k m (r := 0) 2 (kwin2 c 0) ?_)
  refine seq_step (ld_v m (r := 0) 2 (kwin2 c 0) ?_)
  refine seq_step (ld_c m fun u1 => ?_)
  refine seq_step (st_c m 2 (cwin2 c 0) rfl ?_)
  refine seq_step (ld_k m (r := 0) 3 (kwin3 c 0) ?_)
  exact pure_step h

theorem part6 {R : sProp 𝕄} {v77 : BitVec 32} {v95 : BitVec 32} {Q : (FVec F S256x512 .f32) → sProp 𝕄}
    (h : iprop((R ∗ SS m K c 0 0) ∗ TS m c 0 5) ⊢ Q ((k0_pay20 (qV m c 0) (kT m c 0 5)))) :
    iprop((R ∗ SS m K c 0 0) ∗ TS m c 0 3) ⊢ wpc c (k0_part6 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c v77 (qV m c 0) (maskV c 0#32) v95 (k0_pay16 (qV m c 0) (maskV c 0#32) (kT m c 0 3)) (k0_pay17 (qV m c 0) (maskV c 0#32) (kT m c 0 3))) Q := by
  rw [k0_part6_eq_skeleton]
  unfold k0_part6_skel
  refine seq_step (ld_v m (r := 0) 3 (kwin3 c 0) ?_)
  refine seq_step (ld_c m fun u0 => ?_)
  refine seq_step (st_c m 3 (cwin3 c 0) rfl ?_)
  refine seq_step (ld_k m (r := 0) 4 (kwin4 c 0) ?_)
  refine seq_step (ld_v m (r := 0) 4 (kwin4 c 0) ?_)
  refine seq_step (ld_c m fun u1 => ?_)
  refine seq_step (st_c m 4 (cwin4 c 0) rfl ?_)
  refine seq_step (ld_k m (r := 0) 5 (kwin5 c 0) ?_)
  exact pure_step h

theorem part7 {R : sProp 𝕄} {v77 : BitVec 32} {v95 : BitVec 32} {Q : (Σ' (v266 : FVec F S256x128 .bf16), Vec F S256x128 .bf16) → sProp 𝕄}
    (h : ∀ (u1 : Vec F S256x128 .bf16), iprop((R ∗ SS m K c 0 0) ∗ TS m c 0 6) ⊢ Q ⟨(k0_pay22 (qV m c 0) (maskV c 0#32) (kT m c 0 6) (vT m c 0 6)), u1⟩) :
    iprop((R ∗ SS m K c 0 0) ∗ TS m c 0 5) ⊢ wpc c (k0_part7 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c v77 (qV m c 0) (maskV c 0#32) v95 ((k0_pay20 (qV m c 0) (kT m c 0 5)))) Q := by
  rw [k0_part7_eq_skeleton]
  unfold k0_part7_skel
  refine seq_step (ld_v m (r := 0) 5 (kwin5 c 0) ?_)
  refine seq_step (ld_c m fun u0 => ?_)
  refine seq_step (st_c m 5 (cwin5 c 0) rfl ?_)
  refine seq_step (ld_k m (r := 0) 6 (kwin6 c 0) ?_)
  refine seq_step (ld_v m (r := 0) 6 (kwin6 c 0) ?_)
  refine seq_step (ld_c m fun u1 => ?_)
  exact pure_step (h u1)

theorem part8 {R : sProp 𝕄} {v75 : BitVec 32} {v77 : BitVec 32} {v95 : BitVec 32} {v268 : Vec F S256x128 .bf16} {Q : (Σ' (v306 : BitVec 32) (v308 : BitVec 32), BitVec 32) → sProp 𝕄}
    (h : iprop((R ∗ SS m K c 0 2) ∗ TS m c 0 8) ⊢ Q ⟨((Scalar.addi (Scalar.muli 2#32 v75) 0#32)), ((Scalar.extui (Scalar.cmpi .ne (Scalar.addi (Scalar.muli 2#32 v75) 0#32) (word2 c)))), 0#32⟩) :
    iprop((R ∗ SS m K c 0 0) ∗ TS m c 0 6) ⊢ wpc c (k0_part8 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) v75 v77 (qV m c 0) (maskV c 0#32) v95 (k0_pay22 (qV m c 0) (maskV c 0#32) (kT m c 0 6) (vT m c 0 6)) v268) Q := by
  rw [k0_part8_eq_skeleton]
  unfold k0_part8_skel
  refine seq_step (st_c m 6 (cwin6 c 0) rfl ?_)
  refine seq_step (ld_k m (r := 0) 7 (kwin7 c 0) ?_)
  refine seq_step (ld_v m (r := 0) 7 (kwin7 c 0) ?_)
  refine seq_step (ld_c m fun u0 => ?_)
  refine seq_step (st_c m 7 (cwin7 c 0) rfl ?_)
  refine seq_step (ld_ctx m (r := 0) (twin c 0) ?_)
  refine seq_step (ld_wo m 0 8 ?_)
  refine seq_step (ld_p m K 0 (twin c 0) fun u1 => ?_)
  refine seq_step (st_p m K 0 (twin c 0) rfl ?_)
  exact pure_step h

theorem part9 {R : sProp 𝕄} {v75 : BitVec 32} {Q : (Σ' (v317 : BitVec 32) (v319 : BitVec 32) (v323 : FVec F S256x1024 .f32) (v336 : IVec S256x512 1) (v337 : BitVec 32), FVec F S256x512 .f32) → sProp 𝕄}
    (h : iprop((R ∗ SS m K c 2 2) ∗ TS m c 1 0) ⊢ Q ⟨((Scalar.remsi (Scalar.addi (Scalar.addi (Scalar.divsi (word2 c) 2#32) 1#32) 1#32) 4#32)), (((Scalar.muli (Scalar.remsi (Scalar.addi (Scalar.addi (Scalar.divsi (word2 c) 2#32) 1#32) 1#32) 4#32) 256#32))), (qV m c 1), (maskV c 1#32), (((Scalar.minsi 512#32 (Scalar.maxsi 0#32 (Scalar.subi (Scalar.muli (Scalar.remsi (Scalar.addi (Scalar.addi (Scalar.divsi (word2 c) 2#32) 1#32) 1#32) 4#32) 256#32) 128#32))))), (k0_pay28 (Scalar.divsi (word2 c) 2#32) (xT m c 1) (wqbV m c) (kT m c 1 0))⟩) :
    iprop((R ∗ SS m K c 0 2) ∗ TS m c 0 8) ⊢ wpc c (k0_part9 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (Scalar.divsi (word2 c) 2#32) v75 ((Scalar.addi (Scalar.muli 2#32 v75) 0#32)) ((Scalar.extui (Scalar.cmpi .ne (Scalar.addi (Scalar.muli 2#32 v75) 0#32) (word2 c)))) 0#32) Q := by
  rw [k0_part9_eq_skeleton]
  unfold k0_part9_skel
  refine loop_if (fun x Z h => send_op m K 0 2 (by decide) ((sndC0 c).mp x) (Fin.ext (sndT0 c)) (sndR0 c) (sndD0 c) (sndP0 c) h) (fun x => send_skip m K 0 2 (by decide) (not_ne (sndC0 c) x)) ?_
  refine loop_if (fun x Z h => send_op m K 1 2 (by decide) ((sndC1 c).mp x) (Fin.ext (sndT1 c)) (sndR1 c) (sndD1 c) (sndP1 c) h) (fun x => send_skip m K 1 2 (by decide) (not_ne (sndC1 c) x)) ?_
  refine seq_step (ld_x m (r := 1) (twin c 1) 0 8 ?_)
  refine seq_step (ld_wq m 0 8 ?_)
  refine to_tile m 0 1 ?_
  refine seq_step (ld_k m (r := 1) 0 (kwin0 c 1) ?_)
  exact pure_step h

theorem part10 {R : sProp 𝕄} {Q : (FVec F S256x128 .bf16) → sProp 𝕄}
    (h : iprop((R ∗ SS m K c 2 2) ∗ TS m c 1 2) ⊢ Q ((k0_pay31 (qV m c 1)))) :
    iprop((R ∗ SS m K c 2 2) ∗ TS m c 1 0) ⊢ wpc c (k0_part10 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 1#32) 4#32) 256#32))) (qV m c 1) (maskV c 1#32) (((Scalar.minsi 512#32 (Scalar.maxsi 0#32 (Scalar.subi (Scalar.muli (Scalar.remsi (Scalar.addi (Scalar.addi (Scalar.divsi (word2 c) 2#32) 1#32) 1#32) 4#32) 256#32) 128#32))))) (k0_pay28 (Scalar.divsi (word2 c) 2#32) (xT m c 1) (wqbV m c) (kT m c 1 0))) Q := by
  rw [k0_part10_eq_skeleton]
  unfold k0_part10_skel
  refine seq_step (ld_v m (r := 1) 0 (kwin0 c 1) ?_)
  refine seq_step (ld_c m fun u0 => ?_)
  refine seq_step (st_c m 0 (cwin0 c 1) rfl ?_)
  refine seq_step (ld_k m (r := 1) 1 (kwin1 c 1) ?_)
  refine seq_step (ld_v m (r := 1) 1 (kwin1 c 1) ?_)
  refine seq_step (ld_c m fun u1 => ?_)
  refine seq_step (st_c m 1 (cwin1 c 1) rfl ?_)
  exact pure_step h

theorem part11 {R : sProp 𝕄} {Q : (FVec F S256x128 .bf16) → sProp 𝕄}
    (h : iprop((R ∗ SS m K c 2 2) ∗ TS m c 1 3) ⊢ Q ((k0_pay33 (qV m c 1) (maskV c 1#32) (kT m c 1 3) (vT m c 1 3)))) :
    iprop((R ∗ SS m K c 2 2) ∗ TS m c 1 2) ⊢ wpc c (k0_part11 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 1#32) 4#32) 256#32))) (qV m c 1) (maskV c 1#32) (((Scalar.minsi 512#32 (Scalar.maxsi 0#32 (Scalar.subi (Scalar.muli (Scalar.remsi (Scalar.addi (Scalar.addi (Scalar.divsi (word2 c) 2#32) 1#32) 1#32) 4#32) 256#32) 128#32))))) ((k0_pay31 (qV m c 1)))) Q := by
  rw [k0_part11_eq_skeleton]
  unfold k0_part11_skel
  refine seq_step (ld_k m (r := 1) 2 (kwin2 c 1) ?_)
  refine seq_step (ld_v m (r := 1) 2 (kwin2 c 1) ?_)
  refine seq_step (ld_c m fun u0 => ?_)
  refine seq_step (st_c m 2 (cwin2 c 1) rfl ?_)
  refine seq_step (ld_k m (r := 1) 3 (kwin3 c 1) ?_)
  refine seq_step (ld_v m (r := 1) 3 (kwin3 c 1) ?_)
  exact pure_step h

theorem part12 {R : sProp 𝕄} {Q : (Σ' (v472 : FVec F S256x512 .f32) (v474 : FVec F S256x1 .f32), FVec F S256x1 .f32) → sProp 𝕄}
    (h : iprop((R ∗ SS m K c 2 2) ∗ TS m c 1 5) ⊢ Q ⟨(k0_pay36 (qV m c 1) (maskV c 1#32) (kT m c 1 5)), (k0_pay37 (qV m c 1) (maskV c 1#32) (kT m c 1 5)), (k0_pay38 (F := F))⟩) :
    iprop((R ∗ SS m K c 2 2) ∗ TS m c 1 3) ⊢ wpc c (k0_part12 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 1#32) 4#32) 256#32))) (qV m c 1) (maskV c 1#32) (((Scalar.minsi 512#32 (Scalar.maxsi 0#32 (Scalar.subi (Scalar.muli (Scalar.remsi (Scalar.addi (Scalar.addi (Scalar.divsi (word2 c) 2#32) 1#32) 1#32) 4#32) 256#32) 128#32))))) ((k0_pay33 (qV m c 1) (maskV c 1#32) (kT m c 1 3) (vT m c 1 3)))) Q := by
  rw [k0_part12_eq_skeleton]
  unfold k0_part12_skel
  refine seq_step (ld_c m fun u0 => ?_)
  refine seq_step (st_c m 3 (cwin3 c 1) rfl ?_)
  refine seq_step (ld_k m (r := 1) 4 (kwin4 c 1) ?_)
  refine seq_step (ld_v m (r := 1) 4 (kwin4 c 1) ?_)
  refine seq_step (ld_c m fun u1 => ?_)
  refine seq_step (st_c m 4 (cwin4 c 1) rfl ?_)
  refine seq_step (ld_k m (r := 1) 5 (kwin5 c 1) ?_)
  exact pure_step h

theorem part13 {R : sProp 𝕄} {Q : (Σ' (v517 : FVec F S256x512 .f32), FVec F S256x512 .f32) → sProp 𝕄}
    (h : iprop((R ∗ SS m K c 2 2) ∗ TS m c 1 7) ⊢ Q ⟨(k0_pay41 (qV m c 1) (kT m c 1 7)), (k0_pay42 (F := F))⟩) :
    iprop((R ∗ SS m K c 2 2) ∗ TS m c 1 5) ⊢ wpc c (k0_part13 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 1#32) 4#32) 256#32))) (qV m c 1) (maskV c 1#32) (((Scalar.minsi 512#32 (Scalar.maxsi 0#32 (Scalar.subi (Scalar.muli (Scalar.remsi (Scalar.addi (Scalar.addi (Scalar.divsi (word2 c) 2#32) 1#32) 1#32) 4#32) 256#32) 128#32))))) (k0_pay36 (qV m c 1) (maskV c 1#32) (kT m c 1 5)) (k0_pay37 (qV m c 1) (maskV c 1#32) (kT m c 1 5)) (k0_pay38 (F := F))) Q := by
  rw [k0_part13_eq_skeleton]
  unfold k0_part13_skel
  refine seq_step (ld_v m (r := 1) 5 (kwin5 c 1) ?_)
  refine seq_step (ld_c m fun u0 => ?_)
  refine seq_step (st_c m 5 (cwin5 c 1) rfl ?_)
  refine seq_step (ld_k m (r := 1) 6 (kwin6 c 1) ?_)
  refine seq_step (ld_v m (r := 1) 6 (kwin6 c 1) ?_)
  refine seq_step (ld_c m fun u1 => ?_)
  refine seq_step (st_c m 6 (cwin6 c 1) rfl ?_)
  refine seq_step (ld_k m (r := 1) 7 (kwin7 c 1) ?_)
  exact pure_step h

theorem part14 {R : sProp 𝕄} {Q : (BitVec 32) → sProp 𝕄}
    (h : iprop((R ∗ SS m K c 4 4) ∗ TS m c 1 8) ⊢ Q 1#32) :
    iprop((R ∗ SS m K c 2 2) ∗ TS m c 1 7) ⊢ wpc c (k0_part14 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) ((Scalar.remsi (Scalar.addi (Scalar.addi (Scalar.divsi (word2 c) 2#32) 1#32) 1#32) 4#32)) (((Scalar.muli (Scalar.remsi (Scalar.addi (Scalar.addi (Scalar.divsi (word2 c) 2#32) 1#32) 1#32) 4#32) 256#32))) (maskV c 1#32) (((Scalar.minsi 512#32 (Scalar.maxsi 0#32 (Scalar.subi (Scalar.muli (Scalar.remsi (Scalar.addi (Scalar.addi (Scalar.divsi (word2 c) 2#32) 1#32) 1#32) 4#32) 256#32) 128#32))))) (k0_pay41 (qV m c 1) (kT m c 1 7)) (k0_pay42 (F := F))) Q := by
  rw [k0_part14_eq_skeleton]
  unfold k0_part14_skel
  refine seq_step (ld_v m (r := 1) 7 (kwin7 c 1) ?_)
  refine seq_step (ld_c m fun u0 => ?_)
  refine seq_step (st_c m 7 (cwin7 c 1) rfl ?_)
  refine seq_step (ld_ctx m (r := 1) (twin c 1) ?_)
  refine seq_step (ld_wo m 1 8 ?_)
  refine seq_step (ld_p m K 1 (twin c 1) fun u1 => ?_)
  refine seq_step (st_p m K 1 (twin c 1) rfl ?_)
  refine loop_if (fun x Z h => send_op m K 2 4 (by decide) ((sndC2 c).mp x) (Fin.ext (sndT2 c)) (sndR2 c) (sndD2 c) (sndP2 c) h) (fun x => send_skip m K 2 4 (by decide) (not_ne (sndC2 c) x)) ?_
  refine loop_if (fun x Z h => send_op m K 3 4 (by decide) ((sndC3 c).mp x) (Fin.ext (sndT3 c)) (sndR3 c) (sndD3 c) (sndP3 c) h) (fun x => send_skip m K 3 4 (by decide) (not_ne (sndC3 c) x)) ?_
  exact pure_step h

theorem part15 {R : sProp 𝕄} {Q : (Σ' (v559 : BitVec 32) (v561 : BitVec 32) (v565 : FVec F S256x1024 .f32) (v578 : IVec S256x512 1) (v579 : BitVec 32) (v593 : FVec F S256x1 .f32), FVec F S256x128 .f32) → sProp 𝕄}
    (h : iprop((R ∗ SS m K c 4 4) ∗ TS m c 2 0) ⊢ Q ⟨((Scalar.remsi (Scalar.addi (Scalar.addi (Scalar.divsi (word2 c) 2#32) 1#32) 2#32) 4#32)), (((Scalar.muli (Scalar.remsi (Scalar.addi (Scalar.addi (Scalar.divsi (word2 c) 2#32) 1#32) 2#32) 4#32) 256#32))), (qV m c 2), (maskV c 2#32), (((Scalar.minsi 512#32 (Scalar.maxsi 0#32 (Scalar.subi (Scalar.muli (Scalar.remsi (Scalar.addi (Scalar.addi (Scalar.divsi (word2 c) 2#32) 1#32) 2#32) 4#32) 256#32) 128#32))))), (k0_pay48 (Scalar.divsi (word2 c) 2#32) 1#32 (xT m c 2) (wqbV m c) (kT m c 2 0)), (k0_pay49 (Scalar.divsi (word2 c) 2#32) 1#32 (xT m c 2) (wqbV m c) (kT m c 2 0) (vT m c 2 0))⟩) :
    iprop((R ∗ SS m K c 4 4) ∗ TS m c 1 8) ⊢ wpc c (k0_part15 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (Scalar.divsi (word2 c) 2#32) 1#32) Q := by
  rw [k0_part15_eq_skeleton]
  unfold k0_part15_skel
  refine seq_step (ld_x m (r := 2) (twin c 2) 1 8 ?_)
  refine seq_step (ld_wq m 1 8 ?_)
  refine to_tile m 1 2 ?_
  refine seq_step (ld_k m (r := 2) 0 (kwin0 c 2) ?_)
  refine seq_step (ld_v m (r := 2) 0 (kwin0 c 2) ?_)
  exact pure_step h

theorem part16 {R : sProp 𝕄} {Q : (Σ' (v639 : FVec F S256x512 .f32), FVec F S256 .f32) → sProp 𝕄}
    (h : iprop((R ∗ SS m K c 4 4) ∗ TS m c 2 2) ⊢ Q ⟨(k0_pay52 (qV m c 2) (maskV c 2#32) (kT m c 2 2)), (k0_pay53 (qV m c 2) (maskV c 2#32) (kT m c 2 2))⟩) :
    iprop((R ∗ SS m K c 4 4) ∗ TS m c 2 0) ⊢ wpc c (k0_part16 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 2#32) 4#32) 256#32))) (qV m c 2) (maskV c 2#32) (((Scalar.minsi 512#32 (Scalar.maxsi 0#32 (Scalar.subi (Scalar.muli (Scalar.remsi (Scalar.addi (Scalar.addi (Scalar.divsi (word2 c) 2#32) 1#32) 2#32) 4#32) 256#32) 128#32))))) (k0_pay48 (Scalar.divsi (word2 c) 2#32) 1#32 (xT m c 2) (wqbV m c) (kT m c 2 0)) (k0_pay49 (Scalar.divsi (word2 c) 2#32) 1#32 (xT m c 2) (wqbV m c) (kT m c 2 0) (vT m c 2 0))) Q := by
  rw [k0_part16_eq_skeleton]
  unfold k0_part16_skel
  refine seq_step (ld_c m fun u0 => ?_)
  refine seq_step (st_c m 0 (cwin0 c 2) rfl ?_)
  refine seq_step (ld_k m (r := 2) 1 (kwin1 c 2) ?_)
  refine seq_step (ld_v m (r := 2) 1 (kwin1 c 2) ?_)
  refine seq_step (ld_c m fun u1 => ?_)
  refine seq_step (st_c m 1 (cwin1 c 2) rfl ?_)
  refine seq_step (ld_k m (r := 2) 2 (kwin2 c 2) ?_)
  exact pure_step h

theorem part17 {R : sProp 𝕄} {Q : (Σ' (v681 : FVec F S256x128 .bf16) (v683 : Vec F S512x128 .bf16), FVec F S256x512 .f32) → sProp 𝕄}
    (h : iprop((R ∗ SS m K c 4 4) ∗ TS m c 2 4) ⊢ Q ⟨(k0_pay56 (qV m c 2)), ((kT m c 2 4)), ((constant S256x512 .f32 0x00000000#32))⟩) :
    iprop((R ∗ SS m K c 4 4) ∗ TS m c 2 2) ⊢ wpc c (k0_part17 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 2#32) 4#32) 256#32))) (qV m c 2) (maskV c 2#32) (((Scalar.minsi 512#32 (Scalar.maxsi 0#32 (Scalar.subi (Scalar.muli (Scalar.remsi (Scalar.addi (Scalar.addi (Scalar.divsi (word2 c) 2#32) 1#32) 2#32) 4#32) 256#32) 128#32))))) (k0_pay52 (qV m c 2) (maskV c 2#32) (kT m c 2 2)) (k0_pay53 (qV m c 2) (maskV c 2#32) (kT m c 2 2))) Q := by
  rw [k0_part17_eq_skeleton]
  unfold k0_part17_skel
  refine seq_step (ld_v m (r := 2) 2 (kwin2 c 2) ?_)
  refine seq_step (ld_c m fun u0 => ?_)
  refine seq_step (st_c m 2 (cwin2 c 2) rfl ?_)
  refine seq_step (ld_k m (r := 2) 3 (kwin3 c 2) ?_)
  refine seq_step (ld_v m (r := 2) 3 (kwin3 c 2) ?_)
  refine seq_step (ld_c m fun u1 => ?_)
  refine seq_step (st_c m 3 (cwin3 c 2) rfl ?_)
  refine seq_step (ld_k m (r := 2) 4 (kwin4 c 2) ?_)
  exact pure_step h

theorem part18 {R : sProp 𝕄} {Q : (FVec F S256x128 .bf16) → sProp 𝕄}
    (h : iprop((R ∗ SS m K c 4 4) ∗ TS m c 2 5) ⊢ Q ((k0_pay58 (qV m c 2) (maskV c 2#32) (kT m c 2 5) (vT m c 2 5)))) :
    iprop((R ∗ SS m K c 4 4) ∗ TS m c 2 4) ⊢ wpc c (k0_part18 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 2#32) 4#32) 256#32))) (qV m c 2) (maskV c 2#32) (((Scalar.minsi 512#32 (Scalar.maxsi 0#32 (Scalar.subi (Scalar.muli (Scalar.remsi (Scalar.addi (Scalar.addi (Scalar.divsi (word2 c) 2#32) 1#32) 2#32) 4#32) 256#32) 128#32))))) (k0_pay56 (qV m c 2)) ((kT m c 2 4)) ((constant S256x512 .f32 0x00000000#32))) Q := by
  rw [k0_part18_eq_skeleton]
  unfold k0_part18_skel
  refine seq_step (ld_v m (r := 2) 4 (kwin4 c 2) ?_)
  refine seq_step (ld_c m fun u0 => ?_)
  refine seq_step (st_c m 4 (cwin4 c 2) rfl ?_)
  refine seq_step (ld_k m (r := 2) 5 (kwin5 c 2) ?_)
  refine seq_step (ld_v m (r := 2) 5 (kwin5 c 2) ?_)
  exact pure_step h

theorem part19 {R : sProp 𝕄} {Q : (Σ' (v768 : FVec F S256x1 .f32), FVec F S256x512 .bf16) → sProp 𝕄}
    (h : iprop((R ∗ SS m K c 4 4) ∗ TS m c 2 7) ⊢ Q ⟨(k0_pay62 (qV m c 2) (maskV c 2#32) (kT m c 2 7)), (k0_pay63 (qV m c 2) (maskV c 2#32) (kT m c 2 7))⟩) :
    iprop((R ∗ SS m K c 4 4) ∗ TS m c 2 5) ⊢ wpc c (k0_part19 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 2#32) 4#32) 256#32))) (qV m c 2) (maskV c 2#32) (((Scalar.minsi 512#32 (Scalar.maxsi 0#32 (Scalar.subi (Scalar.muli (Scalar.remsi (Scalar.addi (Scalar.addi (Scalar.divsi (word2 c) 2#32) 1#32) 2#32) 4#32) 256#32) 128#32))))) ((k0_pay58 (qV m c 2) (maskV c 2#32) (kT m c 2 5) (vT m c 2 5)))) Q := by
  rw [k0_part19_eq_skeleton]
  unfold k0_part19_skel
  refine seq_step (ld_c m fun u0 => ?_)
  refine seq_step (st_c m 5 (cwin5 c 2) rfl ?_)
  refine seq_step (ld_k m (r := 2) 6 (kwin6 c 2) ?_)
  refine seq_step (ld_v m (r := 2) 6 (kwin6 c 2) ?_)
  refine seq_step (ld_c m fun u1 => ?_)
  refine seq_step (st_c m 6 (cwin6 c 2) rfl ?_)
  refine seq_step (ld_k m (r := 2) 7 (kwin7 c 2) ?_)
  exact pure_step h

theorem part20 {R : sProp 𝕄} {Q : (Σ' (v801 : BitVec 32) (v802 : BitVec 32) (v803 : BitVec 32), Vec F S256x1024 .bf16) → sProp 𝕄}
    (h : iprop((R ∗ SS m K c 6 6) ∗ TS m c 2 8) ⊢ Q ⟨((Scalar.remsi (Scalar.addi (Scalar.addi (Scalar.divsi (word2 c) 2#32) 1#32) 3#32) 4#32)), ((Scalar.muli (Scalar.remsi (Scalar.addi (Scalar.addi (Scalar.divsi (word2 c) 2#32) 1#32) 3#32) 4#32) 256#32)), (((Scalar.muli (Scalar.remsi (Scalar.addi (Scalar.addi (Scalar.divsi (word2 c) 2#32) 1#32) 3#32) 4#32) 256#32))), ((xT m c 3))⟩) :
    iprop((R ∗ SS m K c 4 4) ∗ TS m c 2 7) ⊢ wpc c (k0_part20 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (Scalar.divsi (word2 c) 2#32) ((Scalar.remsi (Scalar.addi (Scalar.addi (Scalar.divsi (word2 c) 2#32) 1#32) 2#32) 4#32)) (((Scalar.muli (Scalar.remsi (Scalar.addi (Scalar.addi (Scalar.divsi (word2 c) 2#32) 1#32) 2#32) 4#32) 256#32))) (((Scalar.minsi 512#32 (Scalar.maxsi 0#32 (Scalar.subi (Scalar.muli (Scalar.remsi (Scalar.addi (Scalar.addi (Scalar.divsi (word2 c) 2#32) 1#32) 2#32) 4#32) 256#32) 128#32))))) (k0_pay62 (qV m c 2) (maskV c 2#32) (kT m c 2 7)) (k0_pay63 (qV m c 2) (maskV c 2#32) (kT m c 2 7))) Q := by
  rw [k0_part20_eq_skeleton]
  unfold k0_part20_skel
  refine seq_step (ld_v m (r := 2) 7 (kwin7 c 2) ?_)
  refine seq_step (ld_c m fun u0 => ?_)
  refine seq_step (st_c m 7 (cwin7 c 2) rfl ?_)
  refine seq_step (ld_ctx m (r := 2) (twin c 2) ?_)
  refine seq_step (ld_wo m 2 8 ?_)
  refine seq_step (ld_p m K 2 (twin c 2) fun u1 => ?_)
  refine seq_step (st_p m K 2 (twin c 2) rfl ?_)
  refine loop_if (fun x Z h => send_op m K 4 6 (by decide) ((sndC4 c).mp x) (Fin.ext (sndT4 c)) (sndR4 c) (sndD4 c) (sndP4 c) h) (fun x => send_skip m K 4 6 (by decide) (not_ne (sndC4 c) x)) ?_
  refine loop_if (fun x Z h => send_op m K 5 6 (by decide) ((sndC5 c).mp x) (Fin.ext (sndT5 c)) (sndR5 c) (sndD5 c) (sndP5 c) h) (fun x => send_skip m K 5 6 (by decide) (not_ne (sndC5 c) x)) ?_
  refine seq_step (ld_x m (r := 3) (twin c 3) 2 8 ?_)
  exact pure_step h

theorem part21 {R : sProp 𝕄} {Q : (Σ' (v807 : FVec F S256x1024 .f32) (v820 : IVec S256x512 1) (v821 : BitVec 32), FVec F S256x128 .bf16) → sProp 𝕄}
    (h : iprop((R ∗ SS m K c 6 6) ∗ TS m c 3 1) ⊢ Q ⟨(qV m c 3), (maskV c 3#32), (((Scalar.minsi 512#32 (Scalar.maxsi 0#32 (Scalar.subi ((Scalar.muli (Scalar.remsi (Scalar.addi (Scalar.addi (Scalar.divsi (word2 c) 2#32) 1#32) 3#32) 4#32) 256#32)) 128#32))))), (k0_pay69 ((xT m c 3)) (wqbV m c))⟩) :
    iprop((R ∗ SS m K c 6 6) ∗ TS m c 2 8) ⊢ wpc c (k0_part21 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c ((Scalar.muli (Scalar.remsi (Scalar.addi (Scalar.addi (Scalar.divsi (word2 c) 2#32) 1#32) 3#32) 4#32) 256#32)) (((Scalar.muli (Scalar.remsi (Scalar.addi (Scalar.addi (Scalar.divsi (word2 c) 2#32) 1#32) 3#32) 4#32) 256#32))) ((xT m c 3))) Q := by
  rw [k0_part21_eq_skeleton]
  unfold k0_part21_skel
  refine seq_step (ld_wq m 2 8 ?_)
  refine to_tile m 2 3 ?_
  refine seq_step (ld_k m (r := 3) 0 (kwin0 c 3) ?_)
  refine seq_step (ld_v m (r := 3) 0 (kwin0 c 3) ?_)
  refine seq_step (ld_c m fun u0 => ?_)
  refine seq_step (st_c m 0 (cwin0 c 3) rfl ?_)
  exact pure_step h

theorem part22 {R : sProp 𝕄} {Q : (FVec F S256x128 .f32) → sProp 𝕄}
    (h : iprop((R ∗ SS m K c 6 6) ∗ TS m c 3 2) ⊢ Q ((k0_pay71 (qV m c 3) (maskV c 3#32) (kT m c 3 2) (vT m c 3 2)))) :
    iprop((R ∗ SS m K c 6 6) ∗ TS m c 3 1) ⊢ wpc c (k0_part22 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 3#32) 4#32) 256#32))) (qV m c 3) (maskV c 3#32) (((Scalar.minsi 512#32 (Scalar.maxsi 0#32 (Scalar.subi ((Scalar.muli (Scalar.remsi (Scalar.addi (Scalar.addi (Scalar.divsi (word2 c) 2#32) 1#32) 3#32) 4#32) 256#32)) 128#32))))) (k0_pay69 ((xT m c 3)) (wqbV m c))) Q := by
  rw [k0_part22_eq_skeleton]
  unfold k0_part22_skel
  refine seq_step (ld_k m (r := 3) 1 (kwin1 c 3) ?_)
  refine seq_step (ld_v m (r := 3) 1 (kwin1 c 3) ?_)
  refine seq_step (ld_c m fun u0 => ?_)
  refine seq_step (st_c m 1 (cwin1 c 3) rfl ?_)
  refine seq_step (ld_k m (r := 3) 2 (kwin2 c 3) ?_)
  refine seq_step (ld_v m (r := 3) 2 (kwin2 c 3) ?_)
  exact pure_step h

theorem part23 {R : sProp 𝕄} {Q : (Σ' (v931 : FVec F S256x512 .f32) (v933 : FVec F S256x1 .f32), F .f32) → sProp 𝕄}
    (h : iprop((R ∗ SS m K c 6 6) ∗ TS m c 3 4) ⊢ Q ⟨(k0_pay74 (qV m c 3) (maskV c 3#32) (kT m c 3 4)), (k0_pay75 (qV m c 3) (maskV c 3#32) (kT m c 3 4)), ((Scalar.ofBits .f32 0x3F800000#32))⟩) :
    iprop((R ∗ SS m K c 6 6) ∗ TS m c 3 2) ⊢ wpc c (k0_part23 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 3#32) 4#32) 256#32))) (qV m c 3) (maskV c 3#32) (((Scalar.minsi 512#32 (Scalar.maxsi 0#32 (Scalar.subi ((Scalar.muli (Scalar.remsi (Scalar.addi (Scalar.addi (Scalar.divsi (word2 c) 2#32) 1#32) 3#32) 4#32) 256#32)) 128#32))))) ((k0_pay71 (qV m c 3) (maskV c 3#32) (kT m c 3 2) (vT m c 3 2)))) Q := by
  rw [k0_part23_eq_skeleton]
  unfold k0_part23_skel
  refine seq_step (ld_c m fun u0 => ?_)
  refine seq_step (st_c m 2 (cwin2 c 3) rfl ?_)
  refine seq_step (ld_k m (r := 3) 3 (kwin3 c 3) ?_)
  refine seq_step (ld_v m (r := 3) 3 (kwin3 c 3) ?_)
  refine seq_step (ld_c m fun u1 => ?_)
  refine seq_step (st_c m 3 (cwin3 c 3) rfl ?_)
  refine seq_step (ld_k m (r := 3) 4 (kwin4 c 3) ?_)
  exact pure_step h

theorem part24 {R : sProp 𝕄} {Q : (Σ' (v976 : FVec F S256x512 .f32), F .f32) → sProp 𝕄}
    (h : iprop((R ∗ SS m K c 6 6) ∗ TS m c 3 6) ⊢ Q ⟨(k0_pay78 (qV m c 3) (kT m c 3 6)), ((Scalar.ofBits .f32 0x3DB504F3#32))⟩) :
    iprop((R ∗ SS m K c 6 6) ∗ TS m c 3 4) ⊢ wpc c (k0_part24 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 3#32) 4#32) 256#32))) (qV m c 3) (maskV c 3#32) (((Scalar.minsi 512#32 (Scalar.maxsi 0#32 (Scalar.subi ((Scalar.muli (Scalar.remsi (Scalar.addi (Scalar.addi (Scalar.divsi (word2 c) 2#32) 1#32) 3#32) 4#32) 256#32)) 128#32))))) (k0_pay74 (qV m c 3) (maskV c 3#32) (kT m c 3 4)) (k0_pay75 (qV m c 3) (maskV c 3#32) (kT m c 3 4)) ((Scalar.ofBits .f32 0x3F800000#32))) Q := by
  rw [k0_part24_eq_skeleton]
  unfold k0_part24_skel
  refine seq_step (ld_v m (r := 3) 4 (kwin4 c 3) ?_)
  refine seq_step (ld_c m fun u0 => ?_)
  refine seq_step (st_c m 4 (cwin4 c 3) rfl ?_)
  refine seq_step (ld_k m (r := 3) 5 (kwin5 c 3) ?_)
  refine seq_step (ld_v m (r := 3) 5 (kwin5 c 3) ?_)
  refine seq_step (ld_c m fun u1 => ?_)
  refine seq_step (st_c m 5 (cwin5 c 3) rfl ?_)
  refine seq_step (ld_k m (r := 3) 6 (kwin6 c 3) ?_)
  exact pure_step h

theorem part25 {R : sProp 𝕄} {Q : (FVec F S256x128 .bf16) → sProp 𝕄}
    (h : iprop((R ∗ SS m K c 6 6) ∗ TS m c 3 7) ⊢ Q ((k0_pay80 (qV m c 3) (maskV c 3#32) (kT m c 3 7) (vT m c 3 7)))) :
    iprop((R ∗ SS m K c 6 6) ∗ TS m c 3 6) ⊢ wpc c (k0_part25 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (((Scalar.muli (Scalar.remsi (Scalar.addi (Scalar.addi (Scalar.divsi (word2 c) 2#32) 1#32) 3#32) 4#32) 256#32))) (qV m c 3) (maskV c 3#32) (((Scalar.minsi 512#32 (Scalar.maxsi 0#32 (Scalar.subi ((Scalar.muli (Scalar.remsi (Scalar.addi (Scalar.addi (Scalar.divsi (word2 c) 2#32) 1#32) 3#32) 4#32) 256#32)) 128#32))))) (k0_pay78 (qV m c 3) (kT m c 3 6)) ((Scalar.ofBits .f32 0x3DB504F3#32))) Q := by
  rw [k0_part25_eq_skeleton]
  unfold k0_part25_skel
  refine seq_step (ld_v m (r := 3) 6 (kwin6 c 3) ?_)
  refine seq_step (ld_c m fun u0 => ?_)
  refine seq_step (st_c m 6 (cwin6 c 3) rfl ?_)
  refine seq_step (ld_k m (r := 3) 7 (kwin7 c 3) ?_)
  refine seq_step (ld_v m (r := 3) 7 (kwin7 c 3) ?_)
  refine seq_step (ld_c m fun u1 => ?_)
  exact pure_step h

theorem part26 {R : sProp 𝕄} {Q : (BitVec 32) → sProp 𝕄}
    (h : iprop((R ∗ sentR m c) ∗ LS m K c 8 8 0 4 (rcvA c) (rcvB m c)) ⊢ Q 4#32) :
    iprop(((R ∗ loop 0 (rcvA c) (rcvB m c)) ∗ SS m K c 6 6) ∗ TS m c 3 7) ⊢ wpc c (k0_part26 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) ((Scalar.remsi (Scalar.addi (Scalar.addi (Scalar.divsi (word2 c) 2#32) 1#32) 3#32) 4#32)) (((Scalar.muli (Scalar.remsi (Scalar.addi (Scalar.addi (Scalar.divsi (word2 c) 2#32) 1#32) 3#32) 4#32) 256#32))) ((k0_pay80 (qV m c 3) (maskV c 3#32) (kT m c 3 7) (vT m c 3 7)))) Q := by
  rw [k0_part26_eq_skeleton]
  unfold k0_part26_skel
  refine seq_step (st_c m 7 (cwin7 c 3) rfl ?_)
  refine seq_step (ld_ctx m (r := 3) (twin c 3) ?_)
  refine seq_step (ld_wo m 3 8 ?_)
  refine seq_step (ld_p m K 3 (twin c 3) fun u0 => ?_)
  refine seq_step (st_p m K 3 (twin c 3) rfl ?_)
  refine loop_if (fun x Z h => send_op m K 6 8 (by decide) ((sndC6 c).mp x) (Fin.ext (sndT6 c)) (sndR6 c) (sndD6 c) (sndP6 c) h) (fun x => send_skip m K 6 8 (by decide) (not_ne (sndC6 c) x)) ?_
  refine loop_if (fun x Z h => send_op m K 7 8 (by decide) ((sndC7 c).mp x) (Fin.ext (sndT7 c)) (sndR7 c) (sndD7 c) (sndP7 c) h) (fun x => send_skip m K 7 8 (by decide) (not_ne (sndC7 c) x)) ?_
  refine (to_recv m K).trans ?_
  refine loop_if (fun x Z h => recv_op m K 0 ((rcvC0 c).mp x) h) (fun x => recv_skip m K 0 (not_ne (rcvC0 c) x)) ?_
  refine loop_if (fun x Z h => recv_op m K 1 ((rcvC1 c).mp x) h) (fun x => recv_skip m K 1 (not_ne (rcvC1 c) x)) ?_
  refine loop_if (fun x Z h => recv_op m K 2 ((rcvC2 c).mp x) h) (fun x => recv_skip m K 2 (not_ne (rcvC2 c) x)) ?_
  refine loop_if (fun x Z h => recv_op m K 3 ((rcvC3 c).mp x) h) (fun x => recv_skip m K 3 (not_ne (rcvC3 c) x)) ?_
  exact pure_step h

end Cert.KernelRun
-- ==== Proof.Regroup.lean ====
/-
  Between the loops: what the sends and receives left is put together again for the reduction, the broadcast and the end.
-/
module

public import proofs.«01_k».proof.Proof.Tiles

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

/-! ## A cell no more of whose rounds have duties -/

def shut (c : Dev nD) (k : Ck) : sProp 𝕄 := iprop(∃ n, ⌜∀ r, n ≤ r → (rd m).duties (cell c k) r = ∅⌝ ∗ atPos ER (cell c k) n ∅ 0)

theorem shut_one (k : Ck) : atPos ER (cell c k) 1 ∅ 0 ⊢ shut m c k := by
  unfold shut
  iintro H
  iexists 1
  isplitr
  · ipureintro; exact duties_later m _
  · iexact H
theorem shut_zero (k : Ck) (h : dutiesOf c (some k) = ∅) : atPos ER (cell c k) 0 ∅ 0 ⊢ shut m c k := by
  unfold shut
  iintro H
  iexists 0
  isplitr
  · ipureintro
    intro r _
    rcases Nat.eq_zero_or_pos r with rfl | hr
    · exact (duties_cell m c k).trans h
    · exact duties_later m _ r hr
  · iexact H

theorem rcvB_split (p : Dev nD) : rcvB m c p ⊢ iprop(shut m c (.rcv p) ∗ if p = c then iprop(emp) else mpts c (slabR p) fullShare (rsV m c)) := by
  unfold rcvB
  by_cases h : p = c
  · rw [if_pos h, if_pos h]
    iintro H
    isplitl [H]
    · iapply (shut_zero m (c := c) (.rcv p) (if_neg (not_not.mpr h))); iexact H
    · iempintro
  · rw [if_neg h, if_neg h]
    iintro ⟨H, H2⟩
    isplitl [H]
    · iapply (shut_one m (c := c) (.rcv p)); iexact H
    · iexact H2
theorem brB_split (p : Dev nD) : brB m c p ⊢ iprop(shut m c (.brcv p) ∗ if p = c then iprop(emp) else mpts c (slabB p) fullShare (bcV m)) := by
  unfold brB
  by_cases h : p = c
  · rw [if_pos h, if_pos h]
    iintro H
    isplitl [H]
    · iapply (shut_zero m (c := c) (.brcv p) (if_neg (not_not.mpr h))); iexact H
    · iempintro
  · rw [if_neg h, if_neg h]
    iintro ⟨H, H2⟩
    isplitl [H]
    · iapply (shut_one m (c := c) (.brcv p)); iexact H
    · iexact H2
theorem swB_split (i : Dev nD) : swB m c i ⊢ iprop(shut m c (.snd i) ∗ chk m c i) := by
  unfold swB
  by_cases h : tgt c i = c
  · rw [if_pos h]
    iintro ⟨H, H2⟩
    isplitl [H]
    · iapply (shut_zero m (c := c) (.snd i) (if_neg (not_not.mpr h))); iexact H
    · iexact H2
  · rw [if_neg h]
    iintro ⟨H, H2⟩
    isplitl [H]
    · iapply (shut_one m (c := c) (.snd i)); iexact H
    · iexact H2
theorem bwB_split (q : Dev nD) : bwB m c q ⊢ iprop(shut m c (.bsnd q) ∗ mpts c bsM (bshare q) (red16 m c)) := by
  unfold bwB
  by_cases h : q = c
  · rw [if_pos h]
    iintro ⟨H, H2⟩
    isplitl [H]
    · iapply (shut_zero m (c := c) (.bsnd q) (if_neg (not_not.mpr h))); iexact H
    · iexact H2
  · rw [if_neg h]
    iintro ⟨H, H2⟩
    isplitl [H]
    · iapply (shut_one m (c := c) (.bsnd q)); iexact H
    · iexact H2

/-- A family of pairs is a pair of families. -/
theorem unzip {A B C : Dev nD → sProp 𝕄} (h : ∀ p, A p ⊢ iprop(B p ∗ C p)) : bigSep Finset.univ A ⊢ iprop(bigSep Finset.univ B ∗ bigSep Finset.univ C) :=
  (BI.bigSep_mono fun p _ => h p).trans (Entails.of_eq (BI.bigSep_sep _ _ _))
theorem zip {A B : Dev nD → sProp 𝕄} : iprop(bigSep Finset.univ A ∗ bigSep Finset.univ B) ⊢ bigSep Finset.univ fun p => iprop(A p ∗ B p) :=
  Entails.of_eq (BI.bigSep_sep _ _ _).symm

theorem erase_at (p : Dev nD) {A : Dev nD → sProp 𝕄} : bigSep Finset.univ A = iprop(A p ∗ bigSep (Finset.univ.erase p) A) :=
  BI.bigSep_erase (Finset.mem_univ p)

/-! ## The rows and the slabs put together again -/

theorem rows_join : (bigSep Finset.univ fun i => chk m c i) ⊢ (((c : Thread nD τ).loc cc0_scratch8) ↦{fullShare} pV m c : sProp 𝕄) := by
  have hd : ∀ t ∈ (Finset.univ : Finset (Dev nD)), ∀ t' ∈ (Finset.univ : Finset (Dev nD)), t ≠ t' →
      Disjoint (chunkV (tgt c t)).view.set (chunkV (tgt c t')).view.set := fun t _ t' _ hne =>
    Finset.disjoint_left.mpr fun x hx hx' => hne (Fin.ext (((PS_chunk c t x).mp hx).symm.trans ((PS_chunk c t' x).mp hx')))
  have hu : Finset.biUnion (β := S1024x1024.Idx) (Finset.univ : Finset (Dev nD)) (fun i => (chunkV (tgt c i)).view.set) = Finset.univ := by
    ext x
    refine ⟨fun _ => Finset.mem_univ _, fun _ => Finset.mem_biUnion.mpr ⟨⟨sidx c ((x 0).val / 128), sidx_lt c _⟩, Finset.mem_univ _, (PS_chunk c _ x).mpr rfl⟩⟩
  have e := pointsTo_biUnion (ℓ := (c : Thread nD τ).loc cc0_scratch8) (q := fullShare) (f := pV m c) (Ix := Unit) (Name := ℕ) (U := UU) (Lvl := ℕ)
    Finset.univ (fun i : Dev nD => (chunkV (tgt c i)).view.set) hd
  rw [hu] at e
  exact Entails.of_eq e.symm

theorem slabR_raw (f : Buf (Elt F) ((c : Thread nD τ).loc cc0_scratch10)) : mpts c (slabR c) fullShare f
    ⊢ (((c : Thread nD τ).loc cc0_scratch10) ↦[(slabR c).view.set]{fullShare} f : sProp 𝕄) := .rfl
theorem slabs_join (f : Buf (Elt F) ((c : Thread nD τ).loc cc0_scratch10)) (w : Buf (Elt F) ((c : Thread nD τ).loc cc0_scratch10)) :
    iprop((bigSep Finset.univ fun p => if p = c then iprop(emp) else mpts c (slabR p) fullShare w) ∗ mpts c (slabR c) fullShare f)
      ⊢ (iprop(∃ g, ⌜∀ x : S8x128x1024.Idx, x 0 ≠ c → g x = w x⌝ ∗ (((c : Thread nD τ).loc cc0_scratch10) ↦{fullShare} g)) : sProp 𝕄) := by
  have hd : ∀ t ∈ (Finset.univ : Finset (Dev nD)), ∀ t' ∈ (Finset.univ : Finset (Dev nD)), t ≠ t' →
      Disjoint (slabR t).view.set (slabR t').view.set := fun t _ t' _ hne =>
    Finset.disjoint_left.mpr fun x hx hx' => hne (((mem_slab t x).mp hx).symm.trans ((mem_slab t' x).mp hx'))
  have hu : Finset.biUnion (β := S8x128x1024.Idx) (Finset.univ : Finset (Dev nD)) (fun i => (slabR i).view.set) = Finset.univ := by
    ext x
    refine ⟨fun _ => Finset.mem_univ _, fun _ => Finset.mem_biUnion.mpr ⟨x 0, Finset.mem_univ _, (mem_slab _ x).mpr rfl⟩⟩
  have e := pointsTo_biUnion_join (ℓ := (c : Thread nD τ).loc cc0_scratch10) (q := fullShare) (Ix := Unit) (Name := ℕ) (U := UU) (Lvl := ℕ)
    Finset.univ (fun i : Dev nD => (slabR i).view.set) (fun i => if i = c then f else w) w hd
  rw [hu] at e
  have e1 : iprop((bigSep Finset.univ fun p => if p = c then iprop(emp) else mpts c (slabR p) fullShare w) ∗ mpts c (slabR c) fullShare f)
      ⊢ (bigSep Finset.univ fun i : Dev nD => ((c : Thread nD τ).loc cc0_scratch10) ↦[(slabR i).view.set]{fullShare} (if i = c then f else w) : sProp 𝕄) := by
    rw [erase_at c, erase_at c, if_pos rfl, if_pos rfl,
      BI.bigSep_congr (s := Finset.univ.erase c) (Φ := fun p => if p = c then iprop(emp) else mpts c (slabR p) fullShare w)
        (Ψ := fun i : Dev nD => (((c : Thread nD τ).loc cc0_scratch10) ↦[(slabR i).view.set]{fullShare} (if i = c then f else w) : sProp 𝕄))
        (fun q hq => by rw [if_neg (Finset.mem_erase.mp hq).1, if_neg (Finset.mem_erase.mp hq).1]; rfl)]
    iintro ⟨⟨-, H⟩, H2⟩
    isplitl [H2]
    · iapply (slabR_raw f); iexact H2
    · iexact H
  refine e1.trans (e.trans ?_)
  iintro ⟨%g, %hg, H⟩
  iexists g
  isplitr
  · ipureintro
    intro x hx
    exact (hg (x 0) (Finset.mem_univ _) x ((mem_slab _ x).mpr rfl)).trans (congrFun (if_neg hx) x)
  · iexact H

theorem slabB_raw (f : Buf (Elt F) ((c : Thread nD τ).loc cc0_scratch11)) : mpts c (slabB c) fullShare f
    ⊢ (((c : Thread nD τ).loc cc0_scratch11) ↦[(slabB c).view.set]{fullShare} f : sProp 𝕄) := .rfl
theorem slabsB_join (f : Buf (Elt F) ((c : Thread nD τ).loc cc0_scratch11)) (w : Buf (Elt F) ((c : Thread nD τ).loc cc0_scratch11)) :
    iprop((bigSep Finset.univ fun p => if p = c then iprop(emp) else mpts c (slabB p) fullShare w) ∗ mpts c (slabB c) fullShare f)
      ⊢ (iprop(∃ g, (((c : Thread nD τ).loc cc0_scratch11) ↦{fullShare} g)) : sProp 𝕄) := by
  have hd : ∀ t ∈ (Finset.univ : Finset (Dev nD)), ∀ t' ∈ (Finset.univ : Finset (Dev nD)), t ≠ t' →
      Disjoint (slabB t).view.set (slabB t').view.set := fun t _ t' _ hne =>
    Finset.disjoint_left.mpr fun x hx hx' => hne (((mem_slabB t x).mp hx).symm.trans ((mem_slabB t' x).mp hx'))
  have hu : Finset.biUnion (β := S8x128x1024.Idx) (Finset.univ : Finset (Dev nD)) (fun i => (slabB i).view.set) = Finset.univ := by
    ext x
    refine ⟨fun _ => Finset.mem_univ _, fun _ => Finset.mem_biUnion.mpr ⟨x 0, Finset.mem_univ _, (mem_slabB _ x).mpr rfl⟩⟩
  have e := pointsTo_biUnion_join (ℓ := (c : Thread nD τ).loc cc0_scratch11) (q := fullShare) (Ix := Unit) (Name := ℕ) (U := UU) (Lvl := ℕ)
    Finset.univ (fun i : Dev nD => (slabB i).view.set) (fun i => if i = c then f else w) w hd
  rw [hu] at e
  have e1 : iprop((bigSep Finset.univ fun p => if p = c then iprop(emp) else mpts c (slabB p) fullShare w) ∗ mpts c (slabB c) fullShare f)
      ⊢ (bigSep Finset.univ fun i : Dev nD => ((c : Thread nD τ).loc cc0_scratch11) ↦[(slabB i).view.set]{fullShare} (if i = c then f else w) : sProp 𝕄) := by
    rw [erase_at c, erase_at c, if_pos rfl, if_pos rfl,
      BI.bigSep_congr (s := Finset.univ.erase c) (Φ := fun p => if p = c then iprop(emp) else mpts c (slabB p) fullShare w)
        (Ψ := fun i : Dev nD => (((c : Thread nD τ).loc cc0_scratch11) ↦[(slabB i).view.set]{fullShare} (if i = c then f else w) : sProp 𝕄))
        (fun q hq => by rw [if_neg (Finset.mem_erase.mp hq).1, if_neg (Finset.mem_erase.mp hq).1]; rfl)]
    iintro ⟨⟨-, H⟩, H2⟩
    isplitl [H2]
    · iapply (slabB_raw f); iexact H2
    · iexact H
  refine e1.trans (e.trans ?_)
  iintro ⟨%g, -, H⟩
  iexists g
  iexact H

theorem shares_eq (f : Buf (Elt F) ((c : Thread nD τ).loc cc0_scratch9)) :
    (((c : Thread nD τ).loc cc0_scratch9) ↦{fullShare} f : sProp 𝕄) = bigSep Finset.univ fun q : Dev nD => mpts c bsM (bshare q) f := by
  have e := ShareLeaves.pointsTo_leaves (ℓ := (c : Thread nD τ).loc cc0_scratch9) (Ix := Unit) (Name := ℕ) (U := UU) (Lvl := ℕ) Finset.univ f 3 fullShare
  refine e.trans (BI.bigSep_congr fun q _ => ?_)
  exact (mpts_whole c cc0_scratch9 (bshare q) f).symm

/-! ## The sum does not read the own slab -/

theorem sel_own : ∀ c : Dev nD, ∀ p : Fin 8, p.val = c.val → Scalar.cmpi .eq (word2 c) (BitVec.ofNat 32 p.val) = 1#1 := by decide +kernel

theorem sel_congr (g : (cc0_scratch10 : Ref sig .tc).ty.Contents (Elt F)) (hg : ∀ x : S8x128x1024.Idx, x 0 ≠ c → g x = rsV m c x)
    (p : Dev nD) (b : BitVec 1) (hb : p.val = c.val → b = 1#1) {α : Type} (A : α) (f : Vec F S1x128x1024 .bf16 → α) :
    Scalar.select b A (f (slR p g)) = Scalar.select b A (f (slR p (rsV m c))) := by
  by_cases h : p = c
  · unfold Scalar.select
    have e := hb (congrArg Fin.val h)
    rw [if_pos (show b = 1 from e), if_pos (show b = 1 from e)]
  · have e : slR p g = slR p (rsV m c) := by
      funext j
      refine hg _ fun e => h (e.symm.trans ?_ |>.symm)
      refine Fin.ext ?_
      have j0 : (j 0).val < 1 := (j 0).isLt
      show p.val + 1 * (j 0).val = p.val
      omega
    rw [e]

theorem pay83_congr (g : (cc0_scratch10 : Ref sig .tc).ty.Contents (Elt F)) (hg : ∀ x : S8x128x1024.Idx, x 0 ≠ c → g x = rsV m c x) (o : Vec F S128x1024 .bf16) :
    k0_pay83 (word2 c) o (slR 0 g) (slR 1 g) (slR 2 g) (slR 3 g) (slR 4 g)
      = k0_pay83 (word2 c) o (slR 0 (rsV m c)) (slR 1 (rsV m c)) (slR 2 (rsV m c)) (slR 3 (rsV m c)) (slR 4 (rsV m c)) := by
  have h0 : Scalar.select (Scalar.cmpi .eq (word2 c) 0#32) o (shapeCast S128x1024 (slR 0 g) shapeCasts_S1x128x1024_S128x1024 : FVec F S128x1024 .bf16)
      = Scalar.select (Scalar.cmpi .eq (word2 c) 0#32) o (shapeCast S128x1024 (slR 0 (rsV m c)) shapeCasts_S1x128x1024_S128x1024 : FVec F S128x1024 .bf16) :=
    sel_congr m g hg 0 _ (sel_own c 0) o (fun v => (shapeCast S128x1024 v shapeCasts_S1x128x1024_S128x1024 : FVec F S128x1024 .bf16))
  have h1 : Scalar.select (Scalar.cmpi .eq (word2 c) 1#32) o (shapeCast S128x1024 (slR 1 g) shapeCasts_S1x128x1024_S128x1024 : FVec F S128x1024 .bf16)
      = Scalar.select (Scalar.cmpi .eq (word2 c) 1#32) o (shapeCast S128x1024 (slR 1 (rsV m c)) shapeCasts_S1x128x1024_S128x1024 : FVec F S128x1024 .bf16) :=
    sel_congr m g hg 1 _ (sel_own c 1) o (fun v => (shapeCast S128x1024 v shapeCasts_S1x128x1024_S128x1024 : FVec F S128x1024 .bf16))
  have h2 : Scalar.select (Scalar.cmpi .eq (word2 c) 2#32) o (shapeCast S128x1024 (slR 2 g) shapeCasts_S1x128x1024_S128x1024 : FVec F S128x1024 .bf16)
      = Scalar.select (Scalar.cmpi .eq (word2 c) 2#32) o (shapeCast S128x1024 (slR 2 (rsV m c)) shapeCasts_S1x128x1024_S128x1024 : FVec F S128x1024 .bf16) :=
    sel_congr m g hg 2 _ (sel_own c 2) o (fun v => (shapeCast S128x1024 v shapeCasts_S1x128x1024_S128x1024 : FVec F S128x1024 .bf16))
  have h3 : Scalar.select (Scalar.cmpi .eq (word2 c) 3#32) o (shapeCast S128x1024 (slR 3 g) shapeCasts_S1x128x1024_S128x1024 : FVec F S128x1024 .bf16)
      = Scalar.select (Scalar.cmpi .eq (word2 c) 3#32) o (shapeCast S128x1024 (slR 3 (rsV m c)) shapeCasts_S1x128x1024_S128x1024 : FVec F S128x1024 .bf16) :=
    sel_congr m g hg 3 _ (sel_own c 3) o (fun v => (shapeCast S128x1024 v shapeCasts_S1x128x1024_S128x1024 : FVec F S128x1024 .bf16))
  have h4 : Scalar.select (Scalar.cmpi .eq (word2 c) 4#32) o (shapeCast S128x1024 (slR 4 g) shapeCasts_S1x128x1024_S128x1024 : FVec F S128x1024 .bf16)
      = Scalar.select (Scalar.cmpi .eq (word2 c) 4#32) o (shapeCast S128x1024 (slR 4 (rsV m c)) shapeCasts_S1x128x1024_S128x1024 : FVec F S128x1024 .bf16) :=
    sel_congr m g hg 4 _ (sel_own c 4) o (fun v => (shapeCast S128x1024 v shapeCasts_S1x128x1024_S128x1024 : FVec F S128x1024 .bf16))
  unfold k0_pay83
  dsimp only
  rw [h0, h1, h2, h3, h4]

theorem pay84_congr (g : (cc0_scratch10 : Ref sig .tc).ty.Contents (Elt F)) (hg : ∀ x : S8x128x1024.Idx, x 0 ≠ c → g x = rsV m c x) (o : Vec F S128x1024 .bf16)
    (u : FVec F S128x1024 .f32) :
    k0_pay84 (word2 c) o u (Scalar.cmpi .eq (word2 c) 5#32) (slR 5 g) (slR 6 g) (slR 7 g)
      = k0_pay84 (word2 c) o u (Scalar.cmpi .eq (word2 c) 5#32) (slR 5 (rsV m c)) (slR 6 (rsV m c)) (slR 7 (rsV m c)) := by
  have h5 : Scalar.select (Scalar.cmpi .eq (word2 c) 5#32) o (shapeCast S128x1024 (slR 5 g) shapeCasts_S1x128x1024_S128x1024 : FVec F S128x1024 .bf16)
      = Scalar.select (Scalar.cmpi .eq (word2 c) 5#32) o (shapeCast S128x1024 (slR 5 (rsV m c)) shapeCasts_S1x128x1024_S128x1024 : FVec F S128x1024 .bf16) :=
    sel_congr m g hg 5 _ (sel_own c 5) o (fun v => (shapeCast S128x1024 v shapeCasts_S1x128x1024_S128x1024 : FVec F S128x1024 .bf16))
  have h6 : Scalar.select (Scalar.cmpi .eq (word2 c) 6#32) o (shapeCast S128x1024 (slR 6 g) shapeCasts_S1x128x1024_S128x1024 : FVec F S128x1024 .bf16)
      = Scalar.select (Scalar.cmpi .eq (word2 c) 6#32) o (shapeCast S128x1024 (slR 6 (rsV m c)) shapeCasts_S1x128x1024_S128x1024 : FVec F S128x1024 .bf16) :=
    sel_congr m g hg 6 _ (sel_own c 6) o (fun v => (shapeCast S128x1024 v shapeCasts_S1x128x1024_S128x1024 : FVec F S128x1024 .bf16))
  have h7 : Scalar.select (Scalar.cmpi .eq (word2 c) 7#32) o (shapeCast S128x1024 (slR 7 g) shapeCasts_S1x128x1024_S128x1024 : FVec F S128x1024 .bf16)
      = Scalar.select (Scalar.cmpi .eq (word2 c) 7#32) o (shapeCast S128x1024 (slR 7 (rsV m c)) shapeCasts_S1x128x1024_S128x1024 : FVec F S128x1024 .bf16) :=
    sel_congr m g hg 7 _ (sel_own c 7) o (fun v => (shapeCast S128x1024 v shapeCasts_S1x128x1024_S128x1024 : FVec F S128x1024 .bf16))
  unfold k0_pay84
  dsimp only
  rw [h5, h6, h7]

theorem red32_congr (g : (cc0_scratch10 : Ref sig .tc).ty.Contents (Elt F)) (hg : ∀ x : S8x128x1024.Idx, x 0 ≠ c → g x = rsV m c x) :
    red32F m c g = red32 m c := by
  unfold red32 red32F
  rw [pay83_congr m g hg, pay84_congr m g hg]
theorem red16_congr (g : (cc0_scratch10 : Ref sig .tc).ty.Contents (Elt F)) (hg : ∀ x : S8x128x1024.Idx, x 0 ≠ c → g x = rsV m c x) :
    red16F m c g = red16 m c := by
  unfold red16 red16F k0_pay85
  rw [pay83_congr m g hg, pay84_congr m g hg]

/-! ## From one loop to the next -/

theorem to_sent {R : sProp 𝕄} : iprop(((R ∗ bigSep Finset.univ fun i => atPos ER (cell c (.snd i)) 0 ∅ 0) ∗ sentR m c) ∗ LS m K c 8 8 0 8 (rcvA c) (rcvB m c))
    ⊢ iprop((R ∗ TS m c 3 8 ∗ loop 8 (rcvA c) (rcvB m c)) ∗ LS m K c 8 8 0 0 (swA m c) (swB m c)) := by
  unfold LS sentR
  rw [loop_zero, loop_end (A := sndA c)]
  iintro ⟨⟨⟨HR, HA⟩, HT, HS, -⟩, #Hrec, HO, HL⟩
  isplitl [HR HT HL]
  · isplitl [HR]; · iexact HR
    isplitl [HT] <;> iassumption
  isplitr; · iexact Hrec
  isplitl [HO]; · iexact HO
  unfold swA
  iapply zip
  isplitl [HA] <;> iassumption

theorem to_red {R Z : sProp 𝕄} (h : ∀ g : Buf (Elt F) ((c : Thread nD τ).loc cc0_scratch10), (∀ x : S8x128x1024.Idx, x 0 ≠ c → g x = rsV m c x) →
      iprop((((R ∗ (bigSep Finset.univ fun p => shut m c (.rcv p)) ∗ bigSep Finset.univ fun i => shut m c (.snd i)) ∗ recs m K ∗ ow c 8 8 0)
        ∗ (((c : Thread nD τ).loc cc0_scratch8) ↦{fullShare} pV m c)) ∗ (((c : Thread nD τ).loc cc0_scratch10) ↦{fullShare} g)) ⊢ Z) :
    iprop(((R ∗ ∃ f, mpts c (slabR c) fullShare f) ∗ loop 8 (rcvA c) (rcvB m c)) ∗ LS m K c 8 8 0 8 (swA m c) (swB m c)) ⊢ Z := by
  unfold LS
  rw [loop_end, loop_end]
  iintro ⟨⟨⟨HR, %f, Hf⟩, HL⟩, #Hrec, HO, HS⟩
  icases (unzip (rcvB_split m)) $$ HL with ⟨H1, H2⟩
  icases (unzip (swB_split m)) $$ HS with ⟨H3, H4⟩
  icases (slabs_join f (rsV m c)) $$ [H2 Hf] with ⟨%g, %hg, Hg⟩
  · isplitl [H2] <;> iassumption
  iapply (h g hg)
  isplitr [Hg]
  · isplitr [H4]
    · isplitl [HR H1 H3]
      · isplitl [HR]; · iexact HR
        isplitl [H1] <;> iassumption
      isplitr; · iexact Hrec
      iexact HO
    · iapply (rows_join m); iexact H4
  · iexact Hg

/-- What the broadcast to one device takes besides the reduced rows. -/
def bcT (c q : Dev nD) : sProp 𝕄 := if q = c then iprop(emp) else
  iprop(dutyTok ER (cell c (.bsnd q)) 0 c ∗ dutyTok ER (cell q (.brcv c)) 0 c ∗ ∃ f, mpts q (slabB c) fullShare f)

theorem to_bs {R : sProp 𝕄} : iprop((R ∗ (recs m K ∗ ow c 8 8 0) ∗ bigSep Finset.univ (bcT c)) ∗ (((c : Thread nD τ).loc cc0_scratch9) ↦{fullShare} red16 m c))
    ⊢ iprop(R ∗ LS m K c 8 8 0 0 (bsA m c) (bsB m c)) := by
  rw [shares_eq]
  unfold LS
  rw [loop_zero]
  iintro ⟨⟨HR, ⟨#Hrec, HO⟩, HT⟩, HS⟩
  isplitl [HR]; · iexact HR
  isplitr; · iexact Hrec
  isplitl [HO]; · iexact HO
  unfold bsA bcT
  iapply zip
  isplitl [HS] <;> iassumption

theorem to_br {R : sProp 𝕄} : iprop(((R ∗ bigSep Finset.univ (brA c)) ∗ OA m c 0) ∗ LS m K c 8 8 8 8 (bsA m c) (bsB m c))
    ⊢ iprop(((R ∗ loop 8 (bsA m c) (bsB m c)) ∗ LS m K c 8 8 8 0 (brA c) (brB m c)) ∗ OA m c 0) := by
  unfold LS
  rw [loop_zero]
  iintro ⟨⟨⟨HR, HB⟩, HA⟩, #Hrec, HO, HL⟩
  isplitr [HA]
  · isplitl [HR HL]; · isplitl [HR] <;> iassumption
    isplitr; · iexact Hrec
    isplitl [HO] <;> iassumption
  · iexact HA

theorem to_bw {R : sProp 𝕄} : iprop((((R ∗ bigSep Finset.univ fun q => atPos ER (cell c (.bsnd q)) 0 ∅ 0) ∗ loop 8 (bsA m c) (bsB m c)) ∗ LS m K c 8 8 8 8 (brA c) (brB m c)) ∗ OA m c 8)
    ⊢ iprop((R ∗ loop 8 (brA c) (brB m c) ∗ OA m c 8) ∗ LS m K c 8 8 8 0 (bwA m c) (bwB m c)) := by
  unfold LS
  rw [loop_zero, loop_end (A := bsA m c)]
  iintro ⟨⟨⟨⟨HR, HP⟩, HB⟩, #Hrec, HO, HL⟩, HA⟩
  isplitl [HR HL HA]
  · isplitl [HR]; · iexact HR
    isplitl [HL] <;> iassumption
  isplitr; · iexact Hrec
  isplitl [HO]; · iexact HO
  unfold bwA
  iapply zip
  isplitl [HP] <;> iassumption

/-- All done: every cell of the four families shut, nothing owed, and the buffers whole. -/
theorem to_end {R : sProp 𝕄} : iprop(((R ∗ ∃ f, mpts c (slabB c) fullShare f) ∗ loop 8 (brA c) (brB m c) ∗ OA m c 8) ∗ LS m K c 8 8 8 8 (bwA m c) (bwB m c))
    ⊢ iprop(R ∗ recs m K ∗ ow c 8 8 8 ∗ (bigSep Finset.univ fun p => shut m c (.brcv p)) ∗ (bigSep Finset.univ fun q => shut m c (.bsnd q))
      ∗ (∃ g, (((c : Thread nD τ).loc cc0_scratch11) ↦{fullShare} g)) ∗ (((c : Thread nD τ).loc cc0_scratch9) ↦{fullShare} red16 m c)
      ∗ (((c : Thread nD τ).loc cc0_stg3_0) ↦{fullShare} outV m c)) := by
  unfold LS OA
  rw [loop_end, loop_end, shares_eq]
  iintro ⟨⟨⟨HR, %f, Hf⟩, HL, %g, %hg, HA⟩, #Hrec, HO, HW⟩
  icases (unzip (brB_split m)) $$ HL with ⟨H1, H2⟩
  icases (unzip (bwB_split m)) $$ HW with ⟨H3, H4⟩
  isplitl [HR]; · iexact HR
  isplitr; · iexact Hrec
  isplitl [HO]; · iexact HO
  isplitl [H1]; · iexact H1
  isplitl [H3]; · iexact H3
  isplitl [H2 Hf]
  · iapply (slabsB_join f (bcV m))
    isplitl [H2] <;> iassumption
  isplitl [H4]; · iexact H4
  have e : g = outV m c := by
    funext x
    exact hg x (.inl (dev_of_row x))
  subst e
  iexact HA

end Cert.KernelRun
-- ==== Proof.Tail.lean ====
/-
  The end of the kernel: the parts received, reduced and broadcast.
-/
module

public import proofs.«01_k».proof.Proof.Regroup

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

attribute [local irreducible] Scalar.cmpi k0_cond1 k0_cond2 k0_cond3 k0_cond4 k0_cond5 k0_cond6 k0_cond7 k0_cond8 k0_cond9 k0_cond10 k0_cond11 k0_cond12 k0_cond13 k0_cond14 k0_cond15 k0_cond16 k0_cond25 k0_cond26 k0_cond27 k0_cond28 k0_cond29 k0_cond30 k0_cond31 k0_cond32 k0_cond33 k0_cond34 k0_cond35 k0_cond36 k0_cond37 k0_cond38 k0_cond39 k0_cond40 k0_cond49 k0_cond50 k0_cond51 k0_cond52 k0_cond53 k0_cond54 k0_cond55 k0_cond56

/-- A conditional step of a loop that ends where the other branch begins. -/
theorem loop_ifJ {α : Type} {X : Prop} [Decidable X] {St St' : sProp 𝕄} {A : X → Prog (TpuEff nD τ sig (Elt F) Λ₀ .tc) α}
    {J : Prog (TpuEff nD τ sig (Elt F) Λ₀ .tc) α} {Q : α → sProp 𝕄}
    (hA : ∀ x : X, (St' ⊢ wpc c J Q) → St ⊢ wpc c (A x) Q) (hN : ¬ X → St ⊢ St') (h : St' ⊢ wpc c J Q) :
    St ⊢ wpc c (if x : X then A x else J) Q := by
  split
  · rename_i x; exact hA x h
  · rename_i x; exact (hN x).trans h

theorem ld_own {R T : sProp 𝕄} {off : Fin 2 → ℕ} {inb} {hl} {Q : Vec F S128x1024 .bf16 → sProp 𝕄} (hoff : off = ![128 * c.val, 0])
    (h : iprop((R ∗ (((c : Thread nD τ).loc cc0_scratch8) ↦{fullShare} pV m c)) ∗ T) ⊢ Q (ownV m c)) :
    iprop((R ∗ (((c : Thread nD τ).loc cc0_scratch8) ↦{fullShare} pV m c)) ∗ T)
      ⊢ wpc c (Prog.lift (.load pM (Rect.unit (s := S1024x1024) off S128x1024.size inb).toLoadRect hl)) Q := by
  subst hoff
  refine load_step (c := c) (M := pM) (S := Finset.univ) (f := pV m c) (R := iprop(R ∗ T)) (Finset.subset_univ _) ?_ (BIBase.Entails.trans ?_ h)
  · iintro ⟨⟨H1, H2⟩, H3⟩
    isplitr [H2]; · isplitl [H1] <;> iassumption
    iexact H2
  · iintro ⟨⟨H1, H3⟩, H2⟩
    isplitr [H3]; · isplitl [H1] <;> iassumption
    iexact H3

theorem ld_slab {R : sProp 𝕄} (p : Dev nD) {inb} {hl} {g : Buf (Elt F) ((c : Thread nD τ).loc cc0_scratch10)} {Q : Vec F S1x128x1024 .bf16 → sProp 𝕄}
    (h : iprop(R ∗ (((c : Thread nD τ).loc cc0_scratch10) ↦{fullShare} g)) ⊢ Q (slR p g)) :
    iprop(R ∗ (((c : Thread nD τ).loc cc0_scratch10) ↦{fullShare} g))
      ⊢ wpc c (Prog.lift (.load rsM (Rect.unit (s := S8x128x1024) ![p.val, 0, 0] S1x128x1024.size inb).toLoadRect hl)) Q :=
  load_step (c := c) (M := rsM) (S := Finset.univ) (f := g) (Finset.subset_univ _) .rfl h

theorem ld_oraw {R : sProp 𝕄} {rr : LoadRect S1024x1024} {hl} {g : Buf (Elt F) ((c : Thread nD τ).loc cc0_stg3_0)} {Q : (rr.shape.Idx → F .f32) → sProp 𝕄}
    (h : iprop(R ∗ (((c : Thread nD τ).loc cc0_stg3_0) ↦{fullShare} g)) ⊢ Q (oM.view.readAt (Elt F) rr g)) :
    iprop(R ∗ (((c : Thread nD τ).loc cc0_stg3_0) ↦{fullShare} g)) ⊢ wpc c (Prog.lift (.load oM rr hl)) Q :=
  load_step (c := c) (M := oM) (S := Finset.univ) (f := g) (Finset.subset_univ _) .rfl h

theorem ld_bs {R : sProp 𝕄} {rr : LoadRect S128x1024} {hl} {g : Buf (Elt F) ((c : Thread nD τ).loc cc0_scratch9)} {Q : (rr.shape.Idx → F .bf16) → sProp 𝕄}
    (h : iprop(R ∗ (((c : Thread nD τ).loc cc0_scratch9) ↦{fullShare} g)) ⊢ Q (bsM.view.readAt (Elt F) rr g)) :
    iprop(R ∗ (((c : Thread nD τ).loc cc0_scratch9) ↦{fullShare} g)) ⊢ wpc c (Prog.lift (.load bsM rr hl)) Q :=
  load_step (c := c) (M := bsM) (S := Finset.univ) (f := g) (Finset.subset_univ _) .rfl h

theorem st_bs {R : sProp 𝕄} {inb} {w : FVec F S128x1024 .bf16} {hx} {hm} {Q : PUnit.{1} → sProp 𝕄}
    {g : Buf (Elt F) ((c : Thread nD τ).loc cc0_scratch9)} (hw : w = red16 m c)
    (h : iprop(R ∗ (((c : Thread nD τ).loc cc0_scratch9) ↦{fullShare} red16 m c)) ⊢ Q ⟨⟩) :
    iprop(R ∗ (((c : Thread nD τ).loc cc0_scratch9) ↦{fullShare} g))
      ⊢ wpc c (Prog.lift (.store bsM (Rect.unit (s := S128x1024) ![0, 0] S128x1024.size inb) w Finset.univ hx hm)) Q := by
  have e : (bsM.access (Rect.unit (s := S128x1024) ![0, 0] S128x1024.size inb)).write (Elt F) g w Finset.univ = red16 m c :=
    (Memref.write_access_unit_zero_univ (Elt F) cc0_scratch9 hz inb g w).trans hw
  have e3 := store_step (c := c) (M := bsM) (r := Rect.unit (s := S128x1024) ![0, 0] S128x1024.size inb) (w := w) (hx := hx) (hm := hm) (S := Finset.univ) (f := g)
    (R := R) (Q := Q) (Finset.subset_univ _) .rfl (by rw [e]; exact h)
  exact e3

theorem rot1 {A B C D E : sProp 𝕄} {G : sProp 𝕄} : iprop((((A ∗ B ∗ C) ∗ D) ∗ E) ∗ G) ⊢ iprop((((A ∗ G) ∗ B ∗ C) ∗ D) ∗ E) := by
  iintro ⟨⟨⟨⟨HA, HB, HC⟩, HD⟩, HE⟩, HG⟩
  isplitr [HE]
  · isplitr [HD]
    · isplitl [HA HG]; · isplitl [HA] <;> iassumption
      isplitl [HB] <;> iassumption
    · iexact HD
  · iexact HE
theorem rot2 {A B C D E : sProp 𝕄} {G : sProp 𝕄} : iprop((((A ∗ G) ∗ B ∗ C) ∗ D) ∗ E) ⊢ iprop(((A ∗ G ∗ E) ∗ B ∗ C) ∗ D) := by
  iintro ⟨⟨⟨⟨HA, HG⟩, HB, HC⟩, HD⟩, HE⟩
  isplitr [HD]
  · isplitl [HA HG HE]
    · isplitl [HA]; · iexact HA
      isplitl [HG] <;> iassumption
    isplitl [HB] <;> iassumption
  · iexact HD

theorem part27 {R : sProp 𝕄} {v72 : BitVec 32} {Q : (Σ' (v1080 : BitVec 32) (v1082 : BitVec 32) (v1084 : BitVec 32), BitVec 32) → sProp 𝕄}
    (h : ∀ a b d, iprop((R ∗ TS m c 3 8 ∗ loop 8 (rcvA c) (rcvB m c)) ∗ LS m K c 8 8 0 2 (swA m c) (swB m c)) ⊢ Q ⟨a, b, d, 0#32⟩) :
    iprop(((R ∗ bigSep Finset.univ fun i => atPos ER (cell c (.snd i)) 0 ∅ 0) ∗ sentR m c) ∗ LS m K c 8 8 0 4 (rcvA c) (rcvB m c)) ⊢ wpc c (k0_part27 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) v72 4#32) Q := by
  rw [k0_part27_eq_skeleton]
  unfold k0_part27_skel
  refine loop_if (fun x Z h => recv_op m K 4 ((rcvC4 c).mp x) h) (fun x => recv_skip m K 4 (not_ne (rcvC4 c) x)) ?_
  refine loop_if (fun x Z h => recv_op m K 5 ((rcvC5 c).mp x) h) (fun x => recv_skip m K 5 (not_ne (rcvC5 c) x)) ?_
  refine loop_if (fun x Z h => recv_op m K 6 ((rcvC6 c).mp x) h) (fun x => recv_skip m K 6 (not_ne (rcvC6 c) x)) ?_
  refine loop_if (fun x Z h => recv_op m K 7 ((rcvC7 c).mp x) h) (fun x => recv_skip m K 7 (not_ne (rcvC7 c) x)) ?_
  refine (to_sent m K).trans ?_
  refine loop_if (fun x Z h => sent_op m K 0 ((senC0 c).mp x) h) (fun x => sent_skip m K 0 (not_ne (senC0 c) x)) ?_
  refine loop_if (fun x Z h => sent_op m K 1 ((senC1 c).mp x) h) (fun x => sent_skip m K 1 (not_ne (senC1 c) x)) ?_
  exact pure_step (h _ _ _)

theorem part28 {R : sProp 𝕄} {v72 a b d e : BitVec 32} {Q : (BitVec 32) → sProp 𝕄}
    (h : iprop(R ∗ LS m K c 8 8 0 8 (swA m c) (swB m c)) ⊢ Q 128#32) :
    iprop(R ∗ LS m K c 8 8 0 2 (swA m c) (swB m c)) ⊢ wpc c (k0_part28 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) v72 a b d e) Q := by
  rw [k0_part28_eq_skeleton]
  unfold k0_part28_skel
  refine loop_if (fun x Z h => sent_op m K 2 ((senC2 c).mp x) h) (fun x => sent_skip m K 2 (not_ne (senC2 c) x)) ?_
  refine loop_if (fun x Z h => sent_op m K 3 ((senC3 c).mp x) h) (fun x => sent_skip m K 3 (not_ne (senC3 c) x)) ?_
  refine loop_if (fun x Z h => sent_op m K 4 ((senC4 c).mp x) h) (fun x => sent_skip m K 4 (not_ne (senC4 c) x)) ?_
  refine loop_if (fun x Z h => sent_op m K 5 ((senC5 c).mp x) h) (fun x => sent_skip m K 5 (not_ne (senC5 c) x)) ?_
  refine loop_if (fun x Z h => sent_op m K 6 ((senC6 c).mp x) h) (fun x => sent_skip m K 6 (not_ne (senC6 c) x)) ?_
  refine loop_if (fun x Z h => sent_op m K 7 ((senC7 c).mp x) h) (fun x => sent_skip m K 7 (not_ne (senC7 c) x)) ?_
  exact pure_step h

theorem part29 {R : sProp 𝕄} {e : BitVec 32} {g : Buf (Elt F) ((c : Thread nD τ).loc cc0_scratch10)} {Q : (Σ' (v1119 : Vec F S128x1024 .bf16) (v1150 : FVec F S128x1024 .f32), BitVec 1) → sProp 𝕄}
    (h : iprop((R ∗ (((c : Thread nD τ).loc cc0_scratch8) ↦{fullShare} pV m c)) ∗ (((c : Thread nD τ).loc cc0_scratch10) ↦{fullShare} g)) ⊢ Q ⟨ownV m c, k0_pay83 (word2 c) (ownV m c) (slR 0 g) (slR 1 g) (slR 2 g) (slR 3 g) (slR 4 g), Scalar.cmpi .eq (word2 c) 5#32⟩) :
    iprop((R ∗ (((c : Thread nD τ).loc cc0_scratch8) ↦{fullShare} pV m c)) ∗ (((c : Thread nD τ).loc cc0_scratch10) ↦{fullShare} g)) ⊢ wpc c (k0_part29 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) e) Q := by
  rw [k0_part29_eq_skeleton]
  unfold k0_part29_skel
  refine seq_step (ld_own m (ownwin c) ?_)
  refine seq_step (ld_slab 0 ?_)
  refine seq_step (ld_slab 1 ?_)
  refine seq_step (ld_slab 2 ?_)
  refine seq_step (ld_slab 3 ?_)
  refine seq_step (ld_slab 4 ?_)
  exact pure_step h

theorem part30 {R : sProp 𝕄} {g : Buf (Elt F) ((c : Thread nD τ).loc cc0_scratch10)} {fb : Buf (Elt F) ((c : Thread nD τ).loc cc0_scratch9)} {fo : Buf (Elt F) ((c : Thread nD τ).loc cc0_stg3_0)}
    (hg : ∀ x : S8x128x1024.Idx, x 0 ≠ c → g x = rsV m c x) {Q : (BitVec 32) → sProp 𝕄}
    (h : iprop((R ∗ (((c : Thread nD τ).loc cc0_scratch10) ↦{fullShare} g) ∗ OA m c 0) ∗ LS m K c 8 8 3 3 (bsA m c) (bsB m c)) ⊢ Q (Scalar.extui (Scalar.cmpi .ne (word2 c) 3#32))) :
    iprop(((((R ∗ (recs m K ∗ ow c 8 8 0) ∗ bigSep Finset.univ (bcT c))) ∗ (((c : Thread nD τ).loc cc0_scratch9) ↦{fullShare} fb)) ∗ (((c : Thread nD τ).loc cc0_stg3_0) ↦{fullShare} fo)) ∗ (((c : Thread nD τ).loc cc0_scratch10) ↦{fullShare} g)) ⊢ wpc c (k0_part30 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (ownV m c) (k0_pay83 (word2 c) (ownV m c) (slR 0 g) (slR 1 g) (slR 2 g) (slR 3 g) (slR 4 g)) (Scalar.cmpi .eq (word2 c) 5#32)) Q := by
  rw [k0_part30_eq_skeleton]
  unfold k0_part30_skel
  refine seq_step (ld_slab 5 ?_)
  refine seq_step (ld_slab 6 ?_)
  refine seq_step (ld_slab 7 ?_)
  refine rot1.trans ?_
  refine seq_step (ld_oraw ?_)
  refine seq_step (st_own m (ownwin c) (red32_congr m g hg) ?_)
  refine rot2.trans ?_
  refine seq_step (ld_bs ?_)
  refine seq_step (st_bs m (red16_congr m g hg) ?_)
  refine (to_bs m K).trans ?_
  refine loop_if (fun x Z h => bsend_op m K 0 ((bsC0 c).mp x) (Fin.ext bsT0) (bsR0 c) (bsD0 c) h) (fun x => bsend_skip m K 0 (not_ne (bsC0 c) x)) ?_
  refine loop_if (fun x Z h => bsend_op m K 1 ((bsC1 c).mp x) (Fin.ext bsT1) (bsR1 c) (bsD1 c) h) (fun x => bsend_skip m K 1 (not_ne (bsC1 c) x)) ?_
  refine loop_if (fun x Z h => bsend_op m K 2 ((bsC2 c).mp x) (Fin.ext bsT2) (bsR2 c) (bsD2 c) h) (fun x => bsend_skip m K 2 (not_ne (bsC2 c) x)) ?_
  exact pure_step h

theorem part31 {R : sProp 𝕄} {Q : (BitVec 32) → sProp 𝕄}
    (h : iprop(((R ∗ loop 8 (bsA m c) (bsB m c)) ∗ LS m K c 8 8 8 5 (brA c) (brB m c)) ∗ OA m c 5) ⊢ Q (Scalar.extui (Scalar.cmpi .ne (word2 c) 5#32))) :
    iprop(((R ∗ bigSep Finset.univ (brA c)) ∗ OA m c 0) ∗ LS m K c 8 8 3 3 (bsA m c) (bsB m c)) ⊢ wpc c (k0_part31 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (Scalar.extui (Scalar.cmpi .ne (word2 c) 3#32))) Q := by
  rw [k0_part31_eq_skeleton]
  unfold k0_part31_skel
  refine loop_if (fun x Z h => bsend_op m K 3 ((bsC3 c).mp x) (Fin.ext bsT3) (bsR3 c) (bsD3 c) h) (fun x => bsend_skip m K 3 (not_ne (bsC3 c) x)) ?_
  refine loop_if (fun x Z h => bsend_op m K 4 ((bsC4 c).mp x) (Fin.ext bsT4) (bsR4 c) (bsD4 c) h) (fun x => bsend_skip m K 4 (not_ne (bsC4 c) x)) ?_
  refine loop_if (fun x Z h => bsend_op m K 5 ((bsC5 c).mp x) (Fin.ext bsT5) (bsR5 c) (bsD5 c) h) (fun x => bsend_skip m K 5 (not_ne (bsC5 c) x)) ?_
  refine loop_if (fun x Z h => bsend_op m K 6 ((bsC6 c).mp x) (Fin.ext bsT6) (bsR6 c) (bsD6 c) h) (fun x => bsend_skip m K 6 (not_ne (bsC6 c) x)) ?_
  refine loop_if (fun x Z h => bsend_op m K 7 ((bsC7 c).mp x) (Fin.ext bsT7) (bsR7 c) (bsD7 c) h) (fun x => bsend_skip m K 7 (not_ne (bsC7 c) x)) ?_
  refine (to_br m K).trans ?_
  refine loop_ifJ (fun x h => brecv_op m K 0 rfl ((rcvC0 c).mp x) h) (fun x => brecv_skip m K 0 (not_ne (rcvC0 c) x)) ?_
  refine loop_ifJ (fun x h => brecv_op m K 1 rfl ((rcvC1 c).mp x) h) (fun x => brecv_skip m K 1 (not_ne (rcvC1 c) x)) ?_
  refine loop_ifJ (fun x h => brecv_op m K 2 rfl ((rcvC2 c).mp x) h) (fun x => brecv_skip m K 2 (not_ne (rcvC2 c) x)) ?_
  refine loop_ifJ (fun x h => brecv_op m K 3 rfl ((rcvC3 c).mp x) h) (fun x => brecv_skip m K 3 (not_ne (rcvC3 c) x)) ?_
  refine loop_ifJ (fun x h => brecv_op m K 4 rfl ((rcvC4 c).mp x) h) (fun x => brecv_skip m K 4 (not_ne (rcvC4 c) x)) ?_
  exact pure_step h

theorem part32 {R : sProp 𝕄} {Q : (BitVec 32) → sProp 𝕄}
    (h : ∀ e, iprop((R ∗ loop 8 (brA c) (brB m c) ∗ OA m c 8) ∗ LS m K c 8 8 8 7 (bwA m c) (bwB m c)) ⊢ Q e) :
    iprop((((R ∗ bigSep Finset.univ fun q => atPos ER (cell c (.bsnd q)) 0 ∅ 0) ∗ loop 8 (bsA m c) (bsB m c)) ∗ LS m K c 8 8 8 5 (brA c) (brB m c)) ∗ OA m c 5) ⊢ wpc c (k0_part32 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (Scalar.extui (Scalar.cmpi .ne (word2 c) 5#32))) Q := by
  rw [k0_part32_eq_skeleton]
  unfold k0_part32_skel
  refine loop_ifJ (fun x h => brecv_op m K 5 rfl ((rcvC5 c).mp x) h) (fun x => brecv_skip m K 5 (not_ne (rcvC5 c) x)) ?_
  refine loop_ifJ (fun x h => brecv_op m K 6 rfl ((rcvC6 c).mp x) h) (fun x => brecv_skip m K 6 (not_ne (rcvC6 c) x)) ?_
  refine loop_ifJ (fun x h => brecv_op m K 7 rfl ((rcvC7 c).mp x) h) (fun x => brecv_skip m K 7 (not_ne (rcvC7 c) x)) ?_
  refine (to_bw m K).trans ?_
  refine loop_if (fun x Z h => bsent_op m K 0 ((bwC0 c).mp x) h) (fun x => bsent_skip m K 0 (not_ne (bwC0 c) x)) ?_
  refine loop_if (fun x Z h => bsent_op m K 1 ((bwC1 c).mp x) h) (fun x => bsent_skip m K 1 (not_ne (bwC1 c) x)) ?_
  refine loop_if (fun x Z h => bsent_op m K 2 ((bwC2 c).mp x) h) (fun x => bsent_skip m K 2 (not_ne (bwC2 c) x)) ?_
  refine loop_if (fun x Z h => bsent_op m K 3 ((bwC3 c).mp x) h) (fun x => bsent_skip m K 3 (not_ne (bwC3 c) x)) ?_
  refine loop_if (fun x Z h => bsent_op m K 4 ((bwC4 c).mp x) h) (fun x => bsent_skip m K 4 (not_ne (bwC4 c) x)) ?_
  refine loop_if (fun x Z h => bsent_op m K 5 ((bwC5 c).mp x) h) (fun x => bsent_skip m K 5 (not_ne (bwC5 c) x)) ?_
  refine loop_if (fun x Z h => bsent_op m K 6 ((bwC6 c).mp x) h) (fun x => bsent_skip m K 6 (not_ne (bwC6 c) x)) ?_
  exact pure_step (h _)

end Cert.KernelRun
-- ==== Proof.Head.lean ====
/-
  The beginning of the kernel: the two copies of the weights, the ready signals, and the operands rounded.
-/
module

public import proofs.«01_k».proof.Proof.Tail

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

attribute [local irreducible] Scalar.cmpi k0_cond1 k0_cond2 k0_cond3 k0_cond4 k0_cond5 k0_cond6 k0_cond7 k0_cond8 k0_cond9 k0_cond10 k0_cond11 k0_cond12 k0_cond13 k0_cond14 k0_cond15 k0_cond16 k0_cond25 k0_cond26 k0_cond27 k0_cond28 k0_cond29 k0_cond30 k0_cond31 k0_cond32 k0_cond33 k0_cond34 k0_cond35 k0_cond36 k0_cond37 k0_cond38 k0_cond39 k0_cond40 k0_cond49 k0_cond50 k0_cond51 k0_cond52 k0_cond53 k0_cond54 k0_cond55 k0_cond56

theorem dev_step {R : sProp 𝕄} {Q : Dev nD → sProp 𝕄} (h : R ⊢ Q c) : R ⊢ wpc c (Prog.lift .deviceId) Q := by
  unfold wpc Prog.lift
  rw [wp_op, wpE_deviceId_eq]
  refine h.trans ?_
  rw [wp_ret]
  exact fupd_intro.trans (BI.fupd_mono fupd_intro)

/-! ## The two copies of the weights -/

theorem mpts_raw {sp : Space} {s : Shape} {e : EltTy} (c : Dev nD) (M : Memref sig .tc sp s e) (f : Buf (Elt F) (M.view.loc (c : Thread nD τ))) :
    mpts c M fullShare f ⊢ (M.view.loc (c : Thread nD τ) ↦[M.view.set]{fullShare} f : sProp 𝕄) := .rfl
theorem whole_raw (c : Dev nD) (b : Ref sig .tc) (f : Buf (Elt F) ((c : Thread nD τ).loc b)) : (((c : Thread nD τ).loc b) ↦{fullShare} f : sProp 𝕄)
    ⊢ ((Memref.whole b).view.loc (c : Thread nD τ) ↦[(Memref.whole b).view.set]{fullShare} f : sProp 𝕄) :=
  Entails.of_eq (mpts_whole c b fullShare f).symm

/-- What one copy takes: its duty's token, the block of the weight, and its destination. -/
def ldA0 (c : Dev nD) : sProp 𝕄 := iprop(dutyTok ER (cell c (.ld 0)) 0 c
  ∗ mpts c (wqB c) fullShare (m ((c : Thread nD τ).loc main_arg1)) ∗ ∃ f, (((c : Thread nD τ).loc cc0_scratch0) ↦{fullShare} f))

theorem ld_pay0 (f : Buf (Elt F) ((c : Thread nD τ).loc cc0_scratch0)) :
    iprop(((wqM.view.loc (c : Thread nD τ)) ↦[wqM.view.set]{fullShare} (wqM.view.write (Elt F) f ((wqB c).view.read (Elt F) (m ((c : Thread nD τ).loc main_arg1))) Finset.univ))
      ∗ (((wqB c).view.loc (c : Thread nD τ)) ↦[(wqB c).view.set]{fullShare} (m ((c : Thread nD τ).loc main_arg1))))
    ⊢ (rd m).payload ((c : Thread nD τ), SemLoc.dma (ldS 0)) 0 c := by
  have e := payload_cell m c (.ld 0) 0 c
  refine BIBase.Entails.trans ?_ (Entails.of_eq e.symm)
  show _ ⊢ ldPay m c 0
  have e2 : wqM.view.write (Elt F) f ((wqB c).view.read (Elt F) (m ((c : Thread nD τ).loc main_arg1))) Finset.univ = wqV m c :=
    View.write_whole_univ cc0_scratch0 f _
  rw [e2]
  exact .rfl

theorem copy_op0 {R T : sProp 𝕄} {h1 h2 h3} {Z : PUnit.{1} → sProp 𝕄}
    (h : iprop((R ∗ cred (tallyAt (cell c (.ld 0)) () NL) ∗ T) ∗ BS m K c 0) ⊢ Z ⟨⟩) :
    iprop((R ∗ ldA0 m c ∗ T) ∗ BS m K c 0) ⊢ wpc c (Prog.lift (.enqueueDma (wqB c) (.here wqM) (.dma (ldS 0)) h1 h2 h3)) Z := by
  unfold wpc Prog.lift BS ldA0
  iintro ⟨⟨HR, ⟨Ht, Hs, %f, Hd⟩, HT⟩, #Hrec, HO, HL⟩
  iapply (Rounds.wp_copy_pointsTo 𝒱₀ ER (rd m) (c : Thread nD τ) none (src := wqB c) (dst := wqM) (sem := SemLoc.dma (ldS 0)) (r := 0) (κ := K (c, .ld 0))
      (d := c) (fs := m ((c : Thread nD τ).loc main_arg1)) (fd := f) (by rw [show ((c : Thread nD τ), SemLoc.dma (ldS 0)) = cell c (.ld 0) from rfl, duties_cell]; exact Finset.mem_singleton_self _)
      () NL rfl (amount_cell m c (.ld 0) 0 c) (ld_pay0 m f))
    $$ [Ht Hs Hd]
  · isplitr; · iapply (recs_cell m K c (.ld 0)); iexact Hrec
    isplitl [Hs]; · iapply (mpts_raw c (wqB c) _); iexact Hs
    isplitl [Hd]; · iapply (whole_raw c cc0_scratch0 f); iexact Hd
    isplitl [Ht]; · iexact Ht
    · iapply (recs_reached m K c (.ld 0)); iexact Hrec
  iintro Hc
  rw [wp_ret]
  imodintro
  iapply h
  isplitr [HO HL]
  · isplitl [HR]; · iexact HR
    isplitl [Hc]; · iexact Hc
    iexact HT
  unfold BS
  isplitr; · iexact Hrec
  isplitl [HO] <;> iassumption

/-- The wait for the copy. -/
theorem copied0 {R : sProp 𝕄} {h1 h2} {Z : PUnit.{1} → sProp 𝕄}
    (h : iprop(R ∗ recs m K ∗ ow c 8 0 0 ∗ atPos ER (cell c (.ld 0)) 1 ∅ 0 ∗ (((c : Thread nD τ).loc cc0_scratch0) ↦{fullShare} wqV m c) ∗ mpts c (wqB c) fullShare (m ((c : Thread nD τ).loc main_arg1))) ⊢ Z ⟨⟩) :
    iprop(R ∗ recs m K ∗ ow c 8 0 0 ∗ atPos ER (cell c (.ld 0)) 0 ∅ 0 ∗ cred (tallyAt (cell c (.ld 0)) () NL))
      ⊢ wpc c (Prog.lift (.waitDma2 (ldS 0) (wqB c) wqM h1 h2)) Z := by
  unfold Prog.lift
  refine wait_op m K (.ld 0) 8 0 0 0 (k' := NL) (wpE_waitDma2_eq 𝒱₀ (c : Thread nD τ) none Set.univ)
    (by rw [show dutiesOf c (some (.ld 0)) = {c} from rfl, Finset.card_singleton, Nat.one_mul]; rfl) (by simp [lvK])
    (fun e => absurd (rest_end c) e) (fun _ => by decide) (fun _ => by decide) (BIBase.Entails.trans ?_ h)
  rw [show dutiesOf c (some (.ld 0)) = {c} from rfl, BI.bigSep_singleton, ← mpts_whole c cc0_scratch0 fullShare (wqV m c)]
  exact .rfl

/-- What one copy takes: its duty's token, the block of the weight, and its destination. -/
def ldA1 (c : Dev nD) : sProp 𝕄 := iprop(dutyTok ER (cell c (.ld 1)) 0 c
  ∗ mpts c (woB c) fullShare (m ((c : Thread nD τ).loc main_arg4)) ∗ ∃ f, (((c : Thread nD τ).loc cc0_scratch1) ↦{fullShare} f))

theorem ld_pay1 (f : Buf (Elt F) ((c : Thread nD τ).loc cc0_scratch1)) :
    iprop(((woM.view.loc (c : Thread nD τ)) ↦[woM.view.set]{fullShare} (woM.view.write (Elt F) f ((woB c).view.read (Elt F) (m ((c : Thread nD τ).loc main_arg4))) Finset.univ))
      ∗ (((woB c).view.loc (c : Thread nD τ)) ↦[(woB c).view.set]{fullShare} (m ((c : Thread nD τ).loc main_arg4))))
    ⊢ (rd m).payload ((c : Thread nD τ), SemLoc.dma (ldS 1)) 0 c := by
  have e := payload_cell m c (.ld 1) 0 c
  refine BIBase.Entails.trans ?_ (Entails.of_eq e.symm)
  show _ ⊢ ldPay m c 1
  have e2 : woM.view.write (Elt F) f ((woB c).view.read (Elt F) (m ((c : Thread nD τ).loc main_arg4))) Finset.univ = woV m c :=
    View.write_whole_univ cc0_scratch1 f _
  rw [e2]
  exact .rfl

theorem copy_op1 {R T : sProp 𝕄} {h1 h2 h3} {Z : PUnit.{1} → sProp 𝕄}
    (h : iprop((R ∗ T ∗ cred (tallyAt (cell c (.ld 1)) () NL)) ∗ BS m K c 0) ⊢ Z ⟨⟩) :
    iprop((R ∗ T ∗ ldA1 m c) ∗ BS m K c 0) ⊢ wpc c (Prog.lift (.enqueueDma (woB c) (.here woM) (.dma (ldS 1)) h1 h2 h3)) Z := by
  unfold wpc Prog.lift BS ldA1
  iintro ⟨⟨HR, HT, ⟨Ht, Hs, %f, Hd⟩⟩, #Hrec, HO, HL⟩
  iapply (Rounds.wp_copy_pointsTo 𝒱₀ ER (rd m) (c : Thread nD τ) none (src := woB c) (dst := woM) (sem := SemLoc.dma (ldS 1)) (r := 0) (κ := K (c, .ld 1))
      (d := c) (fs := m ((c : Thread nD τ).loc main_arg4)) (fd := f) (by rw [show ((c : Thread nD τ), SemLoc.dma (ldS 1)) = cell c (.ld 1) from rfl, duties_cell]; exact Finset.mem_singleton_self _)
      () NL rfl (amount_cell m c (.ld 1) 0 c) (ld_pay1 m f))
    $$ [Ht Hs Hd]
  · isplitr; · iapply (recs_cell m K c (.ld 1)); iexact Hrec
    isplitl [Hs]; · iapply (mpts_raw c (woB c) _); iexact Hs
    isplitl [Hd]; · iapply (whole_raw c cc0_scratch1 f); iexact Hd
    isplitl [Ht]; · iexact Ht
    · iapply (recs_reached m K c (.ld 1)); iexact Hrec
  iintro Hc
  rw [wp_ret]
  imodintro
  iapply h
  isplitr [HO HL]
  · isplitl [HR]; · iexact HR
    isplitl [HT]; · iexact HT
    iexact Hc
  unfold BS
  isplitr; · iexact Hrec
  isplitl [HO] <;> iassumption

/-- The wait for the copy. -/
theorem copied1 {R : sProp 𝕄} {h1 h2} {Z : PUnit.{1} → sProp 𝕄}
    (h : iprop(R ∗ recs m K ∗ ow c 8 0 0 ∗ atPos ER (cell c (.ld 1)) 1 ∅ 0 ∗ (((c : Thread nD τ).loc cc0_scratch1) ↦{fullShare} woV m c) ∗ mpts c (woB c) fullShare (m ((c : Thread nD τ).loc main_arg4))) ⊢ Z ⟨⟩) :
    iprop(R ∗ recs m K ∗ ow c 8 0 0 ∗ atPos ER (cell c (.ld 1)) 0 ∅ 0 ∗ cred (tallyAt (cell c (.ld 1)) () NL))
      ⊢ wpc c (Prog.lift (.waitDma2 (ldS 1) (woB c) woM h1 h2)) Z := by
  unfold Prog.lift
  refine wait_op m K (.ld 1) 8 0 0 0 (k' := NL) (wpE_waitDma2_eq 𝒱₀ (c : Thread nD τ) none Set.univ)
    (by rw [show dutiesOf c (some (.ld 1)) = {c} from rfl, Finset.card_singleton, Nat.one_mul]; rfl) (by simp [lvK])
    (fun e => absurd (rest_end c) e) (fun _ => by decide) (fun _ => by decide) (BIBase.Entails.trans ?_ h)
  rw [show dutiesOf c (some (.ld 1)) = {c} from rfl, BI.bigSep_singleton, ← mpts_whole c cc0_scratch1 fullShare (woV m c)]
  exact .rfl

/-! ## Whole buffers read and written -/

theorem rd_x {R : sProp 𝕄} {inb} {hl} {g : Buf (Elt F) ((c : Thread nD τ).loc cc0_stg0_0)} {Q : Vec F S1024x1024 .f32 → sProp 𝕄}
    (h : iprop(R ∗ (((c : Thread nD τ).loc cc0_stg0_0) ↦{fullShare} g)) ⊢ Q g) :
    iprop(R ∗ (((c : Thread nD τ).loc cc0_stg0_0) ↦{fullShare} g)) ⊢ wpc c (Prog.lift (.load xM (Rect.unit (s := S1024x1024) ![0, 0] S1024x1024.size inb).toLoadRect hl)) Q :=
  load_step (c := c) (M := xM) (S := Finset.univ) (f := g) (Finset.subset_univ _) .rfl
    (h.trans (Entails.of_eq (congrArg Q (Memref.readAt_unit_zero (Elt F) cc0_stg0_0 hz inb g).symm)))

theorem rd_k {R : sProp 𝕄} {inb} {hl} {g : Buf (Elt F) ((c : Thread nD τ).loc cc0_stg1_0)} {Q : Vec F S1024x1024 .f32 → sProp 𝕄}
    (h : iprop(R ∗ (((c : Thread nD τ).loc cc0_stg1_0) ↦{fullShare} g)) ⊢ Q g) :
    iprop(R ∗ (((c : Thread nD τ).loc cc0_stg1_0) ↦{fullShare} g)) ⊢ wpc c (Prog.lift (.load kM (Rect.unit (s := S1024x1024) ![0, 0] S1024x1024.size inb).toLoadRect hl)) Q :=
  load_step (c := c) (M := kM) (S := Finset.univ) (f := g) (Finset.subset_univ _) .rfl
    (h.trans (Entails.of_eq (congrArg Q (Memref.readAt_unit_zero (Elt F) cc0_stg1_0 hz inb g).symm)))

theorem rd_v {R : sProp 𝕄} {inb} {hl} {g : Buf (Elt F) ((c : Thread nD τ).loc cc0_stg2_0)} {Q : Vec F S1024x1024 .f32 → sProp 𝕄}
    (h : iprop(R ∗ (((c : Thread nD τ).loc cc0_stg2_0) ↦{fullShare} g)) ⊢ Q g) :
    iprop(R ∗ (((c : Thread nD τ).loc cc0_stg2_0) ↦{fullShare} g)) ⊢ wpc c (Prog.lift (.load vM (Rect.unit (s := S1024x1024) ![0, 0] S1024x1024.size inb).toLoadRect hl)) Q :=
  load_step (c := c) (M := vM) (S := Finset.univ) (f := g) (Finset.subset_univ _) .rfl
    (h.trans (Entails.of_eq (congrArg Q (Memref.readAt_unit_zero (Elt F) cc0_stg2_0 hz inb g).symm)))

theorem rd_wqs {R : sProp 𝕄} {inb} {hl} {g : Buf (Elt F) ((c : Thread nD τ).loc cc0_scratch0)} {Q : Vec F S1024x1024 .f32 → sProp 𝕄}
    (h : iprop(R ∗ (((c : Thread nD τ).loc cc0_scratch0) ↦{fullShare} g)) ⊢ Q g) :
    iprop(R ∗ (((c : Thread nD τ).loc cc0_scratch0) ↦{fullShare} g)) ⊢ wpc c (Prog.lift (.load wqM (Rect.unit (s := S1024x1024) ![0, 0] S1024x1024.size inb).toLoadRect hl)) Q :=
  load_step (c := c) (M := wqM) (S := Finset.univ) (f := g) (Finset.subset_univ _) .rfl
    (h.trans (Entails.of_eq (congrArg Q (Memref.readAt_unit_zero (Elt F) cc0_scratch0 hz inb g).symm)))

theorem rd_wos {R : sProp 𝕄} {inb} {hl} {g : Buf (Elt F) ((c : Thread nD τ).loc cc0_scratch1)} {Q : Vec F S1024x1024 .f32 → sProp 𝕄}
    (h : iprop(R ∗ (((c : Thread nD τ).loc cc0_scratch1) ↦{fullShare} g)) ⊢ Q g) :
    iprop(R ∗ (((c : Thread nD τ).loc cc0_scratch1) ↦{fullShare} g)) ⊢ wpc c (Prog.lift (.load woM (Rect.unit (s := S1024x1024) ![0, 0] S1024x1024.size inb).toLoadRect hl)) Q :=
  load_step (c := c) (M := woM) (S := Finset.univ) (f := g) (Finset.subset_univ _) .rfl
    (h.trans (Entails.of_eq (congrArg Q (Memref.readAt_unit_zero (Elt F) cc0_scratch1 hz inb g).symm)))

theorem old_xb {R : sProp 𝕄} {rr : LoadRect S1024x1024} {hl} {g : Buf (Elt F) ((c : Thread nD τ).loc cc0_scratch2)} {Q : (rr.shape.Idx → F .bf16) → sProp 𝕄}
    (h : iprop(R ∗ (((c : Thread nD τ).loc cc0_scratch2) ↦{fullShare} g)) ⊢ Q (xbM.view.readAt (Elt F) rr g)) :
    iprop(R ∗ (((c : Thread nD τ).loc cc0_scratch2) ↦{fullShare} g)) ⊢ wpc c (Prog.lift (.load xbM rr hl)) Q :=
  load_step (c := c) (M := xbM) (S := Finset.univ) (f := g) (Finset.subset_univ _) .rfl h

theorem new_xb {R : sProp 𝕄} {inb} {w : FVec F S1024x1024 .bf16} {hx} {hm} {Q : PUnit.{1} → sProp 𝕄}
    {g : Buf (Elt F) ((c : Thread nD τ).loc cc0_scratch2)} (h : iprop(R ∗ (((c : Thread nD τ).loc cc0_scratch2) ↦{fullShare} w)) ⊢ Q ⟨⟩) :
    iprop(R ∗ (((c : Thread nD τ).loc cc0_scratch2) ↦{fullShare} g)) ⊢ wpc c (Prog.lift (.store xbM (Rect.unit (s := S1024x1024) ![0, 0] S1024x1024.size inb) w Finset.univ hx hm)) Q := by
  have e : (xbM.access (Rect.unit (s := S1024x1024) ![0, 0] S1024x1024.size inb)).write (Elt F) g w Finset.univ = w := Memref.write_access_unit_zero_univ (Elt F) cc0_scratch2 hz inb g w
  have e3 := store_step (c := c) (M := xbM) (r := (Rect.unit (s := S1024x1024) ![0, 0] S1024x1024.size inb)) (w := w) (hx := hx) (hm := hm) (S := Finset.univ) (f := g)
    (R := R) (Q := Q) (Finset.subset_univ _) .rfl (by rw [e]; exact h)
  exact e3

theorem old_wqb {R : sProp 𝕄} {rr : LoadRect S1024x1024} {hl} {g : Buf (Elt F) ((c : Thread nD τ).loc cc0_scratch3)} {Q : (rr.shape.Idx → F .bf16) → sProp 𝕄}
    (h : iprop(R ∗ (((c : Thread nD τ).loc cc0_scratch3) ↦{fullShare} g)) ⊢ Q (wqbM.view.readAt (Elt F) rr g)) :
    iprop(R ∗ (((c : Thread nD τ).loc cc0_scratch3) ↦{fullShare} g)) ⊢ wpc c (Prog.lift (.load wqbM rr hl)) Q :=
  load_step (c := c) (M := wqbM) (S := Finset.univ) (f := g) (Finset.subset_univ _) .rfl h

theorem new_wqb {R : sProp 𝕄} {inb} {w : FVec F S1024x1024 .bf16} {hx} {hm} {Q : PUnit.{1} → sProp 𝕄}
    {g : Buf (Elt F) ((c : Thread nD τ).loc cc0_scratch3)} (h : iprop(R ∗ (((c : Thread nD τ).loc cc0_scratch3) ↦{fullShare} w)) ⊢ Q ⟨⟩) :
    iprop(R ∗ (((c : Thread nD τ).loc cc0_scratch3) ↦{fullShare} g)) ⊢ wpc c (Prog.lift (.store wqbM (Rect.unit (s := S1024x1024) ![0, 0] S1024x1024.size inb) w Finset.univ hx hm)) Q := by
  have e : (wqbM.access (Rect.unit (s := S1024x1024) ![0, 0] S1024x1024.size inb)).write (Elt F) g w Finset.univ = w := Memref.write_access_unit_zero_univ (Elt F) cc0_scratch3 hz inb g w
  have e3 := store_step (c := c) (M := wqbM) (r := (Rect.unit (s := S1024x1024) ![0, 0] S1024x1024.size inb)) (w := w) (hx := hx) (hm := hm) (S := Finset.univ) (f := g)
    (R := R) (Q := Q) (Finset.subset_univ _) .rfl (by rw [e]; exact h)
  exact e3

theorem old_wob {R : sProp 𝕄} {rr : LoadRect S1024x1024} {hl} {g : Buf (Elt F) ((c : Thread nD τ).loc cc0_scratch4)} {Q : (rr.shape.Idx → F .bf16) → sProp 𝕄}
    (h : iprop(R ∗ (((c : Thread nD τ).loc cc0_scratch4) ↦{fullShare} g)) ⊢ Q (wobM.view.readAt (Elt F) rr g)) :
    iprop(R ∗ (((c : Thread nD τ).loc cc0_scratch4) ↦{fullShare} g)) ⊢ wpc c (Prog.lift (.load wobM rr hl)) Q :=
  load_step (c := c) (M := wobM) (S := Finset.univ) (f := g) (Finset.subset_univ _) .rfl h

theorem new_wob {R : sProp 𝕄} {inb} {w : FVec F S1024x1024 .bf16} {hx} {hm} {Q : PUnit.{1} → sProp 𝕄}
    {g : Buf (Elt F) ((c : Thread nD τ).loc cc0_scratch4)} (h : iprop(R ∗ (((c : Thread nD τ).loc cc0_scratch4) ↦{fullShare} w)) ⊢ Q ⟨⟩) :
    iprop(R ∗ (((c : Thread nD τ).loc cc0_scratch4) ↦{fullShare} g)) ⊢ wpc c (Prog.lift (.store wobM (Rect.unit (s := S1024x1024) ![0, 0] S1024x1024.size inb) w Finset.univ hx hm)) Q := by
  have e : (wobM.access (Rect.unit (s := S1024x1024) ![0, 0] S1024x1024.size inb)).write (Elt F) g w Finset.univ = w := Memref.write_access_unit_zero_univ (Elt F) cc0_scratch4 hz inb g w
  have e3 := store_step (c := c) (M := wobM) (r := (Rect.unit (s := S1024x1024) ![0, 0] S1024x1024.size inb)) (w := w) (hx := hx) (hm := hm) (S := Finset.univ) (f := g)
    (R := R) (Q := Q) (Finset.subset_univ _) .rfl (by rw [e]; exact h)
  exact e3

theorem old_kb {R : sProp 𝕄} {rr : LoadRect S1024x1024} {hl} {g : Buf (Elt F) ((c : Thread nD τ).loc cc0_scratch5)} {Q : (rr.shape.Idx → F .bf16) → sProp 𝕄}
    (h : iprop(R ∗ (((c : Thread nD τ).loc cc0_scratch5) ↦{fullShare} g)) ⊢ Q (kbM.view.readAt (Elt F) rr g)) :
    iprop(R ∗ (((c : Thread nD τ).loc cc0_scratch5) ↦{fullShare} g)) ⊢ wpc c (Prog.lift (.load kbM rr hl)) Q :=
  load_step (c := c) (M := kbM) (S := Finset.univ) (f := g) (Finset.subset_univ _) .rfl h

theorem new_kb {R : sProp 𝕄} {inb} {w : FVec F S1024x1024 .bf16} {hx} {hm} {Q : PUnit.{1} → sProp 𝕄}
    {g : Buf (Elt F) ((c : Thread nD τ).loc cc0_scratch5)} (h : iprop(R ∗ (((c : Thread nD τ).loc cc0_scratch5) ↦{fullShare} w)) ⊢ Q ⟨⟩) :
    iprop(R ∗ (((c : Thread nD τ).loc cc0_scratch5) ↦{fullShare} g)) ⊢ wpc c (Prog.lift (.store kbM (Rect.unit (s := S1024x1024) ![0, 0] S1024x1024.size inb) w Finset.univ hx hm)) Q := by
  have e : (kbM.access (Rect.unit (s := S1024x1024) ![0, 0] S1024x1024.size inb)).write (Elt F) g w Finset.univ = w := Memref.write_access_unit_zero_univ (Elt F) cc0_scratch5 hz inb g w
  have e3 := store_step (c := c) (M := kbM) (r := (Rect.unit (s := S1024x1024) ![0, 0] S1024x1024.size inb)) (w := w) (hx := hx) (hm := hm) (S := Finset.univ) (f := g)
    (R := R) (Q := Q) (Finset.subset_univ _) .rfl (by rw [e]; exact h)
  exact e3

theorem old_vb {R : sProp 𝕄} {rr : LoadRect S1024x1024} {hl} {g : Buf (Elt F) ((c : Thread nD τ).loc cc0_scratch6)} {Q : (rr.shape.Idx → F .bf16) → sProp 𝕄}
    (h : iprop(R ∗ (((c : Thread nD τ).loc cc0_scratch6) ↦{fullShare} g)) ⊢ Q (vbM.view.readAt (Elt F) rr g)) :
    iprop(R ∗ (((c : Thread nD τ).loc cc0_scratch6) ↦{fullShare} g)) ⊢ wpc c (Prog.lift (.load vbM rr hl)) Q :=
  load_step (c := c) (M := vbM) (S := Finset.univ) (f := g) (Finset.subset_univ _) .rfl h

theorem new_vb {R : sProp 𝕄} {inb} {w : FVec F S1024x1024 .bf16} {hx} {hm} {Q : PUnit.{1} → sProp 𝕄}
    {g : Buf (Elt F) ((c : Thread nD τ).loc cc0_scratch6)} (h : iprop(R ∗ (((c : Thread nD τ).loc cc0_scratch6) ↦{fullShare} w)) ⊢ Q ⟨⟩) :
    iprop(R ∗ (((c : Thread nD τ).loc cc0_scratch6) ↦{fullShare} g)) ⊢ wpc c (Prog.lift (.store vbM (Rect.unit (s := S1024x1024) ![0, 0] S1024x1024.size inb) w Finset.univ hx hm)) Q := by
  have e : (vbM.access (Rect.unit (s := S1024x1024) ![0, 0] S1024x1024.size inb)).write (Elt F) g w Finset.univ = w := Memref.write_access_unit_zero_univ (Elt F) cc0_scratch6 hz inb g w
  have e3 := store_step (c := c) (M := vbM) (r := (Rect.unit (s := S1024x1024) ![0, 0] S1024x1024.size inb)) (w := w) (hx := hx) (hm := hm) (S := Finset.univ) (f := g)
    (R := R) (Q := Q) (Finset.subset_univ _) .rfl (by rw [e]; exact h)
  exact e3

/-! ## The parts -/

theorem part1 {R : sProp 𝕄} {Q : (Σ' (d0 : Dev nD) (v2 : BitVec 32), Sems sig S_) → sProp 𝕄}
    (h : iprop((R ∗ cred (tallyAt (cell c (.ld 0)) () NL) ∗ cred (tallyAt (cell c (.ld 1)) () NL)) ∗ BS m K c 5) ⊢ Q ⟨c, word2 c, SemArray.scalar (sig.barrier 0 rfl)⟩) :
    iprop((R ∗ ldA0 m c ∗ ldA1 m c) ∗ BS m K c 0) ⊢ wpc c (k0_part1 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) Q := by
  rw [k0_part1_eq_skeleton]
  unfold k0_part1_skel
  refine seq_step (dev_step ?_)
  refine seq_step (copy_op0 m K ?_)
  refine seq_step (copy_op1 m K ?_)
  refine loop_if (fun x Z h => signal_op m K 0 ((sigC0 c).mp x) (Fin.ext sigT0) h) (fun x => signal_skip m K 0 (not_ne (sigC0 c) x)) ?_
  refine loop_if (fun x Z h => signal_op m K 1 ((sigC1 c).mp x) (Fin.ext sigT1) h) (fun x => signal_skip m K 1 (not_ne (sigC1 c) x)) ?_
  refine loop_if (fun x Z h => signal_op m K 2 ((sigC2 c).mp x) (Fin.ext sigT2) h) (fun x => signal_skip m K 2 (not_ne (sigC2 c) x)) ?_
  refine loop_if (fun x Z h => signal_op m K 3 ((sigC3 c).mp x) (Fin.ext sigT3) h) (fun x => signal_skip m K 3 (not_ne (sigC3 c) x)) ?_
  refine loop_if (fun x Z h => signal_op m K 4 ((sigC4 c).mp x) (Fin.ext sigT4) h) (fun x => signal_skip m K 4 (not_ne (sigC4 c) x)) ?_
  exact pure_step h

theorem rgX {A K V X : sProp 𝕄} : iprop((A ∗ K ∗ V) ∗ X) ⊢ iprop((A ∗ V ∗ X) ∗ K) := by
  iintro ⟨⟨HA, ⟨HK, HV⟩⟩, HX⟩
  isplitl [HA HV HX]
  · isplitl [HA]
    · iexact HA
    isplitl [HV]
    · iexact HV
    iexact HX
  iexact HK

theorem rgB0 {C L O Q R W Z : sProp 𝕄} : iprop(((R ∗ W) ∗ (Z ∗ C)) ∗ (Q ∗ O ∗ L)) ⊢ iprop((R ∗ W) ∗ Q ∗ O ∗ Z ∗ C) := by
  iintro ⟨⟨⟨HR, HW⟩, ⟨HZ, HC⟩⟩, ⟨HQ, ⟨HO, -⟩⟩⟩
  isplitl [HR HW]
  · isplitl [HR]
    · iexact HR
    iexact HW
  isplitl [HQ]
  · iexact HQ
  isplitl [HO]
  · iexact HO
  isplitl [HZ]
  · iexact HZ
  iexact HC

theorem rgB1 {B J K L0 R U V X Y : sProp 𝕄} : iprop(((R ∗ L0) ∗ (X ∗ Y) ∗ (K ∗ J) ∗ (V ∗ U)) ∗ B) ⊢ iprop((((R ∗ L0) ∗ B) ∗ (K ∗ J) ∗ (V ∗ U)) ∗ X ∗ Y) := by
  iintro ⟨⟨⟨HR, HL0⟩, ⟨⟨HX, HY⟩, ⟨⟨HK, HJ⟩, ⟨HV, HU⟩⟩⟩⟩, HB⟩
  isplitl [HR HL0 HB HK HJ HV HU]
  · isplitl [HR HL0 HB]
    · isplitl [HR HL0]
      · isplitl [HR]
        · iexact HR
        iexact HL0
      iexact HB
    isplitl [HK HJ]
    · isplitl [HK]
      · iexact HK
      iexact HJ
    isplitl [HV]
    · iexact HV
    iexact HU
  isplitl [HX]
  · iexact HX
  iexact HY

theorem rgS {A B R : sProp 𝕄} : iprop(R ∗ A ∗ B) ⊢ iprop((R ∗ A) ∗ B) := by
  iintro ⟨HR, ⟨HA, HB⟩⟩
  isplitl [HR HA]
  · isplitl [HR]
    · iexact HR
    iexact HA
  iexact HB

theorem rgT {A B R : sProp 𝕄} : iprop((R ∗ A) ∗ B) ⊢ iprop((R ∗ B) ∗ A) := by
  iintro ⟨⟨HR, HA⟩, HB⟩
  isplitl [HR HB]
  · isplitl [HR]
    · iexact HR
    iexact HB
  iexact HA

theorem rgB2 {C G K O P Q R V X Z : sProp 𝕄} : iprop((((R ∗ (Z ∗ C)) ∗ Q ∗ O ∗ P ∗ G) ∗ X ∗ K) ∗ V) ⊢ iprop((R ∗ (X ∗ K ∗ V) ∗ P ∗ G) ∗ Q ∗ O ∗ Z ∗ C) := by
  iintro ⟨⟨⟨⟨HR, ⟨HZ, HC⟩⟩, ⟨HQ, ⟨HO, ⟨HP, HG⟩⟩⟩⟩, ⟨HX, HK⟩⟩, HV⟩
  isplitl [HR HX HK HV HP HG]
  · isplitl [HR]
    · iexact HR
    isplitl [HX HK HV]
    · isplitl [HX]
      · iexact HX
      isplitl [HK]
      · iexact HK
      iexact HV
    isplitl [HP]
    · iexact HP
    iexact HG
  isplitl [HQ]
  · iexact HQ
  isplitl [HO]
  · iexact HO
  isplitl [HZ]
  · iexact HZ
  iexact HC

theorem rgB3 {B M O Q R Z : sProp 𝕄} : iprop(R ∗ Q ∗ O ∗ Z ∗ M ∗ B) ⊢ iprop((R ∗ Q ∗ O ∗ Z ∗ B) ∗ M) := by
  iintro ⟨HR, ⟨HQ, ⟨HO, ⟨HZ, ⟨HM, HB⟩⟩⟩⟩⟩
  isplitl [HR HQ HO HZ HB]
  · isplitl [HR]
    · iexact HR
    isplitl [HQ]
    · iexact HQ
    isplitl [HO]
    · iexact HO
    isplitl [HZ]
    · iexact HZ
    iexact HB
  iexact HM

theorem rgP {A K V X Y : sProp 𝕄} : iprop(((A ∗ K ∗ V) ∗ X) ∗ Y) ⊢ iprop((A ∗ K ∗ V) ∗ Y ∗ X) := by
  iintro ⟨⟨⟨HA, ⟨HK, HV⟩⟩, HX⟩, HY⟩
  isplitl [HA HK HV]
  · isplitl [HA]
    · iexact HA
    isplitl [HK]
    · iexact HK
    iexact HV
  isplitl [HY]
  · iexact HY
  iexact HX

theorem rgTS {A B R : sProp 𝕄} : iprop(R ∗ A ∗ B) ⊢ iprop((R ∗ B) ∗ A) := by
  iintro ⟨HR, ⟨HA, HB⟩⟩
  isplitl [HR HB]
  · isplitl [HR]
    · iexact HR
    iexact HB
  iexact HA

theorem rgST {A B R : sProp 𝕄} : iprop((R ∗ A) ∗ B) ⊢ iprop(R ∗ A ∗ B) := by
  iintro ⟨⟨HR, HA⟩, HB⟩
  isplitl [HR]
  · iexact HR
  isplitl [HA]
  · iexact HA
  iexact HB

theorem part2 {R : sProp 𝕄} {fx : Buf (Elt F) ((c : Thread nD τ).loc cc0_scratch2)} {fk : Buf (Elt F) ((c : Thread nD τ).loc cc0_scratch5)}
    {fv : Buf (Elt F) ((c : Thread nD τ).loc cc0_scratch6)} {Q : FVec F S1024x1024 .bf16 → sProp 𝕄}
    (h : iprop(((R ∗ (((((c : Thread nD τ).loc cc0_stg0_0) ↦{fullShare} xstg m c) ∗ (((c : Thread nD τ).loc cc0_scratch2) ↦{fullShare} xbV m c)) ∗ ((((c : Thread nD τ).loc cc0_stg1_0) ↦{fullShare} kstg m c) ∗ (((c : Thread nD τ).loc cc0_scratch5) ↦{fullShare} kbV m c)) ∗ ((((c : Thread nD τ).loc cc0_stg2_0) ↦{fullShare} vstg m c) ∗ (((c : Thread nD τ).loc cc0_scratch6) ↦{fullShare} vbV m c))) ∗ atPos ER (cell c .bar) 1 ∅ 0 ∗ (bigSep (Finset.univ.erase c) fun p => barPay c p)) ∗ recs m K ∗ ow c 8 0 0 ∗ atPos ER (cell c (.ld 0)) 1 ∅ 0 ∗ mpts c (wqB c) fullShare (m ((c : Thread nD τ).loc main_arg1)))
        ∗ (((c : Thread nD τ).loc cc0_scratch0) ↦{fullShare} wqV m c)) ⊢ Q (k0_pay4 (wqV m c))) :
    iprop((((R ∗ (atPos ER (cell c (.ld 0)) 0 ∅ 0 ∗ cred (tallyAt (cell c (.ld 0)) () NL))) ∗ ((((c : Thread nD τ).loc cc0_stg0_0) ↦{fullShare} xstg m c) ∗ (((c : Thread nD τ).loc cc0_scratch2) ↦{fullShare} fx)) ∗ ((((c : Thread nD τ).loc cc0_stg1_0) ↦{fullShare} kstg m c) ∗ (((c : Thread nD τ).loc cc0_scratch5) ↦{fullShare} fk)) ∗ ((((c : Thread nD τ).loc cc0_stg2_0) ↦{fullShare} vstg m c) ∗ (((c : Thread nD τ).loc cc0_scratch6) ↦{fullShare} fv))) ∗ (atPos ER (cell c .bar) 0 ∅ 0 ∗ cred (tallyAt (cell c .bar) () 7))) ∗ BS m K c 5)
      ⊢ wpc c (k0_part2 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (SemArray.scalar (sig.barrier 0 rfl))) Q := by
  rw [k0_part2_eq_skeleton]
  unfold k0_part2_skel
  refine loop_if (fun x Z h => signal_op m K 5 ((sigC5 c).mp x) (Fin.ext sigT5) h) (fun x => signal_skip m K 5 (not_ne (sigC5 c) x)) ?_
  refine loop_if (fun x Z h => signal_op m K 6 ((sigC6 c).mp x) (Fin.ext sigT6) h) (fun x => signal_skip m K 6 (not_ne (sigC6 c) x)) ?_
  refine loop_if (fun x Z h => signal_op m K 7 ((sigC7 c).mp x) (Fin.ext sigT7) h) (fun x => signal_skip m K 7 (not_ne (sigC7 c) x)) ?_
  unfold BS
  refine rgB0.trans ?_
  refine seq_step (bar_wait m K ?_)
  refine rgB1.trans ?_
  refine rgTS.trans ?_
  refine seq_step (rd_x ?_)
  refine rgT.trans ?_
  refine seq_step (old_xb ?_)
  refine seq_step (new_xb ?_)
  refine rgST.trans ?_
  refine rgX.trans ?_
  refine rgTS.trans ?_
  refine seq_step (rd_k ?_)
  refine rgT.trans ?_
  refine seq_step (old_kb ?_)
  refine seq_step (new_kb ?_)
  refine rgST.trans ?_
  refine rgX.trans ?_
  refine rgTS.trans ?_
  refine seq_step (rd_v ?_)
  refine rgT.trans ?_
  refine seq_step (old_vb ?_)
  refine seq_step (new_vb ?_)
  refine rgST.trans ?_
  refine rgB2.trans ?_
  refine seq_step (copied0 m K ?_)
  refine rgB3.trans ?_
  refine seq_step (rd_wqs ?_)
  exact pure_step h

theorem rgC0 {G R T W X : sProp 𝕄} : iprop(((R ∗ G ∗ T) ∗ W) ∗ X) ⊢ iprop((R ∗ G ∗ T ∗ X) ∗ W) := by
  iintro ⟨⟨⟨HR, ⟨HG, HT⟩⟩, HW⟩, HX⟩
  isplitl [HR HG HT HX]
  · isplitl [HR]
    · iexact HR
    isplitl [HG]
    · iexact HG
    isplitl [HT]
    · iexact HT
    iexact HX
  iexact HW

theorem rgC1 {A B G M O Q R T X : sProp 𝕄} : iprop((R ∗ G ∗ T ∗ X) ∗ Q ∗ O ∗ A ∗ M ∗ B) ⊢ iprop(((R ∗ Q ∗ O ∗ A ∗ B) ∗ T ∗ X) ∗ M ∗ G) := by
  iintro ⟨⟨HR, ⟨HG, ⟨HT, HX⟩⟩⟩, ⟨HQ, ⟨HO, ⟨HA, ⟨HM, HB⟩⟩⟩⟩⟩
  isplitl [HR HQ HO HA HB HT HX]
  · isplitl [HR HQ HO HA HB]
    · isplitl [HR]
      · iexact HR
      isplitl [HQ]
      · iexact HQ
      isplitl [HO]
      · iexact HO
      isplitl [HA]
      · iexact HA
      iexact HB
    isplitl [HT]
    · iexact HT
    iexact HX
  isplitl [HM]
  · iexact HM
  iexact HG

theorem rgC2 {A B G M O Q R T1 T2 T3 T4 X : sProp 𝕄} : iprop(((R ∗ Q ∗ O ∗ A ∗ B) ∗ (T1 ∗ T2 ∗ T3 ∗ T4) ∗ X) ∗ M ∗ G) ⊢ iprop(((R ∗ A ∗ B ∗ M) ∗ Q ∗ O) ∗ T1 ∗ X ∗ T2 ∗ T3 ∗ G ∗ T4) := by
  iintro ⟨⟨⟨HR, ⟨HQ, ⟨HO, ⟨HA, HB⟩⟩⟩⟩, ⟨⟨HT1, ⟨HT2, ⟨HT3, HT4⟩⟩⟩, HX⟩⟩, ⟨HM, HG⟩⟩
  isplitl [HR HA HB HM HQ HO]
  · isplitl [HR HA HB HM]
    · isplitl [HR]
      · iexact HR
      isplitl [HA]
      · iexact HA
      isplitl [HB]
      · iexact HB
      iexact HM
    isplitl [HQ]
    · iexact HQ
    iexact HO
  isplitl [HT1]
  · iexact HT1
  isplitl [HX]
  · iexact HX
  isplitl [HT2]
  · iexact HT2
  isplitl [HT3]
  · iexact HT3
  isplitl [HG]
  · iexact HG
  iexact HT4

theorem ctx_any (r : Fin 4) : iprop(∃ g, (((c : Thread nD τ).loc cc0_scratch7) ↦{fullShare} g)) ⊢ ctxAt m c r 0 := by
  unfold ctxAt
  iintro ⟨%g, H⟩
  iexists g
  isplitr
  · ipureintro; intro x _ hx; omega
  · iexact H

theorem TS_any {R : sProp 𝕄} : iprop(R ∗ (((c : Thread nD τ).loc cc0_scratch2) ↦{fullShare} xbV m c) ∗ (((c : Thread nD τ).loc cc0_scratch3) ↦{fullShare} wqbV m c) ∗ (((c : Thread nD τ).loc cc0_scratch5) ↦{fullShare} kbV m c) ∗ (((c : Thread nD τ).loc cc0_scratch6) ↦{fullShare} vbV m c) ∗ (((c : Thread nD τ).loc cc0_scratch4) ↦{fullShare} wobV m c) ∗ (∃ g, (((c : Thread nD τ).loc cc0_scratch7) ↦{fullShare} g)))
    ⊢ iprop(R ∗ TS m c 0 0) := by
  unfold TS
  iintro ⟨HR, H1, H2, H3, H4, H5, H6⟩
  isplitl [HR]; · iexact HR
  isplitl [H1]; · iexact H1
  isplitl [H2]; · iexact H2
  isplitl [H3]; · iexact H3
  isplitl [H4]; · iexact H4
  isplitl [H5]; · iexact H5
  iapply (ctx_any m 0); iexact H6

theorem part3 {R : sProp 𝕄} {fq : Buf (Elt F) ((c : Thread nD τ).loc cc0_scratch3)} {fo : Buf (Elt F) ((c : Thread nD τ).loc cc0_scratch4)}
    {Q : (Σ' (v72 : BitVec 32) (v75 : BitVec 32) (v77 : BitVec 32) (v81 : FVec F S256x1024 .f32) (v94 : IVec S256x512 1) (v95 : BitVec 32), FVec F S256x128 .bf16) → sProp 𝕄}
    (h : ∀ a b d, iprop(((R ∗ atPos ER (cell c (.ld 1)) 1 ∅ 0 ∗ mpts c (woB c) fullShare (m ((c : Thread nD τ).loc main_arg4)) ∗ (((c : Thread nD τ).loc cc0_scratch1) ↦{fullShare} woV m c)) ∗ recs m K ∗ ow c 8 0 0) ∗ TS m c 0 0)
      ⊢ Q ⟨Scalar.divsi (word2 c) 2#32, a, b, qV m c 0, maskV c 0#32, d, k0_pay9 (xT m c 0) (wqbV m c)⟩) :
    iprop(((R ∗ (((c : Thread nD τ).loc cc0_scratch4) ↦{fullShare} fo) ∗ ((((c : Thread nD τ).loc cc0_scratch2) ↦{fullShare} xbV m c) ∗ (((c : Thread nD τ).loc cc0_scratch5) ↦{fullShare} kbV m c) ∗ (((c : Thread nD τ).loc cc0_scratch6) ↦{fullShare} vbV m c) ∗ (∃ g, (((c : Thread nD τ).loc cc0_scratch7) ↦{fullShare} g)))) ∗ recs m K ∗ ow c 8 0 0 ∗ (atPos ER (cell c (.ld 1)) 0 ∅ 0 ∗ cred (tallyAt (cell c (.ld 1)) () NL))) ∗ (((c : Thread nD τ).loc cc0_scratch3) ↦{fullShare} fq))
      ⊢ wpc c (k0_part3 xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16 c (word2 c) (k0_pay4 (wqV m c))) Q := by
  rw [k0_part3_eq_skeleton]
  unfold k0_part3_skel
  refine seq_step (old_wqb ?_)
  refine seq_step (new_wqb ?_)
  refine rgC0.trans ?_
  refine seq_step (copied1 m K ?_)
  refine rgC1.trans ?_
  refine rgTS.trans ?_
  refine seq_step (rd_wos ?_)
  refine rgT.trans ?_
  refine seq_step (old_wob ?_)
  refine seq_step (new_wob ?_)
  refine rgST.trans ?_
  refine rgC2.trans ?_
  refine (TS_any m).trans ?_
  refine seq_step (ld_x m (r := 0) (twin c 0) 0 0 ?_)
  refine seq_step (ld_wq m 0 0 ?_)
  exact pure_step (h _ _ _)

end Cert.KernelRun
-- ==== Proof.Body.lean ====
/-
  The kernel's parts one after another: from a device's buffers, positions, tokens and credits to its result.
-/
module

public import proofs.«01_k».proof.Proof.Head

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

attribute [local irreducible] Scalar.cmpi k0_cond1 k0_cond2 k0_cond3 k0_cond4 k0_cond5 k0_cond6 k0_cond7 k0_cond8 k0_cond9 k0_cond10 k0_cond11 k0_cond12 k0_cond13 k0_cond14 k0_cond15 k0_cond16 k0_cond25 k0_cond26 k0_cond27 k0_cond28 k0_cond29 k0_cond30 k0_cond31 k0_cond32 k0_cond33 k0_cond34 k0_cond35 k0_cond36 k0_cond37 k0_cond38 k0_cond39 k0_cond40 k0_cond49 k0_cond50 k0_cond51 k0_cond52 k0_cond53 k0_cond54 k0_cond55 k0_cond56

/-! ## After the ready signals: the peers' slabs with the tokens -/

/-- The tokens of one send, and those of one broadcast. -/
def sndT (c i : Dev nD) : sProp 𝕄 := if tgt c i = c then iprop(emp) else
  iprop(dutyTok ER (cell c (.snd i)) 0 c ∗ dutyTok ER (cell (tgt c i) (.rcv c)) 0 c)
def bcT0 (c q : Dev nD) : sProp 𝕄 := if q = c then iprop(emp) else
  iprop(dutyTok ER (cell c (.bsnd q)) 0 c ∗ dutyTok ER (cell q (.brcv c)) 0 c)
def payR (c p : Dev nD) : sProp 𝕄 := if p = c then iprop(emp) else iprop(∃ f, mpts p (slabR c) fullShare f)
def payB (c p : Dev nD) : sProp 𝕄 := if p = c then iprop(emp) else iprop(∃ f, mpts p (slabB c) fullShare f)

theorem pay_split : (bigSep (Finset.univ.erase c) fun p => barPay (F := F) c p) ⊢ iprop(bigSep Finset.univ (payR c) ∗ bigSep Finset.univ (payB c)) := by
  have h : (bigSep (Finset.univ.erase c) fun p => barPay (F := F) c p) ⊢ (bigSep Finset.univ fun p : Dev nD => if p = c then iprop(emp) else barPay (F := F) c p : sProp 𝕄) := by
    rw [erase_at c, if_pos rfl]
    rw [BI.bigSep_congr (s := Finset.univ.erase c) (Ψ := fun p => barPay (F := F) c p) fun p hp => if_neg (Finset.ne_of_mem_erase hp)]
    iintro H
    isplitr
    · iempintro
    · iexact H
  refine BIBase.Entails.trans h ?_
  refine unzip fun p => ?_
  by_cases hp : p = c
  · unfold payR payB; rw [if_pos hp, if_pos hp, if_pos hp]
    iintro -; isplitl <;> iempintro
  · unfold payR payB barPay; rw [if_neg hp, if_neg hp, if_neg hp]

theorem tgt_bij (c : Dev nD) : Function.Bijective (tgt c) := (tgt_injective c).bijective_of_finite

theorem by_tgt (A : Dev nD → sProp 𝕄) : bigSep Finset.univ A = bigSep Finset.univ fun i => A (tgt c i) :=
  BI.bigSep_univ_equiv (Equiv.ofBijective _ (tgt_bij c)) A

theorem mk_snd : iprop(bigSep Finset.univ (sndT c) ∗ bigSep Finset.univ (payR c)) ⊢ (bigSep Finset.univ (sndA c) : sProp 𝕄) := by
  rw [by_tgt (c := c) (payR c)]
  have key : ∀ i : Dev nD, iprop(sndT c i ∗ payR c (tgt c i)) ⊢ (sndA c i : sProp 𝕄) := by
    intro i
    unfold sndT payR sndA
    by_cases hp : tgt c i = c
    · rw [if_pos hp, if_pos hp, if_pos hp]; iintro -; iempintro
    · rw [if_neg hp, if_neg hp, if_neg hp]
      iintro ⟨⟨H1, H2⟩, H3⟩
      isplitl [H1]; · iexact H1
      isplitl [H2]; · iexact H2
      iexact H3
  exact zip.trans (BI.bigSep_mono fun i _ => key i)

theorem mk_bc : iprop(bigSep Finset.univ (bcT0 c) ∗ bigSep Finset.univ (payB c)) ⊢ (bigSep Finset.univ (bcT c) : sProp 𝕄) := by
  have key : ∀ i : Dev nD, iprop(bcT0 c i ∗ payB c i) ⊢ (bcT c i : sProp 𝕄) := by
    intro i
    unfold bcT0 payB bcT
    by_cases hp : i = c
    · rw [if_pos hp, if_pos hp, if_pos hp]; iintro -; iempintro
    · rw [if_neg hp, if_neg hp, if_neg hp]
      iintro ⟨⟨H1, H2⟩, H3⟩
      isplitl [H1]; · iexact H1
      isplitl [H2]; · iexact H2
      iexact H3
  exact zip.trans (BI.bigSep_mono fun i _ => key i)

theorem PS_zero : PS c 0 = Finset.univ := Finset.filter_true_of_mem fun _ _ => Nat.zero_le _

theorem prep {R T : sProp 𝕄} {g : Buf (Elt F) ((c : Thread nD τ).loc cc0_scratch8)} :
    iprop((((R ∗ recs m K ∗ ow c 8 0 0) ∗ (bigSep Finset.univ (sndT c) ∗ bigSep Finset.univ (bcT0 c) ∗ bigSep (Finset.univ.erase c) fun p => barPay c p)) ∗ T)
      ∗ (((c : Thread nD τ).loc cc0_scratch8) ↦{fullShare} g)) ⊢ iprop(((R ∗ bigSep Finset.univ (bcT c)) ∗ SS m K c 0 0) ∗ T) := by
  refine BIBase.Entails.trans ?_ (SS_intro m K g (fun x hx => absurd hx (Nat.not_lt_zero _)))
  rw [PS_zero, loop_zero]
  iintro ⟨⟨⟨⟨HR, HC, HO⟩, HS, HB, HP⟩, HT⟩, HG⟩
  icases pay_split $$ HP with ⟨H1, H2⟩
  isplitr [HG]
  · isplitr [HT]
    · isplitl [HR HB H2]
      · isplitl [HR]; · iexact HR
        iapply mk_bc
        isplitl [HB] <;> iassumption
      isplitl [HC]; · iexact HC
      isplitl [HO]; · iexact HO
      iapply mk_snd
      isplitl [HS] <;> iassumption
    · iexact HT
  · iexact HG

/-! ## The parts in order -/

theorem rs1 {A0 A1 B5 BN BR BSM BT C0 C1 CB CT KB KK OM PM RA SB SN SR ST V VB WOB WQB X XB ZB : sProp 𝕄} : iprop(((A0 ∗ A1 ∗ ZB ∗ CB ∗ X ∗ XB ∗ KK ∗ KB ∗ V ∗ VB ∗ WQB ∗ WOB ∗ CT ∗ PM ∗ BSM ∗ OM ∗ RA ∗ SN ∗ BN ∗ BR ∗ ST ∗ BT ∗ SR ∗ SB) ∗ C0 ∗ C1) ∗ B5) ⊢ iprop(((((A1 ∗ C1 ∗ WQB ∗ WOB ∗ CT ∗ PM ∗ BSM ∗ OM ∗ RA ∗ SN ∗ BN ∗ BR ∗ ST ∗ BT ∗ SR ∗ SB) ∗ (A0 ∗ C0)) ∗ (X ∗ XB) ∗ (KK ∗ KB) ∗ (V ∗ VB)) ∗ (ZB ∗ CB)) ∗ B5) := by
  iintro ⟨⟨⟨HA0, ⟨HA1, ⟨HZB, ⟨HCB, ⟨HX, ⟨HXB, ⟨HKK, ⟨HKB, ⟨HV, ⟨HVB, ⟨HWQB, ⟨HWOB, ⟨HCT, ⟨HPM, ⟨HBSM, ⟨HOM, ⟨HRA, ⟨HSN, ⟨HBN, ⟨HBR, ⟨HST, ⟨HBT, ⟨HSR, HSB⟩⟩⟩⟩⟩⟩⟩⟩⟩⟩⟩⟩⟩⟩⟩⟩⟩⟩⟩⟩⟩⟩⟩, ⟨HC0, HC1⟩⟩, HB5⟩
  isplitl [HA1 HC1 HWQB HWOB HCT HPM HBSM HOM HRA HSN HBN HBR HST HBT HSR HSB HA0 HC0 HX HXB HKK HKB HV HVB HZB HCB]
  · isplitl [HA1 HC1 HWQB HWOB HCT HPM HBSM HOM HRA HSN HBN HBR HST HBT HSR HSB HA0 HC0 HX HXB HKK HKB HV HVB]
    · isplitl [HA1 HC1 HWQB HWOB HCT HPM HBSM HOM HRA HSN HBN HBR HST HBT HSR HSB HA0 HC0]
      · isplitl [HA1 HC1 HWQB HWOB HCT HPM HBSM HOM HRA HSN HBN HBR HST HBT HSR HSB]
        · isplitl [HA1]
          · iexact HA1
          isplitl [HC1]
          · iexact HC1
          isplitl [HWQB]
          · iexact HWQB
          isplitl [HWOB]
          · iexact HWOB
          isplitl [HCT]
          · iexact HCT
          isplitl [HPM]
          · iexact HPM
          isplitl [HBSM]
          · iexact HBSM
          isplitl [HOM]
          · iexact HOM
          isplitl [HRA]
          · iexact HRA
          isplitl [HSN]
          · iexact HSN
          isplitl [HBN]
          · iexact HBN
          isplitl [HBR]
          · iexact HBR
          isplitl [HST]
          · iexact HST
          isplitl [HBT]
          · iexact HBT
          isplitl [HSR]
          · iexact HSR
          iexact HSB
        isplitl [HA0]
        · iexact HA0
        iexact HC0
      isplitl [HX HXB]
      · isplitl [HX]
        · iexact HX
        iexact HXB
      isplitl [HKK HKB]
      · isplitl [HKK]
        · iexact HKK
        iexact HKB
      isplitl [HV]
      · iexact HV
      iexact HVB
    isplitl [HZB]
    · iexact HZB
    iexact HCB
  iexact HB5

theorem rs2 {A0 A1 BN BR BSM BT C1 CT KB KK OM OW PAY PM RA RC SB SN SR ST V VB WM WOB WQ1 WQB X XB ZB : sProp 𝕄} : iprop((((A1 ∗ C1 ∗ WQB ∗ WOB ∗ CT ∗ PM ∗ BSM ∗ OM ∗ RA ∗ SN ∗ BN ∗ BR ∗ ST ∗ BT ∗ SR ∗ SB) ∗ ((X ∗ XB) ∗ (KK ∗ KB) ∗ (V ∗ VB)) ∗ ZB ∗ PAY) ∗ RC ∗ OW ∗ A0 ∗ WQ1) ∗ WM) ⊢ iprop((((X ∗ KK ∗ V ∗ ZB ∗ PAY ∗ A0 ∗ WQ1 ∗ WM ∗ PM ∗ BSM ∗ OM ∗ RA ∗ SN ∗ BN ∗ BR ∗ ST ∗ BT ∗ SR ∗ SB) ∗ WOB ∗ (XB ∗ KB ∗ VB ∗ CT)) ∗ RC ∗ OW ∗ (A1 ∗ C1)) ∗ WQB) := by
  iintro ⟨⟨⟨⟨HA1, ⟨HC1, ⟨HWQB, ⟨HWOB, ⟨HCT, ⟨HPM, ⟨HBSM, ⟨HOM, ⟨HRA, ⟨HSN, ⟨HBN, ⟨HBR, ⟨HST, ⟨HBT, ⟨HSR, HSB⟩⟩⟩⟩⟩⟩⟩⟩⟩⟩⟩⟩⟩⟩⟩, ⟨⟨⟨HX, HXB⟩, ⟨⟨HKK, HKB⟩, ⟨HV, HVB⟩⟩⟩, ⟨HZB, HPAY⟩⟩⟩, ⟨HRC, ⟨HOW, ⟨HA0, HWQ1⟩⟩⟩⟩, HWM⟩
  isplitl [HX HKK HV HZB HPAY HA0 HWQ1 HWM HPM HBSM HOM HRA HSN HBN HBR HST HBT HSR HSB HWOB HXB HKB HVB HCT HRC HOW HA1 HC1]
  · isplitl [HX HKK HV HZB HPAY HA0 HWQ1 HWM HPM HBSM HOM HRA HSN HBN HBR HST HBT HSR HSB HWOB HXB HKB HVB HCT]
    · isplitl [HX HKK HV HZB HPAY HA0 HWQ1 HWM HPM HBSM HOM HRA HSN HBN HBR HST HBT HSR HSB]
      · isplitl [HX]
        · iexact HX
        isplitl [HKK]
        · iexact HKK
        isplitl [HV]
        · iexact HV
        isplitl [HZB]
        · iexact HZB
        isplitl [HPAY]
        · iexact HPAY
        isplitl [HA0]
        · iexact HA0
        isplitl [HWQ1]
        · iexact HWQ1
        isplitl [HWM]
        · iexact HWM
        isplitl [HPM]
        · iexact HPM
        isplitl [HBSM]
        · iexact HBSM
        isplitl [HOM]
        · iexact HOM
        isplitl [HRA]
        · iexact HRA
        isplitl [HSN]
        · iexact HSN
        isplitl [HBN]
        · iexact HBN
        isplitl [HBR]
        · iexact HBR
        isplitl [HST]
        · iexact HST
        isplitl [HBT]
        · iexact HBT
        isplitl [HSR]
        · iexact HSR
        iexact HSB
      isplitl [HWOB]
      · iexact HWOB
      isplitl [HXB]
      · iexact HXB
      isplitl [HKB]
      · iexact HKB
      isplitl [HVB]
      · iexact HVB
      iexact HCT
    isplitl [HRC]
    · iexact HRC
    isplitl [HOW]
    · iexact HOW
    isplitl [HA1]
    · iexact HA1
    iexact HC1
  iexact HWQB

theorem rs3 {A0 A1 BN BR BSM BT KK OM OW PAY PM RA RC SB SN SR ST TS V WM WO1 WOM WQ1 X ZB : sProp 𝕄} : iprop((((X ∗ KK ∗ V ∗ ZB ∗ PAY ∗ A0 ∗ WQ1 ∗ WM ∗ PM ∗ BSM ∗ OM ∗ RA ∗ SN ∗ BN ∗ BR ∗ ST ∗ BT ∗ SR ∗ SB) ∗ A1 ∗ WO1 ∗ WOM) ∗ RC ∗ OW) ∗ TS) ⊢ iprop((((((X ∗ KK ∗ V ∗ ZB ∗ A0 ∗ A1 ∗ WQ1 ∗ WO1 ∗ WM ∗ WOM) ∗ BSM ∗ OM ∗ RA ∗ SN ∗ BN ∗ BR ∗ SR ∗ SB) ∗ RC ∗ OW) ∗ (ST ∗ BT ∗ PAY)) ∗ TS) ∗ PM) := by
  iintro ⟨⟨⟨⟨HX, ⟨HKK, ⟨HV, ⟨HZB, ⟨HPAY, ⟨HA0, ⟨HWQ1, ⟨HWM, ⟨HPM, ⟨HBSM, ⟨HOM, ⟨HRA, ⟨HSN, ⟨HBN, ⟨HBR, ⟨HST, ⟨HBT, ⟨HSR, HSB⟩⟩⟩⟩⟩⟩⟩⟩⟩⟩⟩⟩⟩⟩⟩⟩⟩⟩, ⟨HA1, ⟨HWO1, HWOM⟩⟩⟩, ⟨HRC, HOW⟩⟩, HTS⟩
  isplitl [HX HKK HV HZB HA0 HA1 HWQ1 HWO1 HWM HWOM HBSM HOM HRA HSN HBN HBR HSR HSB HRC HOW HST HBT HPAY HTS]
  · isplitl [HX HKK HV HZB HA0 HA1 HWQ1 HWO1 HWM HWOM HBSM HOM HRA HSN HBN HBR HSR HSB HRC HOW HST HBT HPAY]
    · isplitl [HX HKK HV HZB HA0 HA1 HWQ1 HWO1 HWM HWOM HBSM HOM HRA HSN HBN HBR HSR HSB HRC HOW]
      · isplitl [HX HKK HV HZB HA0 HA1 HWQ1 HWO1 HWM HWOM HBSM HOM HRA HSN HBN HBR HSR HSB]
        · isplitl [HX HKK HV HZB HA0 HA1 HWQ1 HWO1 HWM HWOM]
          · isplitl [HX]
            · iexact HX
            isplitl [HKK]
            · iexact HKK
            isplitl [HV]
            · iexact HV
            isplitl [HZB]
            · iexact HZB
            isplitl [HA0]
            · iexact HA0
            isplitl [HA1]
            · iexact HA1
            isplitl [HWQ1]
            · iexact HWQ1
            isplitl [HWO1]
            · iexact HWO1
            isplitl [HWM]
            · iexact HWM
            iexact HWOM
          isplitl [HBSM]
          · iexact HBSM
          isplitl [HOM]
          · iexact HOM
          isplitl [HRA]
          · iexact HRA
          isplitl [HSN]
          · iexact HSN
          isplitl [HBN]
          · iexact HBN
          isplitl [HBR]
          · iexact HBR
          isplitl [HSR]
          · iexact HSR
          iexact HSB
        isplitl [HRC]
        · iexact HRC
        iexact HOW
      isplitl [HST]
      · iexact HST
      isplitl [HBT]
      · iexact HBT
      iexact HPAY
    iexact HTS
  iexact HPM

theorem rs4 {A0 A1 BCT BN BR BSM KK OM RA SB SN SR SS TS V WM WO1 WOM WQ1 X ZB : sProp 𝕄} : iprop(((((X ∗ KK ∗ V ∗ ZB ∗ A0 ∗ A1 ∗ WQ1 ∗ WO1 ∗ WM ∗ WOM) ∗ BSM ∗ OM ∗ RA ∗ SN ∗ BN ∗ BR ∗ SR ∗ SB) ∗ BCT) ∗ SS) ∗ TS) ⊢ iprop(((((((X ∗ KK ∗ V ∗ ZB ∗ A0 ∗ A1 ∗ WQ1 ∗ WO1 ∗ WM ∗ WOM) ∗ BCT ∗ BSM ∗ OM ∗ BN ∗ BR ∗ SB) ∗ SR) ∗ SN) ∗ RA) ∗ SS) ∗ TS) := by
  iintro ⟨⟨⟨⟨⟨HX, ⟨HKK, ⟨HV, ⟨HZB, ⟨HA0, ⟨HA1, ⟨HWQ1, ⟨HWO1, ⟨HWM, HWOM⟩⟩⟩⟩⟩⟩⟩⟩⟩, ⟨HBSM, ⟨HOM, ⟨HRA, ⟨HSN, ⟨HBN, ⟨HBR, ⟨HSR, HSB⟩⟩⟩⟩⟩⟩⟩⟩, HBCT⟩, HSS⟩, HTS⟩
  isplitl [HX HKK HV HZB HA0 HA1 HWQ1 HWO1 HWM HWOM HBCT HBSM HOM HBN HBR HSB HSR HSN HRA HSS]
  · isplitl [HX HKK HV HZB HA0 HA1 HWQ1 HWO1 HWM HWOM HBCT HBSM HOM HBN HBR HSB HSR HSN HRA]
    · isplitl [HX HKK HV HZB HA0 HA1 HWQ1 HWO1 HWM HWOM HBCT HBSM HOM HBN HBR HSB HSR HSN]
      · isplitl [HX HKK HV HZB HA0 HA1 HWQ1 HWO1 HWM HWOM HBCT HBSM HOM HBN HBR HSB HSR]
        · isplitl [HX HKK HV HZB HA0 HA1 HWQ1 HWO1 HWM HWOM HBCT HBSM HOM HBN HBR HSB]
          · isplitl [HX HKK HV HZB HA0 HA1 HWQ1 HWO1 HWM HWOM]
            · isplitl [HX]
              · iexact HX
              isplitl [HKK]
              · iexact HKK
              isplitl [HV]
              · iexact HV
              isplitl [HZB]
              · iexact HZB
              isplitl [HA0]
              · iexact HA0
              isplitl [HA1]
              · iexact HA1
              isplitl [HWQ1]
              · iexact HWQ1
              isplitl [HWO1]
              · iexact HWO1
              isplitl [HWM]
              · iexact HWM
              iexact HWOM
            isplitl [HBCT]
            · iexact HBCT
            isplitl [HBSM]
            · iexact HBSM
            isplitl [HOM]
            · iexact HOM
            isplitl [HBN]
            · iexact HBN
            isplitl [HBR]
            · iexact HBR
            iexact HSB
          iexact HSR
        iexact HSN
      iexact HRA
    iexact HSS
  iexact HTS

theorem rs5 {A0 A1 BCT BN BR BSM KK LR LS OM SB SR TS V WM WO1 WOM WQ1 X ZB : sProp 𝕄} : iprop(((((X ∗ KK ∗ V ∗ ZB ∗ A0 ∗ A1 ∗ WQ1 ∗ WO1 ∗ WM ∗ WOM) ∗ BCT ∗ BSM ∗ OM ∗ BN ∗ BR ∗ SB) ∗ SR) ∗ TS ∗ LR) ∗ LS) ⊢ iprop((((((X ∗ KK ∗ V ∗ ZB ∗ A0 ∗ A1 ∗ WQ1 ∗ WO1 ∗ WM ∗ WOM) ∗ BCT ∗ BSM ∗ OM ∗ BN ∗ BR ∗ SB) ∗ TS) ∗ SR) ∗ LR) ∗ LS) := by
  iintro ⟨⟨⟨⟨⟨HX, ⟨HKK, ⟨HV, ⟨HZB, ⟨HA0, ⟨HA1, ⟨HWQ1, ⟨HWO1, ⟨HWM, HWOM⟩⟩⟩⟩⟩⟩⟩⟩⟩, ⟨HBCT, ⟨HBSM, ⟨HOM, ⟨HBN, ⟨HBR, HSB⟩⟩⟩⟩⟩⟩, HSR⟩, ⟨HTS, HLR⟩⟩, HLS⟩
  isplitl [HX HKK HV HZB HA0 HA1 HWQ1 HWO1 HWM HWOM HBCT HBSM HOM HBN HBR HSB HTS HSR HLR]
  · isplitl [HX HKK HV HZB HA0 HA1 HWQ1 HWO1 HWM HWOM HBCT HBSM HOM HBN HBR HSB HTS HSR]
    · isplitl [HX HKK HV HZB HA0 HA1 HWQ1 HWO1 HWM HWOM HBCT HBSM HOM HBN HBR HSB HTS]
      · isplitl [HX HKK HV HZB HA0 HA1 HWQ1 HWO1 HWM HWOM HBCT HBSM HOM HBN HBR HSB]
        · isplitl [HX HKK HV HZB HA0 HA1 HWQ1 HWO1 HWM HWOM]
          · isplitl [HX]
            · iexact HX
            isplitl [HKK]
            · iexact HKK
            isplitl [HV]
            · iexact HV
            isplitl [HZB]
            · iexact HZB
            isplitl [HA0]
            · iexact HA0
            isplitl [HA1]
            · iexact HA1
            isplitl [HWQ1]
            · iexact HWQ1
            isplitl [HWO1]
            · iexact HWO1
            isplitl [HWM]
            · iexact HWM
            iexact HWOM
          isplitl [HBCT]
          · iexact HBCT
          isplitl [HBSM]
          · iexact HBSM
          isplitl [HOM]
          · iexact HOM
          isplitl [HBN]
          · iexact HBN
          isplitl [HBR]
          · iexact HBR
          iexact HSB
        iexact HTS
      iexact HSR
    iexact HLR
  iexact HLS

theorem rs6 {A0 A1 BCT BN BR BSM KK OM OW PM RC RS SB SHR SHS TS V WM WO1 WOM WQ1 X ZB : sProp 𝕄} : iprop(((((((X ∗ KK ∗ V ∗ ZB ∗ A0 ∗ A1 ∗ WQ1 ∗ WO1 ∗ WM ∗ WOM) ∗ BCT ∗ BSM ∗ OM ∗ BN ∗ BR ∗ SB) ∗ TS) ∗ SHR ∗ SHS) ∗ RC ∗ OW) ∗ PM) ∗ RS) ⊢ iprop(((((((X ∗ KK ∗ V ∗ ZB ∗ A0 ∗ A1 ∗ WQ1 ∗ WO1 ∗ WM ∗ WOM) ∗ TS ∗ SHR ∗ SHS ∗ PM ∗ BN ∗ BR ∗ SB) ∗ (RC ∗ OW) ∗ BCT)) ∗ BSM) ∗ OM) ∗ RS) := by
  iintro ⟨⟨⟨⟨⟨⟨⟨HX, ⟨HKK, ⟨HV, ⟨HZB, ⟨HA0, ⟨HA1, ⟨HWQ1, ⟨HWO1, ⟨HWM, HWOM⟩⟩⟩⟩⟩⟩⟩⟩⟩, ⟨HBCT, ⟨HBSM, ⟨HOM, ⟨HBN, ⟨HBR, HSB⟩⟩⟩⟩⟩⟩, HTS⟩, ⟨HSHR, HSHS⟩⟩, ⟨HRC, HOW⟩⟩, HPM⟩, HRS⟩
  isplitl [HX HKK HV HZB HA0 HA1 HWQ1 HWO1 HWM HWOM HTS HSHR HSHS HPM HBN HBR HSB HRC HOW HBCT HBSM HOM]
  · isplitl [HX HKK HV HZB HA0 HA1 HWQ1 HWO1 HWM HWOM HTS HSHR HSHS HPM HBN HBR HSB HRC HOW HBCT HBSM]
    · isplitl [HX HKK HV HZB HA0 HA1 HWQ1 HWO1 HWM HWOM HTS HSHR HSHS HPM HBN HBR HSB HRC HOW HBCT]
      · isplitl [HX HKK HV HZB HA0 HA1 HWQ1 HWO1 HWM HWOM HTS HSHR HSHS HPM HBN HBR HSB]
        · isplitl [HX HKK HV HZB HA0 HA1 HWQ1 HWO1 HWM HWOM]
          · isplitl [HX]
            · iexact HX
            isplitl [HKK]
            · iexact HKK
            isplitl [HV]
            · iexact HV
            isplitl [HZB]
            · iexact HZB
            isplitl [HA0]
            · iexact HA0
            isplitl [HA1]
            · iexact HA1
            isplitl [HWQ1]
            · iexact HWQ1
            isplitl [HWO1]
            · iexact HWO1
            isplitl [HWM]
            · iexact HWM
            iexact HWOM
          isplitl [HTS]
          · iexact HTS
          isplitl [HSHR]
          · iexact HSHR
          isplitl [HSHS]
          · iexact HSHS
          isplitl [HPM]
          · iexact HPM
          isplitl [HBN]
          · iexact HBN
          isplitl [HBR]
          · iexact HBR
          iexact HSB
        isplitl [HRC HOW]
        · isplitl [HRC]
          · iexact HRC
          iexact HOW
        iexact HBCT
      iexact HBSM
    iexact HOM
  iexact HRS

theorem rs7 {A0 A1 BN BR KK LS OA PM RS SB SHR SHS TS V WM WO1 WOM WQ1 X ZB : sProp 𝕄} : iprop((((X ∗ KK ∗ V ∗ ZB ∗ A0 ∗ A1 ∗ WQ1 ∗ WO1 ∗ WM ∗ WOM) ∗ TS ∗ SHR ∗ SHS ∗ PM ∗ BN ∗ BR ∗ SB) ∗ RS ∗ OA) ∗ LS) ⊢ iprop(((((((X ∗ KK ∗ V ∗ ZB ∗ A0 ∗ A1 ∗ WQ1 ∗ WO1 ∗ WM ∗ WOM) ∗ TS ∗ SHR ∗ SHS ∗ PM ∗ RS) ∗ SB) ∗ BN) ∗ BR) ∗ OA) ∗ LS) := by
  iintro ⟨⟨⟨⟨HX, ⟨HKK, ⟨HV, ⟨HZB, ⟨HA0, ⟨HA1, ⟨HWQ1, ⟨HWO1, ⟨HWM, HWOM⟩⟩⟩⟩⟩⟩⟩⟩⟩, ⟨HTS, ⟨HSHR, ⟨HSHS, ⟨HPM, ⟨HBN, ⟨HBR, HSB⟩⟩⟩⟩⟩⟩⟩, ⟨HRS, HOA⟩⟩, HLS⟩
  isplitl [HX HKK HV HZB HA0 HA1 HWQ1 HWO1 HWM HWOM HTS HSHR HSHS HPM HRS HSB HBN HBR HOA]
  · isplitl [HX HKK HV HZB HA0 HA1 HWQ1 HWO1 HWM HWOM HTS HSHR HSHS HPM HRS HSB HBN HBR]
    · isplitl [HX HKK HV HZB HA0 HA1 HWQ1 HWO1 HWM HWOM HTS HSHR HSHS HPM HRS HSB HBN]
      · isplitl [HX HKK HV HZB HA0 HA1 HWQ1 HWO1 HWM HWOM HTS HSHR HSHS HPM HRS HSB]
        · isplitl [HX HKK HV HZB HA0 HA1 HWQ1 HWO1 HWM HWOM HTS HSHR HSHS HPM HRS]
          · isplitl [HX HKK HV HZB HA0 HA1 HWQ1 HWO1 HWM HWOM]
            · isplitl [HX]
              · iexact HX
              isplitl [HKK]
              · iexact HKK
              isplitl [HV]
              · iexact HV
              isplitl [HZB]
              · iexact HZB
              isplitl [HA0]
              · iexact HA0
              isplitl [HA1]
              · iexact HA1
              isplitl [HWQ1]
              · iexact HWQ1
              isplitl [HWO1]
              · iexact HWO1
              isplitl [HWM]
              · iexact HWM
              iexact HWOM
            isplitl [HTS]
            · iexact HTS
            isplitl [HSHR]
            · iexact HSHR
            isplitl [HSHS]
            · iexact HSHS
            isplitl [HPM]
            · iexact HPM
            iexact HRS
          iexact HSB
        iexact HBN
      iexact HBR
    iexact HOA
  iexact HLS

/-- The whole kernel. -/
theorem whole {fo : Buf (Elt F) ((c : Thread nD τ).loc cc0_stg3_0)} {f2 : Buf (Elt F) ((c : Thread nD τ).loc cc0_scratch2)} {f3 : Buf (Elt F) ((c : Thread nD τ).loc cc0_scratch3)} {f4 : Buf (Elt F) ((c : Thread nD τ).loc cc0_scratch4)} {f5 : Buf (Elt F) ((c : Thread nD τ).loc cc0_scratch5)} {f6 : Buf (Elt F) ((c : Thread nD τ).loc cc0_scratch6)} {f8 : Buf (Elt F) ((c : Thread nD τ).loc cc0_scratch8)} {f9 : Buf (Elt F) ((c : Thread nD τ).loc cc0_scratch9)} {Q : PUnit.{1} → sProp 𝕄}
    (h : iprop((((((c : Thread nD τ).loc cc0_stg0_0) ↦{fullShare} xstg m c) ∗ (((c : Thread nD τ).loc cc0_stg1_0) ↦{fullShare} kstg m c) ∗ (((c : Thread nD τ).loc cc0_stg2_0) ↦{fullShare} vstg m c) ∗ atPos ER (cell c .bar) 1 ∅ 0 ∗ atPos ER (cell c (.ld 0)) 1 ∅ 0 ∗ atPos ER (cell c (.ld 1)) 1 ∅ 0 ∗ mpts c (wqB c) fullShare (m ((c : Thread nD τ).loc main_arg1)) ∗ mpts c (woB c) fullShare (m ((c : Thread nD τ).loc main_arg4)) ∗ (((c : Thread nD τ).loc cc0_scratch0) ↦{fullShare} wqV m c) ∗ (((c : Thread nD τ).loc cc0_scratch1) ↦{fullShare} woV m c)) ∗ TS m c 3 8 ∗ (bigSep Finset.univ fun p => shut m c (.rcv p)) ∗ (bigSep Finset.univ fun i => shut m c (.snd i)) ∗ (((c : Thread nD τ).loc cc0_scratch8) ↦{fullShare} pV m c) ∗ (∃ g, (((c : Thread nD τ).loc cc0_scratch10) ↦{fullShare} g)))
        ∗ recs m K ∗ ow c 8 8 8 ∗ (bigSep Finset.univ fun p => shut m c (.brcv p)) ∗ (bigSep Finset.univ fun q => shut m c (.bsnd q))
        ∗ (∃ g, (((c : Thread nD τ).loc cc0_scratch11) ↦{fullShare} g)) ∗ (((c : Thread nD τ).loc cc0_scratch9) ↦{fullShare} red16 m c) ∗ (((c : Thread nD τ).loc cc0_stg3_0) ↦{fullShare} outV m c)) ⊢ Q ⟨⟩) :
    iprop(((atPos ER (cell c (.ld 0)) 0 ∅ 0 ∗ atPos ER (cell c (.ld 1)) 0 ∅ 0 ∗ atPos ER (cell c .bar) 0 ∅ 0 ∗ cred (tallyAt (cell c .bar) () 7) ∗ (((c : Thread nD τ).loc cc0_stg0_0) ↦{fullShare} xstg m c) ∗ (((c : Thread nD τ).loc cc0_scratch2) ↦{fullShare} f2) ∗ (((c : Thread nD τ).loc cc0_stg1_0) ↦{fullShare} kstg m c) ∗ (((c : Thread nD τ).loc cc0_scratch5) ↦{fullShare} f5) ∗ (((c : Thread nD τ).loc cc0_stg2_0) ↦{fullShare} vstg m c) ∗ (((c : Thread nD τ).loc cc0_scratch6) ↦{fullShare} f6) ∗ (((c : Thread nD τ).loc cc0_scratch3) ↦{fullShare} f3) ∗ (((c : Thread nD τ).loc cc0_scratch4) ↦{fullShare} f4) ∗ (∃ g, (((c : Thread nD τ).loc cc0_scratch7) ↦{fullShare} g)) ∗ (((c : Thread nD τ).loc cc0_scratch8) ↦{fullShare} f8) ∗ (((c : Thread nD τ).loc cc0_scratch9) ↦{fullShare} f9) ∗ (((c : Thread nD τ).loc cc0_stg3_0) ↦{fullShare} fo) ∗ loop 0 (rcvA c) (rcvB m c) ∗ (bigSep Finset.univ fun i => atPos ER (cell c (.snd i)) 0 ∅ 0) ∗ (bigSep Finset.univ fun q => atPos ER (cell c (.bsnd q)) 0 ∅ 0) ∗ bigSep Finset.univ (brA c) ∗ bigSep Finset.univ (sndT c) ∗ bigSep Finset.univ (bcT0 c) ∗ (∃ f, mpts c (slabR c) fullShare f) ∗ (∃ f, mpts c (slabB c) fullShare f)) ∗ ldA0 m c ∗ ldA1 m c) ∗ BS m K c 0)
      ⊢ wpc c (cc0__body xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) Q := by
  rw [cc0__body_eq_skeleton]
  unfold cc0__body_skel
  refine seq_step (part1 m K ?_)
  refine rs1.trans ?_
  refine seq_step (part2 m K ?_)
  refine rs2.trans ?_
  refine seq_step (part3 m K fun a b d => ?_)
  refine rs3.trans ?_
  refine (prep m K).trans ?_
  refine rs4.trans ?_
  refine seq_step (part4 m K ?_)
  refine seq_step (part5 m K ?_)
  refine seq_step (part6 m K ?_)
  refine seq_step (part7 m K fun u1 => ?_)
  refine seq_step (part8 m K ?_)
  refine seq_step (part9 m K ?_)
  refine seq_step (part10 m K ?_)
  refine seq_step (part11 m K ?_)
  refine seq_step (part12 m K ?_)
  refine seq_step (part13 m K ?_)
  refine seq_step (part14 m K ?_)
  refine seq_step (part15 m K ?_)
  refine seq_step (part16 m K ?_)
  refine seq_step (part17 m K ?_)
  refine seq_step (part18 m K ?_)
  refine seq_step (part19 m K ?_)
  refine seq_step (part20 m K ?_)
  refine seq_step (part21 m K ?_)
  refine seq_step (part22 m K ?_)
  refine seq_step (part23 m K ?_)
  refine seq_step (part24 m K ?_)
  refine seq_step (part25 m K ?_)
  refine seq_step (part26 m K ?_)
  refine seq_step (part27 m K fun a b d => ?_)
  refine seq_step (part28 m K ?_)
  refine rs5.trans ?_
  refine to_red m K fun g hg => ?_
  refine seq_step (part29 m ?_)
  refine rs6.trans ?_
  refine seq_step (part30 m K hg ?_)
  refine rs7.trans ?_
  refine seq_step (part31 m K ?_)
  refine seq_step (part32 m K fun e => ?_)
  refine loop_if (fun x Z h => bsent_op m K 7 ((bwC7 c).mp x) h) (fun x => bsent_skip m K 7 (not_ne (bwC7 c) x)) ?_
  refine pure_step (BIBase.Entails.trans ?_ h)
  refine (to_end m K).trans ?_
  refine BIClass.sep_mono ?_ .rfl
  refine BIClass.sep_mono .rfl (BIClass.sep_mono .rfl (BIClass.sep_mono .rfl (BIClass.sep_mono .rfl (BIClass.sep_mono .rfl ?_))))
  iintro H
  iexists g
  iexact H

end Cert.KernelRun
-- ==== Proof.Ghost.lean ====
/-
  A device's ghost state at launch: its cells one by one and by purpose, the tokens it pays with, the credits it starts
  with, its buffers cut into the parts its peers write, and its cells closed at the end.
-/
module

public import proofs.«01_k».proof.Proof.Body

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

/-! ## The cells by purpose -/

theorem dev_all (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Every purpose in order. -/
def ckList : List Ck := [.bar, .ld 0, .ld 1, .snd 0, .snd 1, .snd 2, .snd 3, .snd 4, .snd 5, .snd 6, .snd 7, .rcv 0, .rcv 1, .rcv 2, .rcv 3, .rcv 4, .rcv 5, .rcv 6, .rcv 7, .bsnd 0, .bsnd 1, .bsnd 2, .bsnd 3, .bsnd 4, .bsnd 5, .bsnd 6, .bsnd 7, .brcv 0, .brcv 1, .brcv 2, .brcv 3, .brcv 4, .brcv 5, .brcv 6, .brcv 7]
theorem ck_list (Φ : Ck → sProp 𝕄) : bigSep Finset.univ Φ = iprop(Φ (.bar) ∗ Φ (.ld 0) ∗ Φ (.ld 1) ∗ Φ (.snd 0) ∗ Φ (.snd 1) ∗ Φ (.snd 2) ∗ Φ (.snd 3) ∗ Φ (.snd 4) ∗ Φ (.snd 5) ∗ Φ (.snd 6) ∗ Φ (.snd 7) ∗ Φ (.rcv 0) ∗ Φ (.rcv 1) ∗ Φ (.rcv 2) ∗ Φ (.rcv 3) ∗ Φ (.rcv 4) ∗ Φ (.rcv 5) ∗ Φ (.rcv 6) ∗ Φ (.rcv 7) ∗ Φ (.bsnd 0) ∗ Φ (.bsnd 1) ∗ Φ (.bsnd 2) ∗ Φ (.bsnd 3) ∗ Φ (.bsnd 4) ∗ Φ (.bsnd 5) ∗ Φ (.bsnd 6) ∗ Φ (.bsnd 7) ∗ Φ (.brcv 0) ∗ Φ (.brcv 1) ∗ Φ (.brcv 2) ∗ Φ (.brcv 3) ∗ Φ (.brcv 4) ∗ Φ (.brcv 5) ∗ Φ (.brcv 6) ∗ Φ (.brcv 7)) :=
  bigSep_univ_eq_bigSepL ckList (by decide +kernel) (by decide +kernel) Φ

theorem ck_rg {C0 C1 C10 C11 C12 C13 C14 C15 C16 C17 C18 C19 C2 C20 C21 C22 C23 C24 C25 C26 C27 C28 C29 C3 C30 C31 C32 C33 C34 C4 C5 C6 C7 C8 C9 : sProp 𝕄} : iprop((C0 ∗ C1 ∗ C2 ∗ C3 ∗ C4 ∗ C5 ∗ C6 ∗ C7 ∗ C8 ∗ C9 ∗ C10 ∗ C11 ∗ C12 ∗ C13 ∗ C14 ∗ C15 ∗ C16 ∗ C17 ∗ C18 ∗ C19 ∗ C20 ∗ C21 ∗ C22 ∗ C23 ∗ C24 ∗ C25 ∗ C26 ∗ C27 ∗ C28 ∗ C29 ∗ C30 ∗ C31 ∗ C32 ∗ C33 ∗ C34)) ⊢ iprop((C0 ∗ C1 ∗ C2 ∗ (C3 ∗ C4 ∗ C5 ∗ C6 ∗ C7 ∗ C8 ∗ C9 ∗ C10) ∗ (C11 ∗ C12 ∗ C13 ∗ C14 ∗ C15 ∗ C16 ∗ C17 ∗ C18) ∗ (C19 ∗ C20 ∗ C21 ∗ C22 ∗ C23 ∗ C24 ∗ C25 ∗ C26) ∗ (C27 ∗ C28 ∗ C29 ∗ C30 ∗ C31 ∗ C32 ∗ C33 ∗ C34))) := by
  iintro ⟨HC0, ⟨HC1, ⟨HC2, ⟨HC3, ⟨HC4, ⟨HC5, ⟨HC6, ⟨HC7, ⟨HC8, ⟨HC9, ⟨HC10, ⟨HC11, ⟨HC12, ⟨HC13, ⟨HC14, ⟨HC15, ⟨HC16, ⟨HC17, ⟨HC18, ⟨HC19, ⟨HC20, ⟨HC21, ⟨HC22, ⟨HC23, ⟨HC24, ⟨HC25, ⟨HC26, ⟨HC27, ⟨HC28, ⟨HC29, ⟨HC30, ⟨HC31, ⟨HC32, ⟨HC33, HC34⟩⟩⟩⟩⟩⟩⟩⟩⟩⟩⟩⟩⟩⟩⟩⟩⟩⟩⟩⟩⟩⟩⟩⟩⟩⟩⟩⟩⟩⟩⟩⟩⟩⟩
  isplitl [HC0]
  · iexact HC0
  isplitl [HC1]
  · iexact HC1
  isplitl [HC2]
  · iexact HC2
  isplitl [HC3 HC4 HC5 HC6 HC7 HC8 HC9 HC10]
  · isplitl [HC3]
    · iexact HC3
    isplitl [HC4]
    · iexact HC4
    isplitl [HC5]
    · iexact HC5
    isplitl [HC6]
    · iexact HC6
    isplitl [HC7]
    · iexact HC7
    isplitl [HC8]
    · iexact HC8
    isplitl [HC9]
    · iexact HC9
    iexact HC10
  isplitl [HC11 HC12 HC13 HC14 HC15 HC16 HC17 HC18]
  · isplitl [HC11]
    · iexact HC11
    isplitl [HC12]
    · iexact HC12
    isplitl [HC13]
    · iexact HC13
    isplitl [HC14]
    · iexact HC14
    isplitl [HC15]
    · iexact HC15
    isplitl [HC16]
    · iexact HC16
    isplitl [HC17]
    · iexact HC17
    iexact HC18
  isplitl [HC19 HC20 HC21 HC22 HC23 HC24 HC25 HC26]
  · isplitl [HC19]
    · iexact HC19
    isplitl [HC20]
    · iexact HC20
    isplitl [HC21]
    · iexact HC21
    isplitl [HC22]
    · iexact HC22
    isplitl [HC23]
    · iexact HC23
    isplitl [HC24]
    · iexact HC24
    isplitl [HC25]
    · iexact HC25
    iexact HC26
  isplitl [HC27]
  · iexact HC27
  isplitl [HC28]
  · iexact HC28
  isplitl [HC29]
  · iexact HC29
  isplitl [HC30]
  · iexact HC30
  isplitl [HC31]
  · iexact HC31
  isplitl [HC32]
  · iexact HC32
  isplitl [HC33]
  · iexact HC33
  iexact HC34

theorem ck_rg2 {C0 C1 C10 C11 C12 C13 C14 C15 C16 C17 C18 C19 C2 C20 C21 C22 C23 C24 C25 C26 C27 C28 C29 C3 C30 C31 C32 C33 C34 C4 C5 C6 C7 C8 C9 : sProp 𝕄} : iprop((C0 ∗ C1 ∗ C2 ∗ (C3 ∗ C4 ∗ C5 ∗ C6 ∗ C7 ∗ C8 ∗ C9 ∗ C10) ∗ (C11 ∗ C12 ∗ C13 ∗ C14 ∗ C15 ∗ C16 ∗ C17 ∗ C18) ∗ (C19 ∗ C20 ∗ C21 ∗ C22 ∗ C23 ∗ C24 ∗ C25 ∗ C26) ∗ (C27 ∗ C28 ∗ C29 ∗ C30 ∗ C31 ∗ C32 ∗ C33 ∗ C34))) ⊢ iprop((C0 ∗ C1 ∗ C2 ∗ C3 ∗ C4 ∗ C5 ∗ C6 ∗ C7 ∗ C8 ∗ C9 ∗ C10 ∗ C11 ∗ C12 ∗ C13 ∗ C14 ∗ C15 ∗ C16 ∗ C17 ∗ C18 ∗ C19 ∗ C20 ∗ C21 ∗ C22 ∗ C23 ∗ C24 ∗ C25 ∗ C26 ∗ C27 ∗ C28 ∗ C29 ∗ C30 ∗ C31 ∗ C32 ∗ C33 ∗ C34)) := by
  iintro ⟨HC0, ⟨HC1, ⟨HC2, ⟨⟨HC3, ⟨HC4, ⟨HC5, ⟨HC6, ⟨HC7, ⟨HC8, ⟨HC9, HC10⟩⟩⟩⟩⟩⟩⟩, ⟨⟨HC11, ⟨HC12, ⟨HC13, ⟨HC14, ⟨HC15, ⟨HC16, ⟨HC17, HC18⟩⟩⟩⟩⟩⟩⟩, ⟨⟨HC19, ⟨HC20, ⟨HC21, ⟨HC22, ⟨HC23, ⟨HC24, ⟨HC25, HC26⟩⟩⟩⟩⟩⟩⟩, ⟨HC27, ⟨HC28, ⟨HC29, ⟨HC30, ⟨HC31, ⟨HC32, ⟨HC33, HC34⟩⟩⟩⟩⟩⟩⟩⟩⟩⟩⟩⟩⟩
  isplitl [HC0]
  · iexact HC0
  isplitl [HC1]
  · iexact HC1
  isplitl [HC2]
  · iexact HC2
  isplitl [HC3]
  · iexact HC3
  isplitl [HC4]
  · iexact HC4
  isplitl [HC5]
  · iexact HC5
  isplitl [HC6]
  · iexact HC6
  isplitl [HC7]
  · iexact HC7
  isplitl [HC8]
  · iexact HC8
  isplitl [HC9]
  · iexact HC9
  isplitl [HC10]
  · iexact HC10
  isplitl [HC11]
  · iexact HC11
  isplitl [HC12]
  · iexact HC12
  isplitl [HC13]
  · iexact HC13
  isplitl [HC14]
  · iexact HC14
  isplitl [HC15]
  · iexact HC15
  isplitl [HC16]
  · iexact HC16
  isplitl [HC17]
  · iexact HC17
  isplitl [HC18]
  · iexact HC18
  isplitl [HC19]
  · iexact HC19
  isplitl [HC20]
  · iexact HC20
  isplitl [HC21]
  · iexact HC21
  isplitl [HC22]
  · iexact HC22
  isplitl [HC23]
  · iexact HC23
  isplitl [HC24]
  · iexact HC24
  isplitl [HC25]
  · iexact HC25
  isplitl [HC26]
  · iexact HC26
  isplitl [HC27]
  · iexact HC27
  isplitl [HC28]
  · iexact HC28
  isplitl [HC29]
  · iexact HC29
  isplitl [HC30]
  · iexact HC30
  isplitl [HC31]
  · iexact HC31
  isplitl [HC32]
  · iexact HC32
  isplitl [HC33]
  · iexact HC33
  iexact HC34

theorem ck_split (Φ : Ck → sProp 𝕄) : bigSep Finset.univ Φ ⊢ iprop(Φ .bar ∗ Φ (.ld 0) ∗ Φ (.ld 1) ∗ (bigSep Finset.univ fun i : Dev nD => Φ (.snd i)) ∗ (bigSep Finset.univ fun i : Dev nD => Φ (.rcv i)) ∗ (bigSep Finset.univ fun i : Dev nD => Φ (.bsnd i)) ∗ (bigSep Finset.univ fun i : Dev nD => Φ (.brcv i))) := by
  rw [ck_list, dev_all, dev_all, dev_all, dev_all]; exact ck_rg
theorem ck_join (Φ : Ck → sProp 𝕄) : iprop(Φ .bar ∗ Φ (.ld 0) ∗ Φ (.ld 1) ∗ (bigSep Finset.univ fun i : Dev nD => Φ (.snd i)) ∗ (bigSep Finset.univ fun i : Dev nD => Φ (.rcv i)) ∗ (bigSep Finset.univ fun i : Dev nD => Φ (.bsnd i)) ∗ (bigSep Finset.univ fun i : Dev nD => Φ (.brcv i))) ⊢ bigSep Finset.univ Φ := by
  rw [ck_list, dev_all, dev_all, dev_all, dev_all]; exact ck_rg2

/-! ## The tokens a device pays with -/

def barT (c p : Dev nD) : sProp 𝕄 := if p = c then iprop(emp) else dutyTok ER (cell p .bar) 0 c
def rcvT (c p : Dev nD) : sProp 𝕄 := if p = c then iprop(emp) else dutyTok ER (cell p (.rcv c)) 0 c
def brcvT (c p : Dev nD) : sProp 𝕄 := if p = c then iprop(emp) else dutyTok ER (cell p (.brcv c)) 0 c

/-- Device `c`'s tokens at its own cells. -/
def ownT (c : Dev nD) : sProp 𝕄 := iprop(dutyTok ER (cell c (.ld 0)) 0 c ∗ dutyTok ER (cell c (.ld 1)) 0 c
  ∗ (bigSep Finset.univ fun i : Dev nD => dutyTok ER (cell c (.snd i)) 0 c) ∗ bigSep Finset.univ fun q : Dev nD => dutyTok ER (cell c (.bsnd q)) 0 c)

def pickAt (c p : Dev nD) : sProp 𝕄 := if p = c then ownT c else
  iprop(dutyTok ER (cell p .bar) 0 c ∗ dutyTok ER (cell p (.rcv c)) 0 c ∗ dutyTok ER (cell p (.brcv c)) 0 c)

theorem pick_at (p : Dev nD) : (bigSep Finset.univ fun k : Ck => (dutyTok ER (cell p k) 0 c : sProp 𝕄)) ⊢ pickAt c p := by
  refine (ck_split _).trans ?_
  unfold pickAt ownT
  by_cases hp : p = c
  · subst hp
    rw [if_pos rfl]
    iintro ⟨-, H0, H1, HS, -, HB, -⟩
    isplitl [H0]; · iexact H0
    isplitl [H1]; · iexact H1
    isplitl [HS]; · iexact HS
    iexact HB
  · rw [if_neg hp]
    have e_rcv : (bigSep Finset.univ fun i : Dev nD => dutyTok ER (cell p (.rcv i)) 0 c) ⊢ (dutyTok ER (cell p (.rcv c)) 0 c : sProp 𝕄) := BI.bigSep_elim (Finset.mem_univ c)
    have e_brcv : (bigSep Finset.univ fun i : Dev nD => dutyTok ER (cell p (.brcv i)) 0 c) ⊢ (dutyTok ER (cell p (.brcv c)) 0 c : sProp 𝕄) := BI.bigSep_elim (Finset.mem_univ c)
    iintro ⟨HB, -, -, -, HR, -, HC⟩
    isplitl [HB]; · iexact HB
    isplitl [HR]
    · iapply e_rcv; iexact HR
    · iapply e_brcv; iexact HC

theorem others : (bigSep (Finset.univ.erase c) (pickAt c)) ⊢ iprop(bigSep Finset.univ (barT c) ∗ bigSep Finset.univ (rcvT c) ∗ (bigSep Finset.univ (brcvT c) : sProp 𝕄)) := by
  have h : (bigSep (Finset.univ.erase c) (pickAt c)) ⊢ (bigSep Finset.univ fun p : Dev nD => if p = c then iprop(emp) else pickAt c p : sProp 𝕄) := by
    rw [erase_at c, if_pos rfl]
    rw [BI.bigSep_congr (s := Finset.univ.erase c) (Φ := fun p => if p = c then iprop(emp) else pickAt c p) (Ψ := pickAt c) fun p hp => if_neg (Finset.ne_of_mem_erase hp)]
    iintro H
    isplitr
    · iempintro
    · iexact H
  refine h.trans ((unzip (B := barT c) (C := fun p => iprop(rcvT c p ∗ brcvT c p)) fun p => ?_).trans
    (BIClass.sep_mono .rfl (unzip fun p => .rfl)))
  by_cases hp : p = c
  · unfold barT rcvT brcvT; rw [if_pos hp, if_pos hp, if_pos hp, if_pos hp]
    iintro -
    isplitl; · iempintro
    isplitl <;> iempintro
  · unfold barT rcvT brcvT pickAt; rw [if_neg hp, if_neg hp, if_neg hp, if_neg hp, if_neg hp]

theorem tok_snd : iprop((bigSep Finset.univ fun i : Dev nD => dutyTok ER (cell c (.snd i)) 0 c) ∗ bigSep Finset.univ (rcvT c)) ⊢ (bigSep Finset.univ (sndT c) : sProp 𝕄) := by
  rw [by_tgt (c := c) (rcvT c)]
  have key : ∀ i : Dev nD, iprop(dutyTok ER (cell c (.snd i)) 0 c ∗ rcvT c (tgt c i)) ⊢ (sndT c i : sProp 𝕄) := by
    intro i
    unfold sndT rcvT
    by_cases hp : tgt c i = c
    · rw [if_pos hp, if_pos hp]; iintro -; iempintro
    · rw [if_neg hp, if_neg hp]
  exact zip.trans (BI.bigSep_mono fun i _ => key i)

theorem tok_bc : iprop((bigSep Finset.univ fun i : Dev nD => dutyTok ER (cell c (.bsnd i)) 0 c) ∗ bigSep Finset.univ (brcvT c)) ⊢ (bigSep Finset.univ (bcT0 c) : sProp 𝕄) := by
  have key : ∀ i : Dev nD, iprop(dutyTok ER (cell c (.bsnd i)) 0 c ∗ brcvT c i) ⊢ (bcT0 c i : sProp 𝕄) := by
    intro i
    unfold bcT0 brcvT
    by_cases hp : i = c
    · rw [if_pos hp, if_pos hp]; iintro -; iempintro
    · rw [if_neg hp, if_neg hp]
  exact zip.trans (BI.bigSep_mono fun i _ => key i)

/-- All the tokens of device `c`'s duties, sorted into what its loads, signals, sends and broadcasts take. -/
theorem tok_pick : (bigSep Finset.univ fun p : Dev nD => bigSep Finset.univ fun k : Ck => dutyTok ER (cell p k) 0 c)
    ⊢ iprop(dutyTok ER (cell c (.ld 0)) 0 c ∗ dutyTok ER (cell c (.ld 1)) 0 c ∗ bigSep Finset.univ (barT c) ∗ bigSep Finset.univ (sndT c) ∗ (bigSep Finset.univ (bcT0 c) : sProp 𝕄)) := by
  refine BIBase.Entails.trans (BI.bigSep_mono (Ψ := pickAt c) fun p _ => pick_at p) ?_
  rw [erase_at c]
  have h0 : pickAt (F := F) c c = ownT c := if_pos rfl
  rw [h0]
  unfold ownT
  iintro ⟨⟨H0, H1, HS, HB⟩, HO⟩
  icases others $$ HO with ⟨HA, HR, HC⟩
  isplitl [H0]; · iexact H0
  isplitl [H1]; · iexact H1
  isplitl [HA]; · iexact HA
  isplitl [HS HR]
  · iapply tok_snd; isplitl [HS] <;> iassumption
  · iapply tok_bc; isplitl [HB] <;> iassumption

/-! ## The credits at launch -/

abbrev O₀ (c : Dev nD) : CellTallies nD τ sig Unit := owed c 0 0 0

theorem tally_sum {ι : Type} [DecidableEq ι] (S : Finset ι) (k : ι → GSem nD τ sig) (n : ℕ) (g : GSem nD τ sig) :
    (∑ i ∈ S, (tallyAt (k i) () n : CellTallies nD τ sig Unit)) g () = ∑ i ∈ S, if g = k i then n else 0 := by
  induction S using Finset.induction_on with
  | empty => rw [Finset.sum_empty, Finset.sum_empty]; rfl
  | insert a S ha ih =>
    rw [Finset.sum_insert ha, Finset.sum_insert ha, Pi.add_apply, Finsupp.add_apply, tallyAt_apply, ih]
    congr 1
    by_cases h : g = k a
    · rw [if_pos ⟨h, rfl⟩, if_pos h]
    · rw [if_neg fun h' => h h'.1, if_neg h]

theorem owed_at (d : Dev nD) (g : GSem nD τ sig) : O₀ d g () = (∑ q ∈ Finset.univ.erase d, if g = cell q (.brcv d) then NC else 0)
    + ((∑ q ∈ Finset.univ.erase d, if g = cell q (.rcv d) then NC else 0) + ∑ q ∈ Finset.univ.erase d, if g = cell q .bar then 1 else 0) := by
  unfold O₀ owed
  rw [Pi.add_apply, Finsupp.add_apply, Pi.add_apply, Finsupp.add_apply, tally_sum, tally_sum, tally_sum, rest_zero]
  congr 2
  rw [← restS_image d, Finset.sum_image (fun a _ b _ h => tgt_injective d h)]

theorem none_at {d : Dev nD} (g : GSem nD τ sig) (k : Dev nD → GSem nD τ sig) (n : ℕ) (h : ∀ q, g ≠ k q) :
    (∑ q ∈ Finset.univ.erase d, if g = k q then n else 0) = 0 :=
  Finset.sum_eq_zero fun q _ => if_neg (h q)

theorem one_at {d : Dev nD} (c : Dev nD) (k : Ck) (n : ℕ) :
    (∑ q ∈ Finset.univ.erase d, if cell c k = cell q k then n else 0) = if d = c then 0 else n := by
  rw [Finset.sum_congr rfl fun q _ => (if_congr (show cell c k = cell q k ↔ c = q from ⟨fun h => (cell_inj h).1, fun h => h ▸ rfl⟩) rfl rfl), Finset.sum_ite_eq]
  by_cases h : d = c
  · rw [if_pos h, if_neg fun h' => (Finset.mem_erase.mp h').1 h.symm]
  · rw [if_neg h, if_pos (Finset.mem_erase.mpr ⟨fun e => h e.symm, Finset.mem_univ _⟩)]

theorem owed_bar_at (d c : Dev nD) : O₀ d (cell c .bar) () = if d = c then 0 else 1 := by
  rw [owed_at, none_at _ _ _ fun q h => absurd (cell_inj h).2 (by simp), none_at _ _ _ fun q h => absurd (cell_inj h).2 (by simp), zero_add, zero_add, one_at]
theorem owed_rcv_at (d c p : Dev nD) : O₀ d (cell c (.rcv p)) () = if d = p then (if p = c then 0 else NC) else 0 := by
  rw [owed_at, none_at _ _ _ fun q h => absurd (cell_inj h).2 (by simp), none_at _ (fun q => cell q .bar) _ fun q h => absurd (cell_inj h).2 (by simp), zero_add, add_zero]
  by_cases h : d = p
  · subst h; rw [if_pos rfl, one_at]
  · rw [if_neg h, none_at _ _ _ fun q h' => h (by have := (cell_inj h').2; injection this with e; exact e.symm)]
theorem owed_brcv_at (d c p : Dev nD) : O₀ d (cell c (.brcv p)) () = if d = p then (if p = c then 0 else NC) else 0 := by
  rw [owed_at, none_at _ (fun q => cell q (.rcv d)) _ fun q h => absurd (cell_inj h).2 (by simp), none_at _ (fun q => cell q .bar) _ fun q h => absurd (cell_inj h).2 (by simp), add_zero, add_zero]
  by_cases h : d = p
  · subst h; rw [if_pos rfl, one_at]
  · rw [if_neg h, none_at _ _ _ fun q h' => h (by have := (cell_inj h').2; injection this with e; exact e.symm)]

theorem seven (c : Dev nD) : (∑ d : Dev nD, if d = c then 0 else 1) = 7 := by revert c; decide +kernel

theorem launch_bar (c : Dev nD) :
    tallyOn (cell c .bar) (launchCredit (Pipeline.owing O₀) 0 (cell c .bar)) = (tallyAt (cell c .bar) () 7 : CellTallies nD τ sig Unit) := by
  unfold tallyAt; refine congrArg _ (Finsupp.ext fun u => ?_); cases u
  rw [Pipeline.launchCredit_owing, Finsupp.single_eq_same, Finset.sum_congr rfl fun d _ => owed_bar_at d c, seven]
theorem launch_rcv (c p : Dev nD) (h : p ≠ c) :
    tallyOn (cell c (.rcv p)) (launchCredit (Pipeline.owing O₀) 0 (cell c (.rcv p))) = (tallyAt (cell c (.rcv p)) () NC : CellTallies nD τ sig Unit) := by
  unfold tallyAt; refine congrArg _ (Finsupp.ext fun u => ?_); cases u
  rw [Pipeline.launchCredit_owing, Finsupp.single_eq_same, Finset.sum_congr rfl fun d _ => owed_rcv_at d c p, Finset.sum_ite_eq' Finset.univ p, if_pos (Finset.mem_univ _), if_neg h]
theorem launch_brcv (c p : Dev nD) (h : p ≠ c) :
    tallyOn (cell c (.brcv p)) (launchCredit (Pipeline.owing O₀) 0 (cell c (.brcv p))) = (tallyAt (cell c (.brcv p)) () NC : CellTallies nD τ sig Unit) := by
  unfold tallyAt; refine congrArg _ (Finsupp.ext fun u => ?_); cases u
  rw [Pipeline.launchCredit_owing, Finsupp.single_eq_same, Finset.sum_congr rfl fun d _ => owed_brcv_at d c p, Finset.sum_ite_eq' Finset.univ p, if_pos (Finset.mem_univ _), if_neg h]

def crR (c p : Dev nD) : sProp 𝕄 := if p = c then iprop(emp) else cred (tallyAt (cell c (.rcv p)) () NC)
def crB (c p : Dev nD) : sProp 𝕄 := if p = c then iprop(emp) else cred (tallyAt (cell c (.brcv p)) () NC)

theorem creds (c : Dev nD) : (Pipeline.launchCred O₀ c : sProp 𝕄)
    ⊢ iprop(cred (tallyAt (cell c .bar) () 7) ∗ bigSep Finset.univ (crR c) ∗ bigSep Finset.univ (crB c)) := by
  unfold Pipeline.launchCred
  have hs : (bigSep Finset.univ fun sm : SemLoc sig => (cred (tallyOn ((c : Thread nD τ), sm) (launchCredit (Pipeline.owing O₀) 0 ((c : Thread nD τ), sm))) : sProp 𝕄))
      ⊢ bigSep Finset.univ fun k : Ck => cred (tallyOn (cell c k) (launchCredit (Pipeline.owing O₀) 0 (cell c k))) := by
    refine BIBase.Entails.trans (BI.bigSep_subset (Finset.subset_univ (Finset.univ.map ⟨semOf, semOf_injective⟩))) ?_
    exact Entails.of_eq (bigSep_map _)
  refine hs.trans ((ck_split _).trans ?_)
  rw [launch_bar]
  have h1 : ∀ p : Dev nD, (cred (tallyOn (cell c (.rcv p)) (launchCredit (Pipeline.owing O₀) 0 (cell c (.rcv p)))) : sProp 𝕄) ⊢ crR c p := by
    intro p
    unfold crR
    by_cases h : p = c
    · rw [if_pos h]; iintro -; iempintro
    · rw [if_neg h, launch_rcv c p h]
  have h2 : ∀ p : Dev nD, (cred (tallyOn (cell c (.brcv p)) (launchCredit (Pipeline.owing O₀) 0 (cell c (.brcv p)))) : sProp 𝕄) ⊢ crB c p := by
    intro p
    unfold crB
    by_cases h : p = c
    · rw [if_pos h]; iintro -; iempintro
    · rw [if_neg h, launch_brcv c p h]
  have gh1 : (bigSep Finset.univ fun p : Dev nD => cred (tallyOn (cell c (.rcv p)) (launchCredit (Pipeline.owing O₀) 0 (cell c (.rcv p))))) ⊢ (bigSep Finset.univ (crR c) : sProp 𝕄) := BI.bigSep_mono fun p _ => h1 p
  have gh2 : (bigSep Finset.univ fun p : Dev nD => cred (tallyOn (cell c (.brcv p)) (launchCredit (Pipeline.owing O₀) 0 (cell c (.brcv p))))) ⊢ (bigSep Finset.univ (crB c) : sProp 𝕄) := BI.bigSep_mono fun p _ => h2 p
  iintro ⟨HB, -, -, -, HR, -, HC⟩
  isplitl [HB]; · iexact HB
  isplitl [HR]
  · iapply gh1; iexact HR
  · iapply gh2; iexact HC

/-! ## The receiving buffers cut into slabs -/

def slabsR (c p : Dev nD) : sProp 𝕄 := if p = c then iprop(emp) else iprop(∃ f, mpts c (slabR p) fullShare f)
def slabsB (c p : Dev nD) : sProp 𝕄 := if p = c then iprop(emp) else iprop(∃ f, mpts c (slabB p) fullShare f)

theorem slabR_ex (p : Dev nD) (f : Buf (Elt F) ((c : Thread nD τ).loc cc0_scratch10)) : (((c : Thread nD τ).loc cc0_scratch10) ↦[(slabR p).view.set]{fullShare} f : sProp 𝕄)
    ⊢ iprop(∃ f, mpts c (slabR p) fullShare f) := by
  have e : (((c : Thread nD τ).loc cc0_scratch10) ↦[(slabR p).view.set]{fullShare} f : sProp 𝕄) ⊢ mpts c (slabR p) fullShare f := .rfl
  iintro H; iexists f; iapply e; iexact H
theorem slabsR_cut (f : Buf (Elt F) ((c : Thread nD τ).loc cc0_scratch10)) : (((c : Thread nD τ).loc cc0_scratch10) ↦{fullShare} f : sProp 𝕄)
    ⊢ iprop(bigSep Finset.univ (slabsR c) ∗ (∃ f, mpts c (slabR c) fullShare f)) := by
  have hd : ∀ t ∈ (Finset.univ : Finset (Dev nD)), ∀ t' ∈ (Finset.univ : Finset (Dev nD)), t ≠ t' →
      Disjoint (slabR t).view.set (slabR t').view.set := fun t _ t' _ hne =>
    Finset.disjoint_left.mpr fun x hx hx' => hne (((mem_slab t x).mp hx).symm.trans ((mem_slab t' x).mp hx'))
  have hu : Finset.biUnion (β := S8x128x1024.Idx) (Finset.univ : Finset (Dev nD)) (fun i => (slabR i).view.set) = Finset.univ := by
    ext x
    refine ⟨fun _ => Finset.mem_univ _, fun _ => Finset.mem_biUnion.mpr ⟨x 0, Finset.mem_univ _, (mem_slab _ x).mpr rfl⟩⟩
  have e := pointsTo_biUnion (ℓ := (c : Thread nD τ).loc cc0_scratch10) (q := fullShare) (f := f) (Ix := Unit) (Name := ℕ) (U := UU) (Lvl := ℕ)
    Finset.univ (fun i : Dev nD => (slabR i).view.set) hd
  rw [hu] at e
  have key : ∀ p : Dev nD, (((c : Thread nD τ).loc cc0_scratch10) ↦[(slabR p).view.set]{fullShare} f : sProp 𝕄) ⊢ slabsR c p := by
    intro p
    unfold slabsR
    by_cases h : p = c
    · rw [if_pos h]; iintro -; iempintro
    · rw [if_neg h]; exact slabR_ex p f
  have gk : (bigSep (Finset.univ.erase c) fun p : Dev nD => ((c : Thread nD τ).loc cc0_scratch10) ↦[(slabR p).view.set]{fullShare} f) ⊢ (bigSep (Finset.univ.erase c) (slabsR c) : sProp 𝕄) := BI.bigSep_mono fun p _ => key p
  refine BIBase.Entails.trans (Entails.of_eq e) ?_
  rw [erase_at c, erase_at c (A := slabsR c)]
  have h0 : slabsR (F := F) c c = iprop(emp) := if_pos rfl
  rw [h0]
  iintro ⟨H1, H2⟩
  isplitl [H2]
  · isplitr; · iempintro
    iapply gk; iexact H2
  · iapply (slabR_ex c f); iexact H1

theorem slabB_ex (p : Dev nD) (f : Buf (Elt F) ((c : Thread nD τ).loc cc0_scratch11)) : (((c : Thread nD τ).loc cc0_scratch11) ↦[(slabB p).view.set]{fullShare} f : sProp 𝕄)
    ⊢ iprop(∃ f, mpts c (slabB p) fullShare f) := by
  have e : (((c : Thread nD τ).loc cc0_scratch11) ↦[(slabB p).view.set]{fullShare} f : sProp 𝕄) ⊢ mpts c (slabB p) fullShare f := .rfl
  iintro H; iexists f; iapply e; iexact H
theorem slabsB_cut (f : Buf (Elt F) ((c : Thread nD τ).loc cc0_scratch11)) : (((c : Thread nD τ).loc cc0_scratch11) ↦{fullShare} f : sProp 𝕄)
    ⊢ iprop(bigSep Finset.univ (slabsB c) ∗ (∃ f, mpts c (slabB c) fullShare f)) := by
  have hd : ∀ t ∈ (Finset.univ : Finset (Dev nD)), ∀ t' ∈ (Finset.univ : Finset (Dev nD)), t ≠ t' →
      Disjoint (slabB t).view.set (slabB t').view.set := fun t _ t' _ hne =>
    Finset.disjoint_left.mpr fun x hx hx' => hne (((mem_slabB t x).mp hx).symm.trans ((mem_slabB t' x).mp hx'))
  have hu : Finset.biUnion (β := S8x128x1024.Idx) (Finset.univ : Finset (Dev nD)) (fun i => (slabB i).view.set) = Finset.univ := by
    ext x
    refine ⟨fun _ => Finset.mem_univ _, fun _ => Finset.mem_biUnion.mpr ⟨x 0, Finset.mem_univ _, (mem_slabB _ x).mpr rfl⟩⟩
  have e := pointsTo_biUnion (ℓ := (c : Thread nD τ).loc cc0_scratch11) (q := fullShare) (f := f) (Ix := Unit) (Name := ℕ) (U := UU) (Lvl := ℕ)
    Finset.univ (fun i : Dev nD => (slabB i).view.set) hd
  rw [hu] at e
  have key : ∀ p : Dev nD, (((c : Thread nD τ).loc cc0_scratch11) ↦[(slabB p).view.set]{fullShare} f : sProp 𝕄) ⊢ slabsB c p := by
    intro p
    unfold slabsB
    by_cases h : p = c
    · rw [if_pos h]; iintro -; iempintro
    · rw [if_neg h]; exact slabB_ex p f
  have gk : (bigSep (Finset.univ.erase c) fun p : Dev nD => ((c : Thread nD τ).loc cc0_scratch11) ↦[(slabB p).view.set]{fullShare} f) ⊢ (bigSep (Finset.univ.erase c) (slabsB c) : sProp 𝕄) := BI.bigSep_mono fun p _ => key p
  refine BIBase.Entails.trans (Entails.of_eq e) ?_
  rw [erase_at c, erase_at c (A := slabsB c)]
  have h0 : slabsB (F := F) c c = iprop(emp) := if_pos rfl
  rw [h0]
  iintro ⟨H1, H2⟩
  isplitl [H2]
  · isplitr; · iempintro
    iapply gk; iexact H2
  · iapply (slabB_ex c f); iexact H1

theorem mk_sig : iprop(bigSep Finset.univ (barT c) ∗ bigSep Finset.univ (slabsR c) ∗ bigSep Finset.univ (slabsB c)) ⊢ (bigSep Finset.univ (sigA c) : sProp 𝕄) := by
  have key : ∀ p : Dev nD, iprop(barT c p ∗ slabsR c p ∗ slabsB c p) ⊢ (sigA c p : sProp 𝕄) := by
    intro p
    unfold barT slabsR slabsB sigA
    by_cases hp : p = c
    · rw [if_pos hp, if_pos hp, if_pos hp, if_pos hp]; iintro -; iempintro
    · rw [if_neg hp, if_neg hp, if_neg hp, if_neg hp]
  exact (BIClass.sep_mono .rfl zip).trans (zip.trans (BI.bigSep_mono fun i _ => key i))

theorem mk_rcv : iprop((bigSep Finset.univ fun p : Dev nD => atPos ER (cell c (.rcv p)) 0 ∅ 0) ∗ bigSep Finset.univ (crR c)) ⊢ (bigSep Finset.univ (rcvA c) : sProp 𝕄) := by
  have key : ∀ p : Dev nD, iprop(atPos ER (cell c (.rcv p)) 0 ∅ 0 ∗ crR c p) ⊢ (rcvA c p : sProp 𝕄) := by
    intro p
    unfold rcvA crR
    by_cases hp : p = c
    · rw [if_pos hp, if_pos hp]; iintro ⟨H, -⟩; iexact H
    · rw [if_neg hp, if_neg hp]
  exact zip.trans (BI.bigSep_mono fun i _ => key i)
theorem mk_br : iprop((bigSep Finset.univ fun p : Dev nD => atPos ER (cell c (.brcv p)) 0 ∅ 0) ∗ bigSep Finset.univ (crB c)) ⊢ (bigSep Finset.univ (brA c) : sProp 𝕄) := by
  have key : ∀ p : Dev nD, iprop(atPos ER (cell c (.brcv p)) 0 ∅ 0 ∗ crB c p) ⊢ (brA c p : sProp 𝕄) := by
    intro p
    unfold brA crB
    by_cases hp : p = c
    · rw [if_pos hp, if_pos hp]; iintro ⟨H, -⟩; iexact H
    · rw [if_neg hp, if_neg hp]
  exact zip.trans (BI.bigSep_mono fun i _ => key i)

/-! ## The cells closed -/

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (k : Ck) : iprop(recs m K ∗ shut m c k) ⊢ (|={Set.univ}=> semVal (cell c k) 0 : sProp 𝕄) := by
  unfold recs shut
  have e : (bigSep Finset.univ fun p : Dev nD × Ck => cellInv ER (rd m) (K p) (cell p.1 p.2)) ⊢ (cellInv ER (rd m) (K (c, k)) (cell c k) : sProp 𝕄) := BI.bigSep_elim (Finset.mem_univ (c, k))
  iintro ⟨⟨HI, -⟩, ⟨%n, %hn, HA⟩⟩
  iapply (Rounds.cell_close ER (rd m) (Set.mem_univ (K (c, k))) (fun h => h) (R := n) hn)
  isplitl [HI]
  · iapply e; iexact HI
  · iexact HA

theorem close_all : iprop(recs m K ∗ bigSep Finset.univ fun k : Ck => shut m c k) ⊢ (|={Set.univ}=> bigSep Finset.univ fun k : Ck => semVal (cell c k) 0 : sProp 𝕄) :=
  (with_persistent fun k _ => close_one m K k).trans (bigSep_fupd _ _)

end Cert.KernelRun

end
-- ==== Proof.Obligation.lean ====
/-
  The kernel's body as the launch needs it: from what a device holds at launch to its buffers, its cells closed and its result.
-/
module

public import proofs.«01_k».proof.Proof.Ghost

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (K : Dev nD × Ck → ℕ) {c : Dev nD}

/-- A device's scratch buffers, each at some contents. -/
def SCR (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f))

/-- The two weights a device reads in place, whole. -/
def ARG (c : Dev nD) : sProp 𝕄 := iprop((((c : Thread nD τ).loc main_arg1) ↦{fullShare} m ((c : Thread nD τ).loc main_arg1)) ∗ (((c : Thread nD τ).loc main_arg4) ↦{fullShare} m ((c : Thread nD τ).loc main_arg4)))

/-- What of the two weights lies outside the device's blocks. -/
def ARGR (c : Dev nD) : sProp 𝕄 := iprop((((c : Thread nD τ).loc main_arg1) ↦[(Finset.univ : Finset (Idx ((c : Thread nD τ).loc main_arg1))) \ (wqB c).view.set]{fullShare} m ((c : Thread nD τ).loc main_arg1))
  ∗ (((c : Thread nD τ).loc main_arg4) ↦[(Finset.univ : Finset (Idx ((c : Thread nD τ).loc main_arg4))) \ (woB c).view.set]{fullShare} m ((c : Thread nD τ).loc main_arg4)))

theorem arg_cut : ARG m c ⊢ iprop((mpts c (wqB c) fullShare (m ((c : Thread nD τ).loc main_arg1)) ∗ mpts c (woB c) fullShare (m ((c : Thread nD τ).loc main_arg4))) ∗ ARGR m c) := by
  have e1 : (((c : Thread nD τ).loc main_arg1) ↦{fullShare} m ((c : Thread nD τ).loc main_arg1) : sProp 𝕄) ⊢ iprop(mpts c (wqB c) fullShare (m ((c : Thread nD τ).loc main_arg1)) ∗ (((c : Thread nD τ).loc main_arg1) ↦[(Finset.univ : Finset (Idx ((c : Thread nD τ).loc main_arg1))) \ (wqB c).view.set]{fullShare} m ((c : Thread nD τ).loc main_arg1))) :=
    (pointsTo_split_subset (Finset.subset_univ _)).1
  have e2 : (((c : Thread nD τ).loc main_arg4) ↦{fullShare} m ((c : Thread nD τ).loc main_arg4) : sProp 𝕄) ⊢ iprop(mpts c (woB c) fullShare (m ((c : Thread nD τ).loc main_arg4)) ∗ (((c : Thread nD τ).loc main_arg4) ↦[(Finset.univ : Finset (Idx ((c : Thread nD τ).loc main_arg4))) \ (woB c).view.set]{fullShare} m ((c : Thread nD τ).loc main_arg4))) :=
    (pointsTo_split_subset (Finset.subset_univ _)).1
  unfold ARG ARGR
  iintro ⟨H1, H4⟩
  icases e1 $$ H1 with ⟨H1, G1⟩
  icases e2 $$ H4 with ⟨H4, G4⟩
  isplitl [H1 H4]
  · isplitl [H1] <;> iassumption
  · isplitl [G1] <;> iassumption

theorem arg_join : iprop((mpts c (wqB c) fullShare (m ((c : Thread nD τ).loc main_arg1)) ∗ mpts c (woB c) fullShare (m ((c : Thread nD τ).loc main_arg4))) ∗ ARGR m c) ⊢ ARG m c := by
  have e1 : iprop(mpts c (wqB c) fullShare (m ((c : Thread nD τ).loc main_arg1)) ∗ (((c : Thread nD τ).loc main_arg1) ↦[(Finset.univ : Finset (Idx ((c : Thread nD τ).loc main_arg1))) \ (wqB c).view.set]{fullShare} m ((c : Thread nD τ).loc main_arg1))) ⊢ (((c : Thread nD τ).loc main_arg1) ↦{fullShare} m ((c : Thread nD τ).loc main_arg1) : sProp 𝕄) :=
    (pointsTo_split_subset (Finset.subset_univ _)).2
  have e2 : iprop(mpts c (woB c) fullShare (m ((c : Thread nD τ).loc main_arg4)) ∗ (((c : Thread nD τ).loc main_arg4) ↦[(Finset.univ : Finset (Idx ((c : Thread nD τ).loc main_arg4))) \ (woB c).view.set]{fullShare} m ((c : Thread nD τ).loc main_arg4))) ⊢ (((c : Thread nD τ).loc main_arg4) ↦{fullShare} m ((c : Thread nD τ).loc main_arg4) : sProp 𝕄) :=
    (pointsTo_split_subset (Finset.subset_univ _)).2
  unfold ARG ARGR
  iintro ⟨⟨H1, H4⟩, G1, G4⟩
  isplitl [H1 G1]
  · iapply e1; isplitl [H1] <;> iassumption
  · iapply e2; isplitl [H4] <;> iassumption

/-- What the body ends with. -/
def done (c : Dev nD) : sProp 𝕄 := iprop((((((c : Thread nD τ).loc cc0_stg0_0) ↦{fullShare} xstg m c) ∗ (((c : Thread nD τ).loc cc0_stg1_0) ↦{fullShare} kstg m c) ∗ (((c : Thread nD τ).loc cc0_stg2_0) ↦{fullShare} vstg m c) ∗ atPos ER (cell c .bar) 1 ∅ 0 ∗ atPos ER (cell c (.ld 0)) 1 ∅ 0 ∗ atPos ER (cell c (.ld 1)) 1 ∅ 0 ∗ mpts c (wqB c) fullShare (m ((c : Thread nD τ).loc main_arg1)) ∗ mpts c (woB c) fullShare (m ((c : Thread nD τ).loc main_arg4)) ∗ (((c : Thread nD τ).loc cc0_scratch0) ↦{fullShare} wqV m c) ∗ (((c : Thread nD τ).loc cc0_scratch1) ↦{fullShare} woV m c)) ∗ TS m c 3 8 ∗ (bigSep Finset.univ fun p => shut m c (.rcv p)) ∗ (bigSep Finset.univ fun i => shut m c (.snd i)) ∗ (((c : Thread nD τ).loc cc0_scratch8) ↦{fullShare} pV m c) ∗ (∃ g, (((c : Thread nD τ).loc cc0_scratch10) ↦{fullShare} g)))
        ∗ recs m K ∗ ow c 8 8 8 ∗ (bigSep Finset.univ fun p => shut m c (.brcv p)) ∗ (bigSep Finset.univ fun q => shut m c (.bsnd q))
        ∗ (∃ g, (((c : Thread nD τ).loc cc0_scratch11) ↦{fullShare} g)) ∗ (((c : Thread nD τ).loc cc0_scratch9) ↦{fullShare} red16 m c) ∗ (((c : Thread nD τ).loc cc0_stg3_0) ↦{fullShare} outV m c))

/-- A device's cells, each of which no more duty will come to. -/
theorem shut_all : iprop((atPos ER (cell c .bar) 1 ∅ 0 ∗ atPos ER (cell c (.ld 0)) 1 ∅ 0 ∗ atPos ER (cell c (.ld 1)) 1 ∅ 0)
    ∗ (bigSep Finset.univ fun i => shut m c (.snd i)) ∗ (bigSep Finset.univ fun p => shut m c (.rcv p)) ∗ (bigSep Finset.univ fun q => shut m c (.bsnd q)) ∗ (bigSep Finset.univ fun p => shut m c (.brcv p)))
    ⊢ bigSep Finset.univ fun k : Ck => shut m c k := by
  refine BIBase.Entails.trans ?_ (ck_join _)
  iintro ⟨⟨HB, H0, H1⟩, HS, HR, HT, HC⟩
  isplitl [HB]; · iapply (shut_one m .bar); iexact HB
  isplitl [H0]; · iapply (shut_one m (.ld 0)); iexact H0
  isplitl [H1]; · iapply (shut_one m (.ld 1)); iexact H1
  isplitl [HS]; · iexact HS
  isplitl [HR]; · iexact HR
  isplitl [HT]; · iexact HT
  iexact HC

/-- What a device holds after the body: its scratch buffers, its cells at zero, and the two weights as they were. -/
def Φ₁ (c : Dev nD) : sProp 𝕄 := iprop(SCR c ∗ (bigSep Finset.univ fun k : Ck => semVal (cell c k) 0) ∗ ARG m c)

/-- The staging buffers after the body. -/
def STG (c : Dev nD) : sProp 𝕄 := iprop((((c : Thread nD τ).loc cc0_stg0_0) ↦{fullShare} xstg m c) ∗ (((c : Thread nD τ).loc cc0_stg1_0) ↦{fullShare} kstg m c) ∗ (((c : Thread nD τ).loc cc0_stg2_0) ↦{fullShare} vstg m c) ∗ (((c : Thread nD τ).loc cc0_stg3_0) ↦{fullShare} outV m c))

theorem leave : iprop(done m K c ∗ ARGR m c) ⊢ (|={Set.univ}=> (Φ₁ m c ∗ (∃ W, owes (c : Thread nD τ) 0 W) ∗ STG m c) : sProp 𝕄) := by
  unfold done TS ctxAt ow
  rw [owed_end]
  iintro ⟨⟨⟨⟨HX, HK, HV, HBA, HL0, HL1, HWQ, HWO, HS0, HS1⟩, ⟨H2, H3, H5, H6, H4, ⟨%g7, %h7, H7⟩⟩, HRC, HSN, H8, H10⟩, HREC, ⟨%W, HO⟩, HBR, HBS, H11, H9, HOUT⟩, HAR⟩
  imod (close_all m K (c := c)) $$ [HREC HBA HL0 HL1 HRC HSN HBR HBS] with HZ
  · isplitl [HREC]; · iexact HREC
    iapply (shut_all m)
    isplitl [HBA HL0 HL1]
    · isplitl [HBA]; · iexact HBA
      isplitl [HL0] <;> iassumption
    isplitl [HSN]; · iexact HSN
    isplitl [HRC]; · iexact HRC
    isplitl [HBS] <;> iassumption
  imodintro
  unfold Φ₁ SCR STG
  isplitr [HO HX HK HV HOUT]
  · isplitr [HZ HWQ HWO HAR]
    · isplitl [HS0]; · iexists _; iexact HS0
      isplitl [HS1]; · iexists _; iexact HS1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexact H10
      iexact H11
    isplitl [HZ]; · iexact HZ
    iapply (arg_join m)
    isplitl [HWQ HWO]
    · isplitl [HWQ] <;> iassumption
    · iexact HAR
  isplitl [HO]; · iexists W; iexact HO
  isplitl [HX]; · iexact HX
  isplitl [HK]; · iexact HK
  isplitl [HV]; · iexact HV
  iexact HOUT

/-- What a device starts from: the cells' invariants and levels, its cells' positions, its tokens and credits, and the two
    weights it reads in place. -/
def start (c : Dev nD) : sProp 𝕄 := iprop((∃ K, recs m K) ∗ (bigSep Finset.univ fun k : Ck => atPos ER (cell c k) 0 ∅ 0)
  ∗ (bigSep Finset.univ fun p : Dev nD => bigSep Finset.univ fun k : Ck => dutyTok ER (cell p k) 0 c)
  ∗ (cred (tallyAt (cell c .bar) () 7) ∗ bigSep Finset.univ (crR c) ∗ bigSep Finset.univ (crB c)) ∗ ARG m c)

def Φ₀ (c : Dev nD) : sProp 𝕄 := iprop(start m c ∗ SCR c)

theorem body_run {fo : Buf (Elt F) ((c : Thread nD τ).loc cc0_stg3_0)} (W : Waits sig Unit) :
    iprop(Φ₀ m c ∗ owes (c : Thread nD τ) (O₀ c) W ∗ (((c : Thread nD τ).loc cc0_stg0_0) ↦{fullShare} xstg m c) ∗ (((c : Thread nD τ).loc cc0_stg1_0) ↦{fullShare} kstg m c) ∗ (((c : Thread nD τ).loc cc0_stg2_0) ↦{fullShare} vstg m c) ∗ (((c : Thread nD τ).loc cc0_stg3_0) ↦{fullShare} fo))
      ⊢ wpc c (cc0__body xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) fun _ => iprop(Φ₁ m c ∗ (∃ W, owes (c : Thread nD τ) 0 W) ∗ STG m c) := by
  unfold Φ₀ start SCR
  iintro ⟨⟨⟨⟨%K, #HREC⟩, HPOS, HTOK, ⟨HCB, HCR, HCC⟩, HARG⟩, ⟨H0, H1, ⟨%f2, H2⟩, ⟨%f3, H3⟩, ⟨%f4, H4⟩, ⟨%f5, H5⟩, ⟨%f6, H6⟩, H7, ⟨%f8, H8⟩, ⟨%f9, H9⟩, ⟨%f10, H10⟩, ⟨%f11, H11⟩⟩⟩, HO, HX, HK, HV, HOUT⟩
  have hw := whole m K (c := c) (fo := fo) (f2 := f2) (f3 := f3) (f4 := f4) (f5 := f5) (f6 := f6) (f8 := f8) (f9 := f9) (Q := fun _ => done m K c) .rfl
  have hfin : iprop(wpc c (cc0__body xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) (fun _ => done m K c) ∗ ARGR m c)
      ⊢ wpc c (cc0__body xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) fun _ => (iprop(Φ₁ m c ∗ (∃ W, owes (c : Thread nD τ) 0 W) ∗ STG m c) : sProp 𝕄) :=
    BIBase.Entails.trans (wp_frame_r _ _ _) (BIBase.Entails.trans (wp_mono _ _ _ fun _ => leave m K) (wp_fupd _ _ _ _ _))
  icases (ck_split fun k : Ck => (atPos ER (cell c k) 0 ∅ 0 : sProp 𝕄)) $$ HPOS with ⟨PB, P0, P1, PS, PR, PT, PC⟩
  icases tok_pick $$ HTOK with ⟨T0, T1, TB, TS, TC⟩
  icases (arg_cut m) $$ HARG with ⟨⟨HWQ, HWO⟩, HAR⟩
  icases (slabsR_cut f10) $$ H10 with ⟨R10, S10⟩
  icases (slabsB_cut f11) $$ H11 with ⟨R11, S11⟩
  iapply hfin
  isplitr [HAR]
  · iapply hw
    unfold BS ldA0 ldA1 ow
    rw [loop_zero, loop_zero]
    isplitr [HO TB R10 R11]
    · isplitr [T0 HWQ H0 T1 HWO H1]
      · isplitl [P0]; · iexact P0
        isplitl [P1]; · iexact P1
        isplitl [PB]; · iexact PB
        isplitl [HCB]; · iexact HCB
        isplitl [HX]; · iexact HX
        isplitl [H2]; · iexact H2
        isplitl [HK]; · iexact HK
        isplitl [H5]; · iexact H5
        isplitl [HV]; · iexact HV
        isplitl [H6]; · iexact H6
        isplitl [H3]; · iexact H3
        isplitl [H4]; · iexact H4
        isplitl [H7]; · iexact H7
        isplitl [H8]; · iexact H8
        isplitl [H9]; · iexact H9
        isplitl [HOUT]; · iexact HOUT
        isplitl [PR HCR]
        · iapply mk_rcv; isplitl [PR] <;> iassumption
        isplitl [PS]; · iexact PS
        isplitl [PT]; · iexact PT
        isplitl [PC HCC]
        · iapply mk_br; isplitl [PC] <;> iassumption
        isplitl [TS]; · iexact TS
        isplitl [TC]; · iexact TC
        isplitl [S10]; · iexact S10
        iexact S11
      isplitl [T0 HWQ H0]
      · isplitl [T0]; · iexact T0
        isplitl [HWQ]; · iexact HWQ
        iexact H0
      · isplitl [T1]; · iexact T1
        isplitl [HWO]; · iexact HWO
        iexact H1
    isplitr; · iexact HREC
    isplitl [HO]; · iexists W; iexact HO
    iapply mk_sig
    isplitl [TB]; · iexact TB
    isplitl [R10] <;> iassumption
  · iexact HAR

end Cert.KernelRun

end
-- ==== Proof.LaunchRun.lean ====
/-
  The kernel's launch on all devices: the ghost state minted and dealt, the cells allocated, the body's obligation met, and
  what every final state holds.
-/
module

public import proofs.«01_k».proof.Proof.Obligation
public import proofs.«01_k».proof.Proof.Gen.KernelIdeal.Points
public import Idealize.ShloMosaic.Lib.Pipeline.CollectiveSegs

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => kstg m c
    | ⟨2, _⟩ => vstg m c
    | ⟨3, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xstg m c) ∗ stg c cc0_stg1_0 (kstg m c) ∗ stg c cc0_stg2_0 (vstg m c)
    ∗ stg c cc0_stg3_0 (outV m c))

theorem body_leave (c : Dev nD) : iprop(Φ₁ m c ∗ (∃ W, owes (c : Thread nD τ) 0 W) ∗ STG m c) ⊢ bodyPost m ρ c := by
  unfold STG bodyPost Dat.owesAt Pipeline.owesWithin
  rw [show (dats m ρ 0 c).owed t0_0.succ = 0 from rfl]
  iintro ⟨HP, ⟨%W, HO⟩, HX, HK, HV, HOUT⟩
  isplitl [HP]; · iexact HP
  isplitl [HO]
  · iexists W
    isplitr; · ipureintro; exact fun _ _ => Or.inl trivial
    iexact HO
  isplitl [HX]
  · iexists _; isplitr; · (ipureintro; rfl)
    iexact HX
  isplitl [HK]
  · iexists _; isplitr; · (ipureintro; rfl)
    iexact HK
  isplitl [HV]
  · iexists _; isplitr; · (ipureintro; rfl)
    iexact HV
  iexists _; isplitr; · (ipureintro; rfl)
  iexact HOUT

theorem sound_body (c : Dev nD) : bodyPre m ρ c ⊢ wpc c (cc0__body xM (Memref.isWhole_whole _) wqS (Memref.isWhole_whole _) kM (Memref.isWhole_whole _) vM (Memref.isWhole_whole _) woS (Memref.isWhole_whole _) oM (Memref.isWhole_whole _) wqM (Memref.isWhole_whole _) woM (Memref.isWhole_whole _) xbM (Memref.isWhole_whole _) wqbM (Memref.isWhole_whole _) wobM (Memref.isWhole_whole _) kbM (Memref.isWhole_whole _) vbM (Memref.isWhole_whole _) ctxM (Memref.isWhole_whole _) pM (Memref.isWhole_whole _) bsM (Memref.isWhole_whole _) rsM (Memref.isWhole_whole _) bcM (Memref.isWhole_whole _) cc0_scratch12 cc0_scratch13 cc0_scratch14 cc0_scratch15 cc0_scratch16) fun _ => bodyPost m ρ c := by
  unfold bodyPre
  iintro ⟨HP, Ho, ⟨%d0, %g0, %hg0, HX⟩, ⟨%d1, %g1, %hg1, HK⟩, ⟨%d2, %g2, %hg2, HV⟩, ⟨%d3, %g3, %hg3, HOUT⟩⟩
  have h0 : g0 = xstg m c := by rw [hg0]; unfold Dat.before; rw [if_pos (fetch0_0 t0_0)]; rfl
  have h1 : g1 = kstg m c := by rw [hg1]; unfold Dat.before; rw [if_pos (fetch0_1 t0_0)]; rfl
  have h2 : g2 = vstg m c := by rw [hg2]; unfold Dat.before; rw [if_pos (fetch0_2 t0_0)]; rfl
  subst h0 h1 h2
  unfold Dat.owesAt Pipeline.owesWithin
  icases Ho with ⟨%W, %hW, HO⟩
  rw [show (dats m ρ 0 c).owed t0_0.castSucc = O₀ c from rfl]
  have hb := BIBase.Entails.trans (body_run m (c := c) (fo := g3) W) (wp_mono _ _ _ fun _ => body_leave m ρ c)
  iapply hb
  isplitl [HP]; · iexact HP
  isplitl [HO]; · iexact HO
  isplitl [HX]; · iexact HX
  isplitl [HK]; · iexact HK
  isplitl [HV]; · iexact HV
  iexact HOUT

set_option maxRecDepth 4000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

/-- The purposes of the kernel's own semaphores: all but the ready signals'. -/
def ownCk (i : Fin 34) : Ck := ckList.getD (i.val + 1) .bar
def osem (i : Fin 34) : SemLoc sig := semOf (ownCk i)
theorem ownSemFacts : Pipeline.OwnSemFacts cfg0.spec osem := by decide +kernel

theorem share_eq (c : Dev nD) (w : Fin cfg0.W) : (dats m ρ 0 c).share w = fullShare := by unfold Dat.share; split <;> rfl

def kcell (ck : Dev nD × Ck) : GSem nD τ sig := cell ck.1 ck.2
theorem kcell_injective : Function.Injective kcell := fun a b h => Prod.ext (cell_inj h).1 (cell_inj h).2
def ringCells : Finset (GSem nD τ sig) := Finset.univ.map ⟨kcell, kcell_injective⟩

/-- A token for each device at each cell. -/
def tokOf (x : Dev nD × Dev nD × Ck) : GSem nD τ sig × ℕ × Dev nD := (cell x.2.1 x.2.2, 0, x.1)
theorem tokOf_injective : Function.Injective tokOf := fun a b h => by
  have h1 := cell_inj (congrArg Prod.fst h)
  have h2 : a.1 = b.1 := congrArg (fun y : GSem nD τ sig × ℕ × Dev nD => y.2.2) h
  exact Prod.ext h2 (Prod.ext h1.1 h1.2)
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The tokens of device `c`'s duties at every cell. -/
def toks (c : Dev nD) : sProp 𝕄 := bigSep Finset.univ fun p : Dev nD => bigSep Finset.univ fun k : Ck => dutyTok ER (cell p k) 0 c

/-- What the launch deals device `c`. -/
def G (c : Dev nD) : sProp 𝕄 :=
  iprop((bigSep Finset.univ fun k : Ck => roundState ER (rd m) (kcell (c, k)) 0)
    ∗ (bigSep Finset.univ fun k : Ck => iprop(atPos ER (kcell (c, k)) 0 ∅ 0 ∗ reached ER (kcell (c, k)) 0)) ∗ toks c)

/-- The cells' invariants, and that each is at its first round. -/
def records (K : Dev nD × Ck → ℕ) : sProp 𝕄 :=
  iprop((bigSep Finset.univ fun ck : Dev nD × Ck => cellInv ER (rd m) (K ck) (kcell ck))
    ∗ bigSep Finset.univ fun ck : Dev nD × Ck => reached ER (kcell ck) 0)
instance records_persistent (K : Dev nD × Ck → ℕ) : BI.Persistent (records m K) := by unfold records; infer_instance

/-- What stays with device `c`. -/
def linear (c : Dev nD) : sProp 𝕄 := iprop((bigSep Finset.univ fun k : Ck => atPos ER (kcell (c, k)) 0 ∅ 0) ∗ toks c)
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine BI.bigSep_congr fun c _ => ?_
    unfold toks; rw [bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (cell c (.ld 0)) 0 ∗ semVal (cell c (.ld 1)) 0 ∗ semVal (cell c (.snd 0)) 0 ∗ semVal (cell c (.snd 1)) 0 ∗ semVal (cell c (.snd 2)) 0 ∗ semVal (cell c (.snd 3)) 0 ∗ semVal (cell c (.snd 4)) 0 ∗ semVal (cell c (.snd 5)) 0 ∗ semVal (cell c (.snd 6)) 0 ∗ semVal (cell c (.snd 7)) 0 ∗ semVal (cell c (.rcv 0)) 0 ∗ semVal (cell c (.rcv 1)) 0 ∗ semVal (cell c (.rcv 2)) 0 ∗ semVal (cell c (.rcv 3)) 0 ∗ semVal (cell c (.rcv 4)) 0 ∗ semVal (cell c (.rcv 5)) 0 ∗ semVal (cell c (.rcv 6)) 0 ∗ semVal (cell c (.rcv 7)) 0 ∗ semVal (cell c (.bsnd 0)) 0 ∗ semVal (cell c (.bsnd 1)) 0 ∗ semVal (cell c (.bsnd 2)) 0 ∗ semVal (cell c (.bsnd 3)) 0 ∗ semVal (cell c (.bsnd 4)) 0 ∗ semVal (cell c (.bsnd 5)) 0 ∗ semVal (cell c (.bsnd 6)) 0 ∗ semVal (cell c (.bsnd 7)) 0 ∗ semVal (cell c (.brcv 0)) 0 ∗ semVal (cell c (.brcv 1)) 0 ∗ semVal (cell c (.brcv 2)) 0 ∗ semVal (cell c (.brcv 3)) 0 ∗ semVal (cell c (.brcv 4)) 0 ∗ semVal (cell c (.brcv 5)) 0 ∗ semVal (cell c (.brcv 6)) 0 ∗ semVal (cell c (.brcv 7)) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33] (by decide +kernel) (by decide +kernel)]; rfl

theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl

theorem sems0_eq (c : Dev nD) : (bigSep Finset.univ fun k : Ck => semVal (cell c k) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, ck_list]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (rd m) κ (kcell (c, k))))
          ∗ (bigSep Finset.univ fun k : Ck => iprop(atPos ER (kcell (c, k)) 0 ∅ 0 ∗ reached ER (kcell (c, k)) 0)) ∗ toks c) := by
  have hs := Entails.of_eq (sems0_eq (F := F) c).symm
  unfold G
  iintro ⟨Hos, Hus, Hst, Hat, Htok⟩
  ihave Hv := hs $$ [Hos Hus]
  · isplitl [Hus] <;> iassumption
  imod (show iprop((bigSep Finset.univ fun k : Ck => semVal (cell c k) 0) ∗ bigSep Finset.univ fun k : Ck => roundState ER (rd m) (kcell (c, k)) 0)
      ⊢ (|={Set.univ}=> bigSep Finset.univ fun k : Ck => iprop(∃ κ : ℕ, cellInv ER (rd m) κ (kcell (c, k))) : sProp 𝕄) from by
        rw [← bigSep_sep']
        exact BIBase.Entails.trans (BI.bigSep_mono fun k _ => BIBase.Entails.trans (Rounds.body_intro ER (rd m) (kcell (c, k))) inv_alloc) (bigSep_fupd _ _)) $$ [Hv Hst] with Hinv
  · isplitl [Hv] <;> iassumption
  imodintro
  isplitl [Hinv]; · iexact Hinv
  isplitl [Hat]; · iexact Hat
  iexact Htok

theorem ghost_intro (K : Dev nD × Ck → ℕ) (c : Dev nD) : iprop(records m K ∗ linear c) ⊢ G' m c := by
  unfold G'
  iintro H
  iexists K
  iexact H

theorem regroup :
    (bigSep Finset.univ fun c : Dev nD => iprop((bigSep Finset.univ fun k : Ck => iprop(∃ κ : ℕ, cellInv ER (rd m) κ (kcell (c, k))))
          ∗ (bigSep Finset.univ fun k : Ck => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Ck => iprop(∃ κ : ℕ, cellInv ER (rd m) κ (kcell ck))),
    BI.bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (rd m) κ (kcell ck) : sProp 𝕄))) $$ HI
  icases HK with ⟨%K, #HI⟩
  iapply (with_persistent (R := records m K) fun c _ => ghost_intro m K c)
  isplitr
  · unfold records; isplitl; · iexact HI
    iexact HR
  · have hl : iprop((bigSep Finset.univ fun c : Dev nD => bigSep Finset.univ fun k : Ck => atPos ER (kcell (c, k)) 0 ∅ 0) ∗ bigSep Finset.univ toks) ⊢ (bigSep Finset.univ linear : sProp 𝕄) :=
      Entails.of_eq (bigSep_sep' _ _ _).symm
    iapply hl
    isplitl [Hat]; · iexact Hat
    iexact Htok

/-- Every device's own and unscoped semaphores turned into cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (BI.bigSep_mono fun c _ => core_alloc m c) (bigSep_fupd _ _)) (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HARG, Hlev, Hcr, -, HG⟩
  ihave Hc := (creds (F := F) c) $$ Hcr
  imodintro
  unfold start G' records linear toks ARG
  icases HG with ⟨%K, ⟨⟨HI, HR⟩, HP, HT⟩⟩
  isplitl
  · isplitl [HI HR Hlev]
    · iexists K
      unfold recs
      isplitl [HI]; · iexact HI
      isplitl [HR]; · iexact HR
      iexact Hlev
    isplitl [HP]; · iexact HP
    isplitl [HT]; · iexact HT
    isplitl [Hc]; · iexact Hc
    iexact HARG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ SCR
  iintro ⟨Hs, -, Hr⟩
  isplitl [Hs]; · iexact Hs
  iexact Hr

theorem phi1_exit (c : Dev nD) :
    (dats m ρ 0 c).Φ (Fin.last cfg0.N) ⊢ iprop((unscopedSems0 c ∗ ARG m c) ∗ Pipeline.ownSems0 osem c ∗ Pipeline.scopedRest cfg0.spec c) := by
  rw [show (dats m ρ 0 c).Φ (Fin.last cfg0.N) = Φ₁ m c from rfl, scopedRest0_eq]
  unfold Φ₁ SCR
  rw [sems0_eq]
  iintro ⟨Hr, ⟨HU, HO⟩, HA⟩
  isplitl [HU HA]
  · isplitl [HU] <;> iassumption
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t => by
    have hk : kind (SemLoc.dma ((cfg0.spec w).sem s)) = none := by
      revert w s; decide +kernel
    rcases t with ⟨_ | _, ht⟩
    · exact mayWait_owed c _ 0 0 0 0 (by rw [hk]; exact Nat.le_refl 0) (fun _ => Nat.one_pos) (fun _ => by decide) (fun _ => by decide)
    · show _ ⊢ MayWait _ _ _ 0
      rw [MayWait_zero]; iintro -; iempintro

/-- What device `c`'s array `w` holds in the end. -/
def finalA (c : Dev nD) (w : Fin cfg0.W) : Buf (Elt F) ((cfg0.win w).arr.view.loc (c : Thread nD τ)) := (dats m ρ 0 c).arrAt w cfg0.N

/-- The end: the staged arrays as the data say, the two weights read in place as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1) ∧ r.2.mem ((c : Thread nD τ).loc main_arg4) = m ((c : Thread nD τ).loc main_arg4)

theorem read_end (c : Dev nD) (s' : Phys nD τ sig (Elt F)) : iprop((unscopedSems0 c ∗ ARG m c) ∗ emp ∗ SI s')
    ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1) ∧ s'.mem.mem ((c : Thread nD τ).loc main_arg4) = m ((c : Thread nD τ).loc main_arg4)⌝ ∗ SI s') : sProp 𝕄) := by
  have hr := pointsTo_read_all (Ix := Unit) (Name := ℕ) (U := UU) (Lvl := ℕ) (Finset.univ : Finset (Fin 2)) (fun i => (c : Thread nD τ).loc (if i = 0 then main_arg1 else main_arg4))
    (fun i => m ((c : Thread nD τ).loc (if i = 0 then main_arg1 else main_arg4))) s'
  rw [bigSep_univ_eq_bigSepL [(0 : Fin 2), 1] (by decide) (by decide)] at hr
  have hr' : iprop(ARG m c ∗ SI s') ⊢ (iprop(⌜∀ i ∈ (Finset.univ : Finset (Fin 2)), s'.mem.mem ((c : Thread nD τ).loc (if i = 0 then main_arg1 else main_arg4)) = m ((c : Thread nD τ).loc (if i = 0 then main_arg1 else main_arg4))⌝ ∗ SI s') : sProp 𝕄) := hr
  iintro ⟨⟨HU, HA⟩, -, HSI⟩
  ihave HH := hr' $$ [HA HSI]
  · isplitl [HA] <;> iassumption
  icases HH with ⟨%h, HSI⟩
  imod (Pipeline.unscopedSems0_read (X := unscopedSems0 c) (c := c) fupd_intro s') $$ [HU HSI] with ⟨%hz, HSI⟩
  · isplitl [HU] <;> iassumption
  imodintro
  isplitr
  · ipureintro
    exact ⟨hz, h 0 (Finset.mem_univ _), h 1 (Finset.mem_univ _)⟩
  · iexact HSI

set_option maxRecDepth 8000 in
/-- On eight devices, for any float values, from any memory with zero counters: every weakly fair execution of the eight
    kernels terminates, and every final state has each device's result array at the computed contents, the arguments
    unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ ARG m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg4) = m ((c : Thread nD τ).loc main_arg4))
    (hY := read_end m)
    (hQ := fun _ h hs => ⟨fun c => ⟨(h c).1, (h c).2.2.2⟩, sem_eq_zero hs fun c => (h c).2.2.1⟩)

end Cert.KernelRun

end
-- ==== Proof.Same.lean ====
/-
  The program as printed is the idealized program read with the literal the named constant stands for.
-/
module

public import proofs.«01_k».proof.Defs
public import proofs.«01_k».proof.Proof.Gen.Kernel
public import proofs.«01_k».proof.Proof.Gen.KernelIdeal
public import Idealize.ShloMosaic.Adequacy

@[expose] public section

noncomputable section

namespace Cert.KernelSame

open Idealize.ShloMosaic Idealize.SL.Sem

/-- Bit arithmetic reads a named constant as the literal printed beside it. -/
@[instance_reducible] def namedBits : Named Bits where
  named _ _ φ b := FloatOps.ofBits φ b

attribute [local instance] namedBits Cert.Kernel.Gen.facts Cert.KernelIdeal.Gen.facts

theorem body : Cert.Kernel.cc0__body (F := Bits) = Cert.KernelIdeal.cc0__body (F := Bits) := rfl

theorem main_eq : Cert.Kernel.main (F := Bits) = Cert.KernelIdeal.main (F := Bits) := rfl

theorem defs₀_eq : Cert.Kernel.defs₀ (F := Bits) = Cert.KernelIdeal.defs₀ (F := Bits) := by
  funext p ℓ a
  cases p with
  | tc =>
    obtain ⟨i, hi⟩ := ℓ
    cases i with
    | zero => obtain ⟨t, s⟩ := a; rfl
    | succ n => exact absurd hi (by omega)
  | scScalar _ => rfl
  | scVector _ _ => rfl

theorem defs_eq : Cert.Kernel.defs (F := Bits) = Cert.KernelIdeal.defs (F := Bits) :=
  congrArg (Pipeline.defs (Cert.KernelIdeal.pcfgs (F := Bits))) defs₀_eq

end Cert.KernelSame
-- ==== Proof.Frames.lean ====
/-
  What the three programs' runs leave of their arguments: nothing is written to an argument array, every counter is back at
  zero; and the one named constant is what its rule says.
-/
module

public import proofs.«01_k».proof.Proof.LaunchRun
public import proofs.«01_k».proof.Proof.Same
public import proofs.«01_k».proof.Proof.Gen.ReferenceIdeal.Run
public import Idealize.ShloMosaic.Init

@[expose] public section

noncomputable section

namespace Cert.KernelRun

open Cert.KernelIdeal Cert.KernelIdeal.Gen

open Idealize.ShloMosaic Idealize.ShloMosaic.TcCoe Idealize.SL.Sem
open Idealize.ShloMosaic.Pipeline (Dat)

variable {F : FTy → Type} [FloatOps F] [Named F]

/-- No argument array is written. -/
theorem args_kept (m : (ℓ : Loc nD τ sig) → Buf (Elt F) ℓ) (ρ : Dev nD → PrngReg) {r} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans ((dats m ρ 0 c).arrAt_in (0 : Fin 4) rfl _), (h c).2.1,
    ((h c).1 1).trans ((dats m ρ 0 c).arrAt_in (1 : Fin 4) rfl _),
    ((h c).1 2).trans ((dats m ρ 0 c).arrAt_in (2 : Fin 4) rfl _), (h c).2.2⟩

/-- The kernel runs, for any float values, its argument arrays and every counter ending as they began. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m ρ h.1 c, h.2⟩) (run_main m ρ)

theorem frame_pi : Cert.quiescent_KernelIdeal := fun m ρ _ => frame (F := Ideal) m ρ

section
attribute [local instance] Cert.KernelSame.namedBits

theorem frame_p : Cert.quiescent_Kernel := by
  intro m ρ _
  rw [Cert.KernelSame.main_eq, Cert.KernelSame.defs_eq]
  exact frame (F := Bits) m ρ

end

theorem frame_ri : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

end Cert.KernelRun
-- ==== Proof.RowMath.lean ====
/-
  One row of attention over the extended reals: the softmax weights less the row's largest score, applied
  to the values, against the exponentials applied to the values and divided once by their sum.
-/
module

public import Idealize.ShloMosaic.PureOps.Ideal
public import Idealize.ShloMosaic.PureOps.Ideal.Laws

@[expose] public section

noncomputable section

namespace Cert.RowMath

open Idealize.ShloMosaic

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals times a nonnegative real is the sum of the products. -/
theorem sum_mul {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of real extended reals is real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- The exponential of a masked score: zero where the mask drops the key. -/
def ew {ι : Type*} (near : ι → Prop) [DecidablePred near] (s : ι → ℝ) (j : ι) : ℝ := if near j then Real.exp (s j) else 0

theorem ew_nonneg {ι : Type*} (near : ι → Prop) [DecidablePred near] (s : ι → ℝ) (j : ι) : 0 ≤ ew near s j := by
  unfold ew; split
  · exact (Real.exp_pos _).le
  · exact le_rfl

theorem exp_masked {ι : Type*} (near : ι → Prop) [DecidablePred near] (s : ι → ℝ) (j : ι) :
    Ideal.exp (if near j then (s j : EReal) else ⊥) = (ew near s j : EReal) := by
  unfold ew; split
  · exact Ideal.exp_coe _
  · simp

/-- The largest masked score of a row with a kept key is real. -/
theorem top_real {ι : Type*} [Fintype ι] (near : ι → Prop) [DecidablePred near] (s : ι → ℝ) (j₀ : ι) (h₀ : near j₀) :
    ∃ M : ℝ, (Finset.univ : Finset ι).fold max (⊥ : EReal) (fun j => if near j then (s j : EReal) else ⊥) = M := by
  classical
  have key : ∀ t : Finset ι, (t.fold max (⊥ : EReal) (fun j => if near j then (s j : EReal) else ⊥) = ⊥
      ∨ ∃ M : ℝ, t.fold max (⊥ : EReal) (fun j => if near j then (s j : EReal) else ⊥) = M)
      ∧ ∀ j ∈ t, (if near j then (s j : EReal) else ⊥) ≤ t.fold max (⊥ : EReal) (fun j => if near j then (s j : EReal) else ⊥) := by
    intro t
    induction t using Finset.induction_on with
    | empty => exact ⟨.inl (by simp), by simp⟩
    | insert a t ha ih =>
      rw [Finset.fold_insert ha]
      refine ⟨?_, ?_⟩
      · by_cases hn : near a
        · rw [if_pos hn]
          rcases ih.1 with h | ⟨M, h⟩
          · rw [h]; exact .inr ⟨s a, max_bot_right _⟩
          · rw [h]; exact .inr ⟨max (s a) M, (EReal.coe_strictMono.monotone.map_max).symm⟩
        · rw [if_neg hn, max_bot_left]; exact ih.1
      · intro j hj
        rcases Finset.mem_insert.mp hj with rfl | hj
        · exact le_max_left _ _
        · exact (ih.2 j hj).trans (le_max_right _ _)
  obtain ⟨h | h, hle⟩ := key Finset.univ
  · exfalso
    have := hle j₀ (Finset.mem_univ _)
    rw [h, if_pos h₀] at this
    exact EReal.coe_ne_bot _ (le_bot_iff.mp this)
  · exact h

/-- A query row and a key row at most 128 apart. -/
def near (i j : ℕ) : Prop := i ≤ j + 128 ∧ j ≤ i + 128

instance (i j : ℕ) : Decidable (near i j) := by unfold near; infer_instance

theorem abs_le_word : ∀ a : Fin 1024,
    (IntOp.cmpi .sle (IntOp.absi (BitVec.ofNat 32 a.val)) 128#32 = 1#1 ↔ a.val ≤ 128)
    ∧ (IntOp.cmpi .sle (IntOp.absi (-BitVec.ofNat 32 a.val)) 128#32 = 1#1 ↔ a.val ≤ 128) := by
  decide +kernel

/-- The mask's bit, on 32-bit words: the absolute difference of two rows compared with 128. -/
theorem near_word {i j : ℕ} (hi : i < 1024) (hj : j < 1024) :
    IntOp.cmpi .sle (IntOp.absi (IntOp.subi (BitVec.ofNat 32 i) (BitVec.ofNat 32 j))) 128#32 = 1#1 ↔ near i j := by
  unfold near
  rcases Nat.le_total j i with h | h
  · have e : IntOp.subi (BitVec.ofNat 32 i) (BitVec.ofNat 32 j) = BitVec.ofNat 32 (i - j) := by
      show BitVec.ofNat 32 i - BitVec.ofNat 32 j = _
      apply BitVec.eq_of_toNat_eq
      rw [BitVec.toNat_sub, BitVec.toNat_ofNat, BitVec.toNat_ofNat, BitVec.toNat_ofNat]; omega
    rw [e, (abs_le_word ⟨i - j, by omega⟩).1]
    show i - j ≤ 128 ↔ _
    omega
  · have e : IntOp.subi (BitVec.ofNat 32 i) (BitVec.ofNat 32 j) = -BitVec.ofNat 32 (j - i) := by
      show BitVec.ofNat 32 i - BitVec.ofNat 32 j = _
      apply BitVec.eq_of_toNat_eq
      rw [BitVec.toNat_sub, BitVec.toNat_neg, BitVec.toNat_ofNat, BitVec.toNat_ofNat, BitVec.toNat_ofNat]; omega
    rw [e, (abs_le_word ⟨j - i, by omega⟩).2]
    show j - i ≤ 128 ↔ _
    omega

/-- The pattern of minus infinity. -/
theorem ofBits_neg_inf : Ideal.ofBits .f32 0xFF800000#32 = ⊥ := by simp [Ideal.ofBits, Ideal.ieee]

/-- The pattern of the scores' scale is a real number. -/
theorem scale_real : ∃ r : ℝ, Ideal.ofBits .f32 0x3DB504F3#32 = r := by
  simp [Ideal.ofBits, Ideal.ieee]
  exact mul_real ⟨_, rfl⟩ ⟨_, rfl⟩

/-- A fold by `or` with a one among its bits is one. -/
theorem fold_ori {ι : Type*} (t : Finset ι) (f : ι → BitVec 1) (j : ι) (hj : j ∈ t) (h : f j = 1#1) :
    t.fold IntOp.ori 0#1 f = 1#1 := by
  classical
  rw [← Finset.insert_erase hj, Finset.fold_insert (Finset.notMem_erase j t), h]
  generalize (t.erase j).fold IntOp.ori 0#1 f = b
  revert b; decide

/-- The reference's row: weights normalised first, then applied to the values. -/
def refRow {ι : Type*} [Fintype ι] (sm : ι → EReal) (v : ι → EReal) : EReal :=
  ∑ j, v j * Ideal.div (Ideal.exp (sm j - Finset.univ.fold max (⊥ : EReal) sm))
    (∑ j', Ideal.exp (sm j' - Finset.univ.fold max (⊥ : EReal) sm))

/-- The kernel's row: exponentials applied to the values, then scaled by the reciprocal of their sum. -/
def kerRow {κ : Type*} [Fintype κ] (sm : κ → EReal) (v : κ → EReal) : EReal :=
  (∑ j, Ideal.exp (sm j) * v j) * Ideal.div 1 (∑ j, Ideal.exp (sm j))

/-- The two rows agree at real scores when the kernel's keys contain every key the mask keeps. -/
theorem row_eq {ι κ : Type*} [Fintype ι] [Fintype κ] (near : ι → Prop) [DecidablePred near] (s : ι → ℝ) (v : ι → EReal)
    (e : κ → ι) (he : Function.Injective e) (hin : ∀ j, near j → j ∈ Set.range e) (j₀ : ι) (h₀ : near j₀) :
    kerRow (fun k => if near (e k) then (s (e k) : EReal) else ⊥) (fun k => v (e k))
      = refRow (fun j => if near j then (s j : EReal) else ⊥) v := by
  classical
  obtain ⟨M, hM⟩ := top_real near s j₀ h₀
  have hS : 0 < ∑ j, ew near s j :=
    Finset.sum_pos' (fun j _ => ew_nonneg near s j) ⟨j₀, Finset.mem_univ _, by unfold ew; rw [if_pos h₀]; exact Real.exp_pos _⟩
  have hc : 0 < Real.exp (-M) := Real.exp_pos _
  have hout : ∀ j, j ∉ Set.range e → ew near s j = 0 := fun j hj => by
    unfold ew; rw [if_neg fun h => hj (hin j h)]
  -- the reference's exponentials
  have hexp : ∀ j, Ideal.exp ((if near j then (s j : EReal) else ⊥) - (M : EReal)) = ((ew near s j * Real.exp (-M) : ℝ) : EReal) := by
    intro j
    unfold ew
    split
    · rw [← EReal.coe_sub, Ideal.exp_coe, ← Real.exp_add, sub_eq_add_neg]
    · rw [EReal.bot_sub, Ideal.exp_bot]; simp
  unfold refRow kerRow
  rw [hM]
  simp only [hexp, exp_masked]
  have hS' : (∑ j, ew near s j) * Real.exp (-M) ≠ 0 := (mul_pos hS hc).ne'
  have d1 : ∑ j, ((ew near s j * Real.exp (-M) : ℝ) : EReal) = (((∑ j, ew near s j) * Real.exp (-M) : ℝ) : EReal) := by
    rw [← coe_sum, Finset.sum_mul]
  -- the kernel's sums, over all keys
  have k1 : ∑ k, (ew near s (e k) : EReal) = ((∑ j, ew near s j : ℝ) : EReal) := by
    rw [coe_sum]
    exact Fintype.sum_of_injective e he _ _ (fun j hj => by rw [hout j hj]; simp) (fun _ => rfl)
  have k2 : ∑ k, (ew near s (e k) : EReal) * v (e k) = ∑ j, (ew near s j : EReal) * v j :=
    Fintype.sum_of_injective e he _ _ (fun j hj => by rw [hout j hj]; simp) (fun _ => rfl)
  rw [k1, k2, d1]
  simp only [Ideal.div_coe hS', Ideal.div_coe hS.ne']
  rw [one_mul, sum_mul _ _ (by positivity)]
  refine Finset.sum_congr rfl fun j _ => ?_
  rw [mul_comm (ew near s j : EReal) (v j), mul_assoc, ← EReal.coe_mul, ← EReal.coe_mul]
  congr 2
  field_simp

end Cert.RowMath
-- ==== Proof.KernelRead.lean ====
/-
  The kernel's contents, read at an index over the extended reals: one head's attention row over its window,
  the projected part of each device, the sum of the eight parts, and the result.
-/
module

public import proofs.«01_k».proof.Proof.LaunchRun
public import proofs.«01_k».proof.Proof.RowMath
public import Idealize.ShloMosaic.Lib.Pointwise

@[expose] public section

noncomputable section

namespace Cert.KernelRun

open Cert.KernelIdeal Cert.KernelIdeal.Gen

open Idealize.ShloMosaic
open Idealize.ShloMosaic.TcCoe
open Idealize.SL.Sem
open Cert.RowMath
open Idealize.ShloMosaic.Pipeline (Dat Cfg Window)

variable (m : (ℓ : Loc nD τ sig) → Buf (Elt Ideal) ℓ)

/-! ## The arguments and two of the contents, as extended reals -/

def argX (c : Dev nD) : S1024x1024.Idx → EReal := m ((c : Thread nD τ).loc main_arg0)
def argQ (c : Dev nD) : S1024x8192.Idx → EReal := m ((c : Thread nD τ).loc main_arg1)
def argK (c : Dev nD) : S1024x1024.Idx → EReal := m ((c : Thread nD τ).loc main_arg2)
def argV (c : Dev nD) : S1024x1024.Idx → EReal := m ((c : Thread nD τ).loc main_arg3)
def argO (c : Dev nD) : S8192x1024.Idx → EReal := m ((c : Thread nD τ).loc main_arg4)
def ctxE (c : Dev nD) : S1024x1024.Idx → EReal := ctxV m c
def partE (c : Dev nD) : S1024x1024.Idx → EReal := pV m c

/-! ## The payloads at an index -/

theorem mask_val : Named.named (F := Ideal) (φ := .f32) κ "mask" 0xCE6E6B28#32 = (⊥ : EReal) :=
  IdealRules.named_const.ideal_named_scalar κ "mask" _ ⊥ rfl

theorem pay10_apply (msk : IVec S256x512 1) (q : FVec Ideal S256x128 .bf16) (k v : Vec Ideal S512x128 .bf16) (a : Fin 256) (d : Fin 128) :
    k0_pay10 msk q k v (ix2 a d)
      = kerRow (fun j : Fin 512 => Scalar.select (msk (ix2 a j))
          ((∑ e : Fin 128, (q (ix2 a e) : EReal) * k (ix2 j e)) * Ideal.ofBits .f32 0x3DB504F3#32) (⊥ : EReal))
        (fun j : Fin 512 => v (ix2 j d)) := by
  unfold kerRow
  rw [← mask_val]
  pointwise [k0_pay10]

theorem pay7_apply (x : Vec Ideal S256x1024 .bf16) (w : Vec Ideal S1024x1024 .bf16) (a : Fin 256) (n : Fin 1024) :
    k0_pay7 x w (ix2 a n) = ∑ t : Fin 1024, (x (ix2 a t) : EReal) * w (ix2 t n) := by
  pointwise [k0_pay7]

theorem pay25_apply (x : Vec Ideal S256x1024 .bf16) (w : Vec Ideal S1024x1024 .bf16) (a : Fin 256) (n : Fin 1024) :
    k0_pay25 x w (ix2 a n) = ∑ t : Fin 1024, (x (ix2 a t) : EReal) * w (ix2 t n) := by
  pointwise [k0_pay25]

theorem pay1_apply (x : Vec Ideal S1024x1024 .f32) (a n : Fin 1024) : k0_pay1 x (ix2 a n) = x (ix2 a n) := by
  pointwise [k0_pay1]
theorem pay2_apply (x : Vec Ideal S1024x1024 .f32) (a n : Fin 1024) : k0_pay2 x (ix2 a n) = x (ix2 a n) := by
  pointwise [k0_pay2]
theorem pay3_apply (x : Vec Ideal S1024x1024 .f32) (a n : Fin 1024) : k0_pay3 x (ix2 a n) = x (ix2 a n) := by
  pointwise [k0_pay3]
theorem pay54_apply (x : Vec Ideal S1024x1024 .f32) (a n : Fin 1024) : k0_pay5 (k0_pay4 x) (ix2 a n) = x (ix2 a n) := by
  pointwise [k0_pay4, k0_pay5]
theorem pay6_apply (x : Vec Ideal S1024x1024 .f32) (a n : Fin 1024) : k0_pay6 x (ix2 a n) = x (ix2 a n) := by
  pointwise [k0_pay6]
theorem pay86_apply (x : Vec Ideal S1x128x1024 .bf16) (a : Fin 128) (n : Fin 1024) : k0_pay86 x (ix2 a n) = x (ix3 0 a n) := by
  pointwise [k0_pay86]

theorem qcol_apply (h : Fin 8) (q : FVec Ideal S256x1024 .f32) (a : Fin 256) (e : Fin 128) :
    qcol h q (ix2 a e) = q (ix2 a ⟨h.val * 128 + e.val, by omega⟩) := by
  fin_cases h <;> (unfold qcol; pointwise)

/-! ## The blocks -/

theorem xstg_apply (c : Dev nD) (i t : Fin 1024) : xstg m c (ix2 i t) = argX m c (ix2 i t) := by
  unfold xstg
  refine congrArg (argX m c) ?_
  funext b; apply Fin.ext
  match b with
  | ⟨0, _⟩ => show 0 + 1 * i.val = i.val; omega
  | ⟨1, _⟩ => show 0 + 1 * t.val = t.val; omega
theorem kstg_apply (c : Dev nD) (i t : Fin 1024) : kstg m c (ix2 i t) = argK m c (ix2 i t) := by
  unfold kstg
  refine congrArg (argK m c) ?_
  funext b; apply Fin.ext
  match b with
  | ⟨0, _⟩ => show 0 + 1 * i.val = i.val; omega
  | ⟨1, _⟩ => show 0 + 1 * t.val = t.val; omega
theorem vstg_apply (c : Dev nD) (i t : Fin 1024) : vstg m c (ix2 i t) = argV m c (ix2 i t) := by
  unfold vstg
  refine congrArg (argV m c) ?_
  funext b; apply Fin.ext
  match b with
  | ⟨0, _⟩ => show 0 + 1 * i.val = i.val; omega
  | ⟨1, _⟩ => show 0 + 1 * t.val = t.val; omega

theorem off1_val : ∀ c : Dev nD, k0_off1 c 0 = 0 ∧ k0_off1 c 1 = c.val * 1024 := by decide +kernel
theorem off2_val : ∀ c : Dev nD, k0_off2 c 0 = c.val * 1024 ∧ k0_off2 c 1 = 0 := by decide +kernel

theorem wqV_apply (c : Dev nD) (t n : Fin 1024) :
    wqV m c (ix2 t n) = argQ m c (ix2 t ⟨c.val * 1024 + n.val, by have : c.val < 8 := c.isLt; omega⟩) := by
  unfold wqV
  refine congrArg (argQ m c) ?_
  funext b; apply Fin.ext
  match b with
  | ⟨0, _⟩ => show k0_off1 c 0 + 1 * t.val = t.val; rw [(off1_val c).1]; omega
  | ⟨1, _⟩ => show k0_off1 c 1 + 1 * n.val = c.val * 1024 + n.val; rw [(off1_val c).2]; omega
theorem woV_apply (c : Dev nD) (k n : Fin 1024) :
    woV m c (ix2 k n) = argO m c (ix2 ⟨c.val * 1024 + k.val, by have : c.val < 8 := c.isLt; omega⟩ n) := by
  unfold woV
  refine congrArg (argO m c) ?_
  funext b; apply Fin.ext
  match b with
  | ⟨0, _⟩ => show k0_off2 c 0 + 1 * k.val = c.val * 1024 + k.val; rw [(off2_val c).1]; omega
  | ⟨1, _⟩ => show k0_off2 c 1 + 1 * n.val = n.val; rw [(off2_val c).2]; omega

theorem kst_lt (c : Dev nD) (r : Fin 4) (j : Fin 512) : kst c r + j.val < 1024 := by
  unfold kst; omega
theorem tileRow_lt (c : Dev nD) (r : Fin 4) (a : Fin 256) : 256 * tileOf c r + a.val < 1024 := by
  have := tileOf_lt c r; omega

theorem xT_apply (c : Dev nD) (r : Fin 4) (a : Fin 256) (t : Fin 1024) :
    xT m c r (ix2 a t) = xbV m c (ix2 ⟨256 * tileOf c r + a.val, tileRow_lt c r a⟩ t) := by
  unfold xT
  refine congrArg (xbV m c) ?_
  funext b; apply Fin.ext
  match b with
  | ⟨0, _⟩ => show 256 * tileOf c r + 1 * a.val = _; show _ = 256 * tileOf c r + a.val; omega
  | ⟨1, _⟩ => show 0 + 1 * t.val = t.val; omega
theorem cT_apply (c : Dev nD) (r : Fin 4) (a : Fin 256) (t : Fin 1024) :
    cT m c r (ix2 a t) = ctxE m c (ix2 ⟨256 * tileOf c r + a.val, tileRow_lt c r a⟩ t) := by
  unfold cT
  refine congrArg (ctxE m c) ?_
  funext b; apply Fin.ext
  match b with
  | ⟨0, _⟩ => show 256 * tileOf c r + 1 * a.val = _; show _ = 256 * tileOf c r + a.val; omega
  | ⟨1, _⟩ => show 0 + 1 * t.val = t.val; omega
theorem kT_apply (c : Dev nD) (r : Fin 4) (h : Fin 8) (j : Fin 512) (e : Fin 128) :
    kT m c r h (ix2 j e) = kbV m c (ix2 ⟨kst c r + j.val, kst_lt c r j⟩ ⟨h.val * 128 + e.val, by omega⟩) := by
  unfold kT
  refine congrArg (kbV m c) ?_
  funext b; apply Fin.ext
  match b with
  | ⟨0, _⟩ => show kst c r + 1 * j.val = _; show _ = kst c r + j.val; omega
  | ⟨1, _⟩ => show 128 * h.val + 1 * e.val = h.val * 128 + e.val; omega
theorem vT_apply (c : Dev nD) (r : Fin 4) (h : Fin 8) (j : Fin 512) (e : Fin 128) :
    vT m c r h (ix2 j e) = vbV m c (ix2 ⟨kst c r + j.val, kst_lt c r j⟩ ⟨h.val * 128 + e.val, by omega⟩) := by
  unfold vT
  refine congrArg (vbV m c) ?_
  funext b; apply Fin.ext
  match b with
  | ⟨0, _⟩ => show kst c r + 1 * j.val = _; show _ = kst c r + j.val; omega
  | ⟨1, _⟩ => show 128 * h.val + 1 * e.val = h.val * 128 + e.val; omega

/-! ## The mask -/

theorem rowW_val : ∀ (c : Dev nD) (r : Fin 4), rowW c (BitVec.ofNat 32 r.val) = BitVec.ofNat 32 (256 * tileOf c r)
    ∧ Scalar.minsi 512#32 (Scalar.maxsi 0#32 (Scalar.subi (rowW c (BitVec.ofNat 32 r.val)) 128#32)) = BitVec.ofNat 32 (kst c r) := by
  decide +kernel

theorem maskV_apply (c : Dev nD) (r : Fin 4) (a : Fin 256) (j : Fin 512) :
    maskV c (BitVec.ofNat 32 r.val) (ix2 a j) = 1#1 ↔ near (256 * tileOf c r + a.val) (kst c r + j.val) := by
  rw [← near_word (tileRow_lt c r a) (kst_lt c r j)]
  unfold maskV
  rw [(rowW_val c r).2, (rowW_val c r).1]
  have e : ∀ x y : ℕ, IntOp.addi (BitVec.ofNat 32 x) (BitVec.ofNat 32 y) = BitVec.ofNat 32 (x + y) := fun x y => by
    show BitVec.ofNat 32 x + BitVec.ofNat 32 y = _
    rw [BitVec.ofNat_add]
  rw [← e, ← e]
  pointwise

/-! ## One device's part -/

/-- Device `c`'s query of row `i` at its own column `n`. -/
def qryK (c : Dev nD) (i n : Fin 1024) : EReal :=
  ∑ t : Fin 1024, argX m c (ix2 i t)
    * argQ m c (ix2 t ⟨c.val * 1024 + n.val, by have : c.val < 8 := c.isLt; omega⟩)

/-- Device `c`'s score of row `i` against key `j` under its own head `h`. -/
def scoK (c : Dev nD) (h : Fin 8) (i j : Fin 1024) : EReal :=
  (∑ e : Fin 128, qryK m c i ⟨h.val * 128 + e.val, by omega⟩
      * argK m c (ix2 j ⟨h.val * 128 + e.val, by omega⟩)) * Ideal.ofBits .f32 0x3DB504F3#32

theorem qV_apply (c : Dev nD) (r : Fin 4) (a : Fin 256) (n : Fin 1024) :
    qV m c r (ix2 a n) = qryK m c ⟨256 * tileOf c r + a.val, tileRow_lt c r a⟩ n := by
  unfold qV qryK
  rw [pay7_apply]
  refine Finset.sum_congr rfl fun t _ => ?_
  rw [xT_apply]; unfold xbV wqbV
  rw [pay1_apply, pay54_apply, xstg_apply, wqV_apply]

theorem headV_apply (c : Dev nD) (r : Fin 4) (h : Fin 8) (a : Fin 256) (d : Fin 128) :
    headV m c r h (ix2 a d)
      = kerRow (fun j : Fin 512 => if near (256 * tileOf c r + a.val) (kst c r + j.val)
            then scoK m c h ⟨256 * tileOf c r + a.val, tileRow_lt c r a⟩ ⟨kst c r + j.val, kst_lt c r j⟩ else ⊥)
          (fun j : Fin 512 => argV m c (ix2 ⟨kst c r + j.val, kst_lt c r j⟩ ⟨h.val * 128 + d.val, by omega⟩)) := by
  unfold headV headF
  rw [pay10_apply]
  refine congrArg₂ kerRow (funext fun j => ?_) (funext fun j => ?_)
  · refine if_congr (maskV_apply c r a j) ?_ rfl
    unfold scoK
    refine congrArg (· * Ideal.ofBits .f32 0x3DB504F3#32) (Finset.sum_congr rfl fun e _ => ?_)
    refine congrArg₂ (· * ·) ?_ ?_
    · exact (qcol_apply h (qV m c r) a e).trans (qV_apply m c r a _)
    · rw [kT_apply]; unfold kbV; rw [pay2_apply, kstg_apply]
  · rw [vT_apply]; unfold vbV; rw [pay3_apply, vstg_apply]

theorem tileOf_stepOf : ∀ (c : Dev nD) (t : Fin 4), tileOf c (stepOf c t.val) = t.val := by decide +kernel

/-- The attention output of device `c` at row `i`, head `h` and column `d`, over the row's window. -/
theorem ctxV_apply (c : Dev nD) (i : Fin 1024) (k : Fin 1024) :
    ∃ r : Fin 4, tileOf c r = i.val / 256 ∧
    ctxE m c (ix2 i k)
      = kerRow (fun j : Fin 512 => if near i.val (kst c r + j.val)
            then scoK m c ⟨k.val / 128, by omega⟩ i ⟨kst c r + j.val, kst_lt c r j⟩ else ⊥)
          (fun j : Fin 512 => argV m c (ix2 ⟨kst c r + j.val, kst_lt c r j⟩ k)) := by
  have ht : tileOf c (stepOf c (i.val / 256)) = i.val / 256 := tileOf_stepOf c ⟨i.val / 256, by omega⟩
  refine ⟨stepOf c (i.val / 256), ht, ?_⟩
  have e := headV_apply m c (stepOf c (i.val / 256)) ⟨k.val / 128, by omega⟩ ⟨i.val % 256, by omega⟩ ⟨k.val % 128, by omega⟩
  have hi : 256 * tileOf c (stepOf c (i.val / 256)) + i.val % 256 = i.val := by rw [ht]; omega
  have hk : k.val / 128 * 128 + k.val % 128 = k.val := by omega
  simp only [hi, hk] at e
  exact e

theorem pT_apply (c : Dev nD) (r : Fin 4) (a : Fin 256) (n : Fin 1024) :
    (pT m c r (ix2 a n) : EReal) = ∑ k : Fin 1024, ctxE m c (ix2 ⟨256 * tileOf c r + a.val, tileRow_lt c r a⟩ k)
      * argO m c (ix2 ⟨c.val * 1024 + k.val, by have : c.val < 8 := c.isLt; omega⟩ n) := by
  unfold pT
  rw [pay25_apply]
  refine Finset.sum_congr rfl fun t _ => ?_
  rw [cT_apply]; unfold wobV
  rw [pay6_apply, woV_apply]

/-- Device `c`'s part of the result at (i, n). -/
theorem pV_apply (c : Dev nD) (i n : Fin 1024) :
    partE m c (ix2 i n) = ∑ k : Fin 1024, ctxE m c (ix2 i k)
      * argO m c (ix2 ⟨c.val * 1024 + k.val, by have : c.val < 8 := c.isLt; omega⟩ n) := by
  have ht : tileOf c (stepOf c (i.val / 256)) = i.val / 256 := tileOf_stepOf c ⟨i.val / 256, by omega⟩
  have hi : 256 * tileOf c (stepOf c (i.val / 256)) + i.val % 256 = i.val := by rw [ht]; omega
  have e := pT_apply m c (stepOf c (i.val / 256)) ⟨i.val % 256, by omega⟩ n
  simp only [hi] at e
  exact e

/-! ## The sum of the parts -/

theorem slR_apply (p : Dev nD) (f : (cc0_scratch10 : Ref sig .tc).ty.Contents (Elt Ideal)) (a : Fin 128) (n : Fin 1024) :
    slR p f (ix3 0 a n) = f (ix3 p a n) := by
  unfold slR
  refine congrArg f ?_
  funext b; apply Fin.ext
  match b with
  | ⟨0, _⟩ => show p.val + 1 * 0 = p.val; omega
  | ⟨1, _⟩ => show 0 + 1 * a.val = a.val; omega
  | ⟨2, _⟩ => show 0 + 1 * n.val = n.val; omega
theorem slB_apply (p : Dev nD) (f : (cc0_scratch11 : Ref sig .tc).ty.Contents (Elt Ideal)) (a : Fin 128) (n : Fin 1024) :
    slB p f (ix3 0 a n) = f (ix3 p a n) := by
  unfold slB
  refine congrArg f ?_
  funext b; apply Fin.ext
  match b with
  | ⟨0, _⟩ => show p.val + 1 * 0 = p.val; omega
  | ⟨1, _⟩ => show 0 + 1 * a.val = a.val; omega
  | ⟨2, _⟩ => show 0 + 1 * n.val = n.val; omega

theorem chunkRow_lt (c : Dev nD) (a : Fin 128) : 128 * c.val + a.val < 1024 := by have : c.val < 8 := c.isLt; omega

theorem ownV_apply (c : Dev nD) (a : Fin 128) (n : Fin 1024) :
    (ownV m c (ix2 a n) : EReal) = partE m c (ix2 ⟨128 * c.val + a.val, chunkRow_lt c a⟩ n) := by
  unfold ownV
  refine congrArg (partE m c) ?_
  funext b; apply Fin.ext
  match b with
  | ⟨0, _⟩ => show 128 * c.val + 1 * a.val = _; show _ = 128 * c.val + a.val; omega
  | ⟨1, _⟩ => show 0 + 1 * n.val = n.val; omega

theorem rsV_apply (c p : Dev nD) (a : Fin 128) (n : Fin 1024) :
    (rsV m c (ix3 p a n) : EReal) = partE m p (ix2 ⟨128 * c.val + a.val, chunkRow_lt c a⟩ n) := rfl

theorem word2_val : ∀ c p : Dev nD, Scalar.cmpi .eq (word2 c) (BitVec.ofNat 32 p.val) = if c = p then 1#1 else 0#1 := by
  decide +kernel

/-- Each term of the sum: the device's own rows or the slab that holds them, the same numbers. -/
theorem pick_apply (c p : Dev nD) (a : Fin 128) (n : Fin 1024) :
    (Scalar.select (Scalar.cmpi .eq (word2 c) (BitVec.ofNat 32 p.val)) (ownV m c (ix2 a n)) (slR p (rsV m c) (ix3 0 a n)) : EReal)
      = partE m p (ix2 ⟨128 * c.val + a.val, chunkRow_lt c a⟩ n) := by
  rw [word2_val, slR_apply, rsV_apply, ownV_apply]
  by_cases h : c = p
  · subst h; rw [if_pos rfl]; rfl
  · rw [if_neg h]; rfl

theorem select_at {α β : Type} (b : BitVec 1) (f g : α → β) (x : α) : Scalar.select b f g x = Scalar.select b (f x) (g x) := by
  unfold Scalar.select; split <;> rfl

theorem pay83_apply (w : BitVec 32) (o : Vec Ideal S128x1024 .bf16) (s0 s1 s2 s3 s4 : Vec Ideal S1x128x1024 .bf16) (a : Fin 128) (n : Fin 1024) :
    (k0_pay83 w o s0 s1 s2 s3 s4 (ix2 a n) : EReal)
      = ((((0 + Scalar.select (Scalar.cmpi .eq w 0#32) (o (ix2 a n)) (s0 (ix3 0 a n)) : EReal)
          + Scalar.select (Scalar.cmpi .eq w 1#32) (o (ix2 a n)) (s1 (ix3 0 a n)))
          + Scalar.select (Scalar.cmpi .eq w 2#32) (o (ix2 a n)) (s2 (ix3 0 a n)))
          + Scalar.select (Scalar.cmpi .eq w 3#32) (o (ix2 a n)) (s3 (ix3 0 a n)))
          + Scalar.select (Scalar.cmpi .eq w 4#32) (o (ix2 a n)) (s4 (ix3 0 a n)) := by
  pointwise [k0_pay83, select_at]

theorem pay84_apply (w : BitVec 32) (o : Vec Ideal S128x1024 .bf16) (u : FVec Ideal S128x1024 .f32) (b : BitVec 1)
    (s5 s6 s7 : Vec Ideal S1x128x1024 .bf16) (a : Fin 128) (n : Fin 1024) :
    (k0_pay84 w o u b s5 s6 s7 (ix2 a n) : EReal)
      = ((u (ix2 a n) + Scalar.select b (o (ix2 a n)) (s5 (ix3 0 a n)) : EReal)
          + Scalar.select (Scalar.cmpi .eq w 6#32) (o (ix2 a n)) (s6 (ix3 0 a n)))
          + Scalar.select (Scalar.cmpi .eq w 7#32) (o (ix2 a n)) (s7 (ix3 0 a n)) := by
  pointwise [k0_pay84, select_at]

theorem pay85_apply (w : BitVec 32) (o : Vec Ideal S128x1024 .bf16) (u : FVec Ideal S128x1024 .f32) (b : BitVec 1)
    (s5 s6 s7 : Vec Ideal S1x128x1024 .bf16) (a : Fin 128) (n : Fin 1024) :
    (k0_pay85 w o u b s5 s6 s7 (ix2 a n) : EReal) = (k0_pay84 w o u b s5 s6 s7 (ix2 a n) : EReal) := by
  pointwise [k0_pay85]

/-- The rows device `c` reduces: the eight parts summed. -/
theorem red32_apply (c : Dev nD) (a : Fin 128) (n : Fin 1024) :
    (red32 m c (ix2 a n) : EReal) = ∑ p : Fin 8, partE m p (ix2 ⟨128 * c.val + a.val, chunkRow_lt c a⟩ n) := by
  unfold red32 red32F
  rw [pay84_apply, pay83_apply, Fin.sum_univ_eight, zero_add]
  have e := fun p : Dev nD => pick_apply m c p a n
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  exacts [e 0, e 1, e 2, e 3, e 4, e 5, e 6, e 7]

theorem red16_apply (c : Dev nD) (a : Fin 128) (n : Fin 1024) :
    (red16 m c (ix2 a n) : EReal) = (red32 m c (ix2 a n) : EReal) := by
  unfold red16 red16F red32 red32F
  exact pay85_apply _ _ _ _ _ _ _ _ _

/-- **The kernel's result on any device at (i, n)**: the sum of the eight devices' parts. -/
theorem outV_apply (c : Dev nD) (i n : Fin 1024) :
    (outV m c (ix2 i n) : EReal) = ∑ p : Fin 8, partE m p (ix2 i n) := by
  have hq : ∀ q : Dev nD, q.val = i.val / 128 →
      (red32 m q (ix2 ⟨i.val % 128, by omega⟩ n) : EReal) = ∑ p : Fin 8, partE m p (ix2 i n) := fun q hq => by
    rw [red32_apply]
    have hi : 128 * q.val + i.val % 128 = i.val := by omega
    simp only [hi]
  by_cases h : i.val / 128 = c.val
  · refine Eq.trans ?_ (hq c h.symm)
    unfold outV
    exact if_pos h
  · have hl : i.val / 128 < 8 := by omega
    refine Eq.trans ?_ (hq ⟨i.val / 128, hl⟩ rfl)
    rw [← red16_apply]
    unfold outV
    refine (if_neg h).trans ?_
    exact (pay86_apply _ _ _).trans (slB_apply _ _ _ _)

/-! ## The result array after the run -/

theorem final_out (ρ : Dev nD → PrngReg) (c : Dev nD) : finalA m ρ c 3 = outV m c :=
  (dats m ρ 0 c).arrAt_eq_of_cover 3 (outV m c)
    (fun t _ => by
      have ht : t = (0 : Fin 1) := Subsingleton.elim (α := Fin 1) _ _
      subst ht
      funext x
      refine congrArg (outV m c) ?_
      funext b; apply Fin.ext
      match b with
      | ⟨0, _⟩ => show (x 0).val = 0 + 1 * (x 0).val; omega
      | ⟨1, _⟩ => show (x 1).val = 0 + 1 * (x 1).val; omega)
    (fun i => ⟨(0 : Fin 1), flush0_3 _, by
      show i ∈ ((View.whole main_v1).slice (win0_3.rect (0 : Fin 1))).set
      rw [View.set_slice_whole, Rect.mem_set_unit]
      intro a
      have h0 : (i 0 : Nat) < 1024 := (i 0).isLt
      have h1 : (i 1 : Nat) < 1024 := (i 1).isLt
      match a with
      | ⟨0, _⟩ => exact ⟨Nat.zero_le _, h0⟩
      | ⟨1, _⟩ => exact ⟨Nat.zero_le _, h1⟩⟩)

end Cert.KernelRun
-- ==== Proof.RefRead.lean ====
/-
  The reference's result, read at an index: the projection of the attention output, whose entry is a
  masked softmax row applied to the values.
-/
module

public import proofs.«01_k».proof.Proof.Gen.ReferenceIdeal
public import proofs.«01_k».proof.Proof.Gen.ReferenceIdeal.Run
public import Idealize.ShloMosaic.Lib.Pointwise
public import Idealize.ShloMosaic.Lib.Tactic
public import proofs.«01_k».proof.Proof.RowMath

@[expose] public section

noncomputable section

namespace Cert.RefRead

open Cert.ReferenceIdeal Cert.ReferenceIdeal.Gen

open Idealize.ShloMosaic
open Idealize.ShloMosaic.TcCoe
open Idealize.SL.Sem
open Cert.RowMath

/-! ## The reference's intermediate arrays, named -/

/-- Which keys lie within 128 of a query row. -/
def nearA : IVec S1024x1024 1 :=
  cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))

/-- Whether a row has any such key. -/
def keepA : IVec S1024 1 :=
  Host.reduce IntOp.ori nearA (constantI S_ 1 0#1) reducesTo_S1024x1024_S1024_d1 h_S_

/-- The queries. -/
def qryA (a0 : FVec Ideal S1024x1024 .f32) (a1 : FVec Ideal S1024x8192 .f32) : FVec Ideal S1x1024x8192 .f32 :=
  Host.dotGeneral dot_S1x1024x1024_S1024x8192_S1x1024x8192_2_0_01_1_n_n none (broadcastInDim S1x1024x1024 ![1, 2] bcast_S1024x1024_S1x1024x1024_1_2 a0) a1

/-- The scores, before the mask. -/
def rawA (q : FVec Ideal S1x1024x8192 .f32) (a2 : FVec Ideal S1024x8192 .f32) : FVec Ideal S1x64x1024x1024 .f32 :=
  mulf (Host.dotGeneral dot_S1x1024x64x128_S1x1024x64x128_S1x64x1024x1024_3_3_1_1_02_02 none (shapeCast _ q shapeCasts_S1x1024x8192_S1x1024x64x128) (shapeCast _ a2 shapeCasts_S1024x8192_S1x1024x64x128)) (broadcastInDim S1x64x1024x1024 ![] bcast_S_S1x64x1024x1024 (constant S_ .f32 0x3DB504F3#32))

/-- The masked scores. -/
def scoA (s : FVec Ideal S1x64x1024x1024 .f32) : FVec Ideal S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 nearA)) s (broadcastInDim S1x64x1024x1024 ![] bcast_S_S1x64x1024x1024 (id (constant S_ .f32 0xFF800000#32)))

/-- Each row's largest score. -/
def topA (s : FVec Ideal S1x64x1024x1024 .f32) : FVec Ideal S1x64x1024 .f32 :=
  Host.reduce FloatOps.maximumf s (constant S_ .f32 0xFF800000#32) reducesTo_S1x64x1024x1024_S1x64x1024_d3 h_S_

/-- The exponentials of the scores less the row's largest. -/
def expA (s : FVec Ideal S1x64x1024x1024 .f32) (t : FVec Ideal S1x64x1024 .f32) : FVec Ideal S1x64x1024x1024 .f32 :=
  Host.exp (subf s (broadcastInDim S1x64x1024x1024 ![0, 1, 2, 3] bcast_S1x64x1024x1_S1x64x1024x1024_0_1_2_3 (broadcastInDim S1x64x1024x1 ![0, 1, 2] bcast_S1x64x1024_S1x64x1024x1_0_1_2 t)))

/-- The divisor of a row. -/
def divA (e : FVec Ideal S1x64x1024x1024 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 keepA)) (broadcastInDim S1x64x1024x1 ![0, 1, 2] bcast_S1x64x1024_S1x64x1024x1_0_1_2 (Host.reduceAdd e (constant S_ .f32 0x00000000#32) reducesTo_S1x64x1024x1024_S1x64x1024_d3 h_S_)) (broadcastInDim S1x64x1024x1 ![] bcast_S_S1x64x1024x1 (id (constant S_ .f32 0x3F800000#32)))

/-- The attention weights. -/
def wgtA (e : FVec Ideal S1x64x1024x1024 .f32) : FVec Ideal S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 keepA)) (Host.divf e (broadcastInDim S1x64x1024x1024 ![0, 1, 2, 3] bcast_S1x64x1024x1_S1x64x1024x1024_0_1_2_3 (divA e))) (broadcastInDim S1x64x1024x1024 ![] bcast_S_S1x64x1024x1024 (id (constant S_ .f32 0x00000000#32)))

/-- The attention output, heads side by side. -/
def ctxA (w : FVec Ideal S1x64x1024x1024 .f32) (a3 : FVec Ideal S1024x8192 .f32) : FVec Ideal S1x1024x8192 .f32 :=
  shapeCast _ (transpose S1x1024x64x128 [0, 3, 1, 2] (Host.dotGeneral dot_S1x1024x64x128_S1x64x1024x1024_S1x64x128x1024_1_3_3_2_02_01 none (shapeCast _ a3 shapeCasts_S1024x8192_S1x1024x64x128) w) transposes_S1x64x128x1024_S1x1024x64x128_0_3_1_2) shapeCasts_S1x1024x64x128_S1x1024x8192

/-- The projected result. -/
def outA (c : FVec Ideal S1x1024x8192 .f32) (a4 : FVec Ideal S8192x1024 .f32) : FVec Ideal S1024x1024 .f32 :=
  shapeCast _ (Host.dotGeneral dot_S1x1024x8192_S8192x1024_S1x1024x1024_2_0_01_1_n_n none c a4) shapeCasts_S1x1024x1024_S1024x1024

def allA (a0 : FVec Ideal S1024x1024 .f32) (a1 a2 a3 : FVec Ideal S1024x8192 .f32) (a4 : FVec Ideal S8192x1024 .f32) :
    FVec Ideal S1024x1024 .f32 :=
  outA (ctxA (wgtA (expA (scoA (rawA (qryA a0 a1) a2)) (topA (scoA (rawA (qryA a0 a1) a2))))) a3) a4

theorem res_eq (m : (ℓ : Loc nD τ sig) → Buf (Elt Ideal) ℓ) (c : Dev nD) :
    Cert.ReferenceIdeal.Value.res_main_v38 m c
      = allA (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.Value.res_main_v38
  rfl

/-! ## Each of them at an index -/

theorem qryA_apply (a0 : FVec Ideal S1024x1024 .f32) (a1 : FVec Ideal S1024x8192 .f32) (i : Fin 1024) (n : Fin 8192) :
    qryA a0 a1 (ix3 0 i n) = ∑ t : Fin 1024, a0 (ix2 i t) * a1 (ix2 t n) := by
  pointwise [qryA]

theorem outA_apply (c : FVec Ideal S1x1024x8192 .f32) (a4 : FVec Ideal S8192x1024 .f32) (i n : Fin 1024) :
    outA c a4 (ix2 i n) = ∑ k : Fin 8192, c (ix3 0 i k) * a4 (ix2 k n) := by
  pointwise [outA]

theorem rawA_apply (q : FVec Ideal S1x1024x8192 .f32) (a2 : FVec Ideal S1024x8192 .f32) (h : Fin 64) (i j : Fin 1024) :
    rawA q a2 (ix4 0 h i j) = (∑ d : Fin 128, q (ix3 0 i ⟨h.val * 128 + d.val, by omega⟩) * a2 (ix2 j ⟨h.val * 128 + d.val, by omega⟩))
      * Ideal.ofBits .f32 0x3DB504F3#32 := by
  pointwise [rawA]

theorem expA_apply (s : FVec Ideal S1x64x1024x1024 .f32) (t : FVec Ideal S1x64x1024 .f32) (h : Fin 64) (i j : Fin 1024) :
    expA s t (ix4 0 h i j) = Ideal.exp (s (ix4 0 h i j) - t (ix3 0 h i)) := by
  pointwise [expA]

theorem topA_apply (s : FVec Ideal S1x64x1024x1024 .f32) (h : Fin 64) (i : Fin 1024) :
    topA s (ix3 0 h i) = (Finset.univ : Finset (Fin 1024)).fold max (Ideal.ofBits .f32 0xFF800000#32) (fun j => s (ix4 0 h i j)) := by
  pointwise [topA]

theorem ctxA_apply (w : FVec Ideal S1x64x1024x1024 .f32) (a3 : FVec Ideal S1024x8192 .f32) (i : Fin 1024) (k : Fin 8192) :
    ctxA w a3 (ix3 0 i k) = ∑ j : Fin 1024, a3 (ix2 j k) * w (ix4 0 ⟨k.val / 128, by omega⟩ i j) := by
  pointwise [ctxA]

theorem keepA_apply (i : Fin 1024) :
    keepA (ix1 i) = (Finset.univ : Finset (Fin 1024)).fold IntOp.ori 0#1 (fun j => nearA (ix2 i j)) := by
  pointwise [keepA]

theorem nearA_apply (i j : Fin 1024) : nearA (ix2 i j) = 1#1 ↔ near i.val j.val := by
  rw [← near_word i.isLt j.isLt]
  pointwise [nearA]

theorem keepA_one (i : Fin 1024) : keepA (ix1 i) = 1#1 := by
  rw [keepA_apply]
  exact fold_ori _ _ i (Finset.mem_univ _) ((nearA_apply i i).mpr (by unfold near; omega))

theorem scoA_apply (s : FVec Ideal S1x64x1024x1024 .f32) (h : Fin 64) (i j : Fin 1024) :
    scoA s (ix4 0 h i j) = if near i.val j.val then s (ix4 0 h i j) else ⊥ := by
  have e : scoA s (ix4 0 h i j) = Scalar.select (nearA (ix2 i j)) (s (ix4 0 h i j)) (Ideal.ofBits .f32 0xFF800000#32) := by
    pointwise [scoA]; rfl
  rw [e, ofBits_neg_inf]
  exact if_congr (nearA_apply i j) rfl rfl

theorem divA_apply (e : FVec Ideal S1x64x1024x1024 .f32) (h : Fin 64) (i : Fin 1024) :
    divA e (ix4 0 h i 0) = ∑ j : Fin 1024, e (ix4 0 h i j) := by
  have e' : divA e (ix4 0 h i 0) = Scalar.select (keepA (ix1 i)) (∑ j : Fin 1024, e (ix4 0 h i j))
      (id (constant (F := Ideal) S_ FTy.f32 0x3F800000#32) ix0) := by pointwise [divA]
  rw [e', keepA_one]
  exact if_pos rfl

theorem wgtA_apply (e : FVec Ideal S1x64x1024x1024 .f32) (h : Fin 64) (i j : Fin 1024) :
    wgtA e (ix4 0 h i j) = Ideal.div (e (ix4 0 h i j)) (∑ j' : Fin 1024, e (ix4 0 h i j')) := by
  rw [← divA_apply]
  have e' : wgtA e (ix4 0 h i j) = Scalar.select (keepA (ix1 i)) (Ideal.div (e (ix4 0 h i j)) (divA e (ix4 0 h i 0)))
      (id (constant (F := Ideal) S_ FTy.f32 0x00000000#32) ix0) := by pointwise [wgtA]
  rw [e', keepA_one]
  exact if_pos rfl

/-- The query of row `i` at column `n`. -/
def qry (a0 : FVec Ideal S1024x1024 .f32) (a1 : FVec Ideal S1024x8192 .f32) (i : Fin 1024) (n : Fin 8192) : EReal :=
  ∑ t : Fin 1024, a0 (ix2 i t) * a1 (ix2 t n)

/-- The score of row `i` against key `j` under head `h`. -/
def sco (a0 : FVec Ideal S1024x1024 .f32) (a1 a2 : FVec Ideal S1024x8192 .f32) (h : Fin 64) (i j : Fin 1024) : EReal :=
  (∑ d : Fin 128, qry a0 a1 i ⟨h.val * 128 + d.val, by omega⟩ * a2 (ix2 j ⟨h.val * 128 + d.val, by omega⟩))
    * Ideal.ofBits .f32 0x3DB504F3#32

/-- **The reference's result at (i, n)**: the attention rows of all 64 heads, projected. -/
theorem allA_apply (a0 : FVec Ideal S1024x1024 .f32) (a1 a2 a3 : FVec Ideal S1024x8192 .f32) (a4 : FVec Ideal S8192x1024 .f32)
    (i n : Fin 1024) :
    allA a0 a1 a2 a3 a4 (ix2 i n)
      = ∑ k : Fin 8192, refRow (fun j : Fin 1024 => if near i.val j.val then sco a0 a1 a2 ⟨k.val / 128, by omega⟩ i j else ⊥)
          (fun j => a3 (ix2 j k)) * a4 (ix2 k n) := by
  unfold allA
  rw [outA_apply]
  refine Finset.sum_congr rfl fun k _ => ?_
  rw [ctxA_apply]
  unfold refRow
  simp only [wgtA_apply, expA_apply, topA_apply, scoA_apply, rawA_apply, qryA_apply, ofBits_neg_inf, sco, qry]

end Cert.RefRead
-- ==== Proof.Algebraic.lean ====
/-
  The two results compared: at real scores the kernel's result on every device is the reference's.
-/
module

public import proofs.«01_k».proof.Defs
public import proofs.«01_k».proof.Proof.Frames
public import proofs.«01_k».proof.Proof.KernelRead
public import proofs.«01_k».proof.Proof.RefRead
public import proofs.«01_k».proof.Proof.Gen.Pre_scores_finite_KernelIdeal
public import proofs.«01_k».proof.Proof.Gen.Pre_scores_finite_ReferenceIdeal
public import Idealize.ShloMosaic.Lib.ReduceAll
public import Idealize.ShloMosaic.Lib.Layout

@[expose] public section

noncomputable section

namespace Cert.KernelRun

open Cert.KernelIdeal Cert.KernelIdeal.Gen

open Idealize.ShloMosaic Idealize.ShloMosaic.TcCoe Idealize.SL.Sem
open Cert.RowMath

variable (m : (ℓ : Loc nD τ sig) → Buf (Elt Ideal) ℓ)

/-! ## The precondition, read element by element -/

/-- An extended real whose absolute value is below infinity is real. -/
theorem real_of_abs (x : EReal) (h : FloatOps.cmpf (F := Ideal) (φ := .f32) .olt (max x (-x)) (Ideal.ofBits .f32 0x7F800000#32) = 1#1) :
    ∃ r : ℝ, x = r := by
  induction x using EReal.rec with
  | coe r => exact ⟨r, rfl⟩
  | bot => exfalso; revert h; show ¬ Ideal.cmp .olt _ _ = 1#1; simp [Ideal.ofBits, Ideal.ieee, Ideal.cmp]
  | top => exfalso; revert h; show ¬ Ideal.cmp .olt _ _ = 1#1; simp [Ideal.ofBits, Ideal.ieee, Ideal.cmp]

theorem pre_real (h : Cert.Pre_KernelIdeal_scores_finite_KernelIdeal m) (c : Dev nD) :
    (∀ i, ∃ r : ℝ, argX m c i = r) ∧ (∀ i, ∃ r : ℝ, argQ m c i = r) ∧ (∀ i, ∃ r : ℝ, argK m c i = r) := by
  have e := congrFun (h c) ix0
  obtain ⟨e12, e3⟩ := IntOp.andi_eq_one.1 e
  obtain ⟨e1, e2⟩ := IntOp.andi_eq_one.1 e12
  haveI : Subsingleton (Cert.Pre_scores_finite_KernelIdeal.S_).Idx := ⟨fun a b => funext fun i => i.elim0⟩
  exact ⟨fun i => real_of_abs _ (Host.reduce_andi_all _ _ _ _ _ e1 i), fun i => real_of_abs _ (Host.reduce_andi_all _ _ _ _ _ e2 i),
    fun i => real_of_abs _ (Host.reduce_andi_all _ _ _ _ _ e3 i)⟩

/-- Every score is then real. -/
theorem score_real (h : Cert.Pre_KernelIdeal_scores_finite_KernelIdeal m) (c : Dev nD) (hd : Fin 8) (i j : Fin 1024) :
    ∃ r : ℝ, scoK m c hd i j = r := by
  obtain ⟨hx, hq, hk⟩ := pre_real m h c
  unfold scoK qryK
  exact mul_real (sum_real _ _ fun e _ => mul_real (sum_real _ _ fun t _ => mul_real (hx _) (hq _)) (hk _)) scale_real

/-! ## The two results -/

theorem block_apply' (c : Dev nD) (v : S1024x8192.Idx → EReal) (i n : Fin 1024) :
    (Layout.block ⟨2, ![1024, 1024]⟩ ⟨2, ![1024, 8192]⟩ 1 8 c v : S1024x1024.Idx → EReal) (ix2 i n)
      = v (ix2 i ⟨c.val * 1024 + n.val, by have : c.val < 8 := c.isLt; omega⟩) := by
  rw [Layout.block_apply]
  refine congrArg v ?_
  funext b; apply Fin.ext
  match b with
  | ⟨0, _⟩ => rfl
  | ⟨1, _⟩ => rfl

/-- The window of a tile holds every key within 128 of the tile's rows. -/
theorem window_all (c : Dev nD) (r : Fin 4) (i j : Fin 1024) (hr : tileOf c r = i.val / 256) (h : near i.val j.val) :
    j ∈ Set.range (fun w : Fin 512 => (⟨kst c r + w.val, kst_lt c r w⟩ : Fin 1024)) := by
  unfold near at h
  have h1 : kst c r ≤ j.val ∧ j.val < kst c r + 512 := by
    unfold kst; rw [hr]; omega
  exact ⟨⟨j.val - kst c r, by omega⟩, Fin.ext (by show kst c r + (j.val - kst c r) = j.val; omega)⟩

variable (a0 : S1024x1024.Idx → EReal) (a1 a2 a3 : S1024x8192.Idx → EReal) (a4 : S8192x1024.Idx → EReal)

theorem score_eq (c : Dev nD) (h0 : argX m c = a0) (h1 : argQ m c = a1)
    (h2 : argK m c = Layout.block ⟨2, ![1024, 1024]⟩ ⟨2, ![1024, 8192]⟩ 1 8 c a2) (k : Fin 1024) (i j : Fin 1024) :
    scoK m c ⟨k.val / 128, by omega⟩ i j
      = Cert.RefRead.sco a0 a1 a2 ⟨(c.val * 1024 + k.val) / 128, by have : c.val < 8 := c.isLt; omega⟩ i j := by
  unfold scoK Cert.RefRead.sco
  refine congrArg (· * Ideal.ofBits .f32 0x3DB504F3#32) (Finset.sum_congr rfl fun e _ => ?_)
  have hc : c.val < 8 := c.isLt
  have he : ∀ (p : _) (q : _), (⟨c.val * 1024 + (k.val / 128 * 128 + e.val), p⟩ : Fin 8192)
      = ⟨(c.val * 1024 + k.val) / 128 * 128 + e.val, q⟩ := fun p q => Fin.ext (by show _ = _; dsimp only; omega)
  refine congrArg₂ (· * ·) ?_ ?_
  · unfold qryK Cert.RefRead.qry
    rw [h0, h1]
    exact Finset.sum_congr rfl fun t _ => congrArg (fun z => a0 (ix2 i t) * a1 (ix2 t z)) (he _ _)
  · rw [h2, block_apply']
    exact congrArg (fun z => a2 (ix2 j z)) (he _ _)

/-- **The kernel's result on every device is the reference's.** -/
theorem value_eq (h : Cert.Pre_KernelIdeal_scores_finite_KernelIdeal m)
    (hm : ∀ c : Dev nD, argX m c = a0 ∧ argQ m c = a1 ∧ argK m c = Layout.block ⟨2, ![1024, 1024]⟩ ⟨2, ![1024, 8192]⟩ 1 8 c a2
      ∧ argV m c = Layout.block ⟨2, ![1024, 1024]⟩ ⟨2, ![1024, 8192]⟩ 1 8 c a3 ∧ argO m c = a4) (c : Dev nD) :
    (outV m c : S1024x1024.Idx → EReal) = Cert.RefRead.allA a0 a1 a2 a3 a4 := by
  funext x
  obtain ⟨i, n, rfl⟩ : ∃ i n : Fin 1024, x = ix2 i n := ⟨x 0, x 1, by funext b; match b with | ⟨0, _⟩ => rfl | ⟨1, _⟩ => rfl⟩
  have all : (∑ p : Fin 8, partE m p (ix2 i n)) = Cert.RefRead.allA a0 a1 a2 a3 a4 (ix2 i n) := by
    rw [Cert.RefRead.allA_apply]
    rw [Fin.sum_univ_tiles 8 1024 rfl]
    refine Finset.sum_congr rfl fun p _ => (pV_apply m p i n).trans ?_
    obtain ⟨h0, h1, h2, h3, h4⟩ := hm p
    refine Finset.sum_congr rfl fun k _ => ?_
    rw [h4]
    refine congrArg (· * a4 _) ?_
    obtain ⟨r, hr, e⟩ := ctxV_apply m p i k
    rw [e]
    choose s hs using score_real m h p ⟨k.val / 128, by omega⟩ i
    have key := row_eq (fun j : Fin 1024 => near i.val j.val) s (fun j => argV m p (ix2 j k))
      (fun w : Fin 512 => (⟨kst p r + w.val, kst_lt p r w⟩ : Fin 1024))
      (fun u w huw => Fin.ext (by have := congrArg Fin.val huw; dsimp only at this; omega))
      (fun j hj => window_all p r i j hr hj) i (by unfold near; omega)
    refine Eq.trans ?_ (key.trans ?_)
    · refine congrArg (fun f => kerRow f _) (funext fun w => ?_)
      exact if_congr Iff.rfl (hs _) rfl
    · refine congrArg₂ refRow (funext fun j => ?_) (funext fun j => ?_)
      · refine if_congr Iff.rfl ?_ rfl
        rw [← hs j]
        exact score_eq m a0 a1 a2 p h0 h1 h2 k i j
      · rw [h3, block_apply']
  exact (outV_apply m c i n).trans all

theorem algebraic : Cert.algebraic_KernelIdeal_ReferenceIdeal_pre_scores_finite_KernelIdeal := by
  intro m g m' g' hpre hm
  refine ⟨Cert.ReferenceIdeal.Value.res_main_v38 m' 0, ?_, ?_⟩
  · refine (θ_run defs _ _).mono (fun r hr c => ⟨?_, args_kept m g hr.1 c⟩) (run_main (F := Ideal) m g)
    refine ((hr.1 c).1 3).trans ((final_out m g c).trans ?_)
    exact (value_eq m _ _ _ _ _ hpre hm c).trans (Cert.RefRead.res_eq m' 0).symm
  · exact (θ_run Cert.ReferenceIdeal.defs _ _).mono (fun r h => h 0) (Cert.ReferenceIdeal.Value.run (F := Ideal) m' g')

/-! ## The frames under the precondition -/

theorem frame_pi_pre : Cert.quiescent_KernelIdeal_pre_scores_finite_KernelIdeal := fun m ρ _ => frame_pi m ρ trivial
theorem frame_ri_pre : Cert.quiescent_ReferenceIdeal_pre_scores_finite_ReferenceIdeal := fun m ρ _ => frame_ri m ρ trivial

end Cert.KernelRun
-- ==== Proof.lean ====
/- The proof of the certificate's claims: the kernel's run on all devices (Proof/LaunchRun.lean) read at the machine's floats and
   at the extended reals (Proof/Frames.lean), the reference's run, and the two results compared (Proof/Algebraic.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_scores_finite_KernelIdeal.Gen.facts, Cert.Pre_scores_finite_ReferenceIdeal.Gen.facts,
    Cert.KernelRun.frame_p, Cert.KernelRun.frame_pi, Cert.KernelRun.frame_pi_pre, Cert.KernelRun.frame_ri,
    Cert.KernelRun.frame_ri_pre, Cert.KernelRun.preserves, Cert.KernelRun.algebraic⟩

end Cert.Proof

end
